-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "scale_log2e" .f32 0x3E8293EE#32 (((Real.sqrt 32)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2048x256 : Shape := ⟨3, ![8, 2048, 256]⟩
abbrev S4x32 : Shape := ⟨2, ![4, 32]⟩
abbrev S64 : Shape := ⟨1, ![64]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  main_v18

def fn {F : FTy → Type} [FloatOps F] (main_arg0 : FVec F S8x2048x256 .f32) (main_arg1 : FVec F S8x2048x256 .f32) (main_arg2 : FVec F S8x2048x256 .f32) (main_arg3 : FVec F S4x32 .f32) (main_arg4 : FVec F S64 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_v13 main_v16
-- ==== Kernel.lean ====
abbrev S8x2048x256 : Shape := ⟨3, ![8, 2048, 256]⟩
abbrev S4x32 : Shape := ⟨2, ![4, 32]⟩
abbrev S64 : Shape := ⟨1, ![64]⟩
abbrev S8x2048x4x64 : Shape := ⟨4, ![8, 2048, 4, 64]⟩
abbrev S8x4x2048x64 : Shape := ⟨4, ![8, 4, 2048, 64]⟩
abbrev S8x8x256x4x64 : Shape := ⟨5, ![8, 8, 256, 4, 64]⟩
abbrev S8x4x8x64x256 : Shape := ⟨5, ![8, 4, 8, 64, 256]⟩
abbrev S64x1 : Shape := ⟨2, ![64, 1]⟩
abbrev S64x256 : Shape := ⟨2, ![64, 256]⟩
abbrev S1x4x256x64 : Shape := ⟨4, ![1, 4, 256, 64]⟩
abbrev S1x4x2048x64 : Shape := ⟨4, ![1, 4, 2048, 64]⟩
abbrev S1x4x8x64x256 : Shape := ⟨5, ![1, 4, 8, 64, 256]⟩
abbrev S1x256x256 : Shape := ⟨3, ![1, 256, 256]⟩
abbrev S2048x64 : Shape := ⟨2, ![2048, 64]⟩
abbrev S256x256 : Shape := ⟨2, ![256, 256]⟩
abbrev S8x1x256 : Shape := ⟨3, ![8, 1, 256]⟩
abbrev S8x80x256 : Shape := ⟨3, ![8, 80, 256]⟩
abbrev S1x32 : Shape := ⟨2, ![1, 32]⟩
abbrev S1 : Shape := ⟨1, ![1]⟩
abbrev S1x1 : Shape := ⟨2, ![1, 1]⟩
abbrev S1x64 : Shape := ⟨2, ![1, 64]⟩
abbrev S1x1x256x64 : Shape := ⟨4, ![1, 1, 256, 64]⟩
abbrev S256x64 : Shape := ⟨2, ![256, 64]⟩
abbrev S1x1x1x64x256 : Shape := ⟨5, ![1, 1, 1, 64, 256]⟩
abbrev S16x256 : Shape := ⟨2, ![16, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S80x256 : Shape := ⟨2, ![80, 256]⟩
abbrev S1x64x256 : Shape := ⟨3, ![1, 64, 256]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S4x32, .f32⟩
  | .hbm, ⟨4, _⟩ => ⟨S64, .f32⟩
  | .hbm, ⟨5, _⟩ => ⟨S8x2048x4x64, .f32⟩
  | .hbm, ⟨6, _⟩ => ⟨S8x4x2048x64, .f32⟩
  | .hbm, ⟨7, _⟩ => ⟨S8x2048x4x64, .f32⟩
  | .hbm, ⟨8, _⟩ => ⟨S8x4x2048x64, .f32⟩
  | .hbm, ⟨9, _⟩ => ⟨S8x4x2048x64, .bf16⟩
  | .hbm, ⟨10, _⟩ => ⟨S8x8x256x4x64, .f32⟩
  | .hbm, ⟨11, _⟩ => ⟨S8x4x8x64x256, .f32⟩
  | .hbm, ⟨12, _⟩ => ⟨S8x4x8x64x256, .bf16⟩
  | .hbm, ⟨13, _⟩ => ⟨S64x1, .f32⟩
  | .hbm, ⟨14, _⟩ => ⟨S64x256, .f32⟩
  | .hbm, ⟨15, _⟩ => ⟨S8x2048x256, .bf16⟩
  | .local _ .vmem, ⟨0, _⟩ => ⟨S1x4x256x64, .f32⟩
  | .local _ .vmem, ⟨1, _⟩ => ⟨S1x4x256x64, .f32⟩
  | .local _ .vmem, ⟨2, _⟩ => ⟨S1x4x2048x64, .bf16⟩
  | .local _ .vmem, ⟨3, _⟩ => ⟨S1x4x2048x64, .bf16⟩
  | .local _ .vmem, ⟨4, _⟩ => ⟨S1x4x8x64x256, .bf16⟩
  | .local _ .vmem, ⟨5, _⟩ => ⟨S1x4x8x64x256, .bf16⟩
  | .local _ .vmem, ⟨6, _⟩ => ⟨S4x32, .f32⟩
  | .local _ .vmem, ⟨7, _⟩ => ⟨S64x256, .f32⟩
  | .local _ .vmem, ⟨8, _⟩ => ⟨S1x256x256, .bf16⟩
  | .local _ .vmem, ⟨9, _⟩ => ⟨S1x256x256, .bf16⟩
  | .local _ .vmem, ⟨10, _⟩ => ⟨S2048x64, .bf16⟩
  | .local _ .vmem, ⟨11, _⟩ => ⟨S256x256, .f32⟩
  | .local _ .vmem, ⟨12, _⟩ => ⟨S8x1x256, .f32⟩
  | .local _ .vmem, ⟨13, _⟩ => ⟨S8x80x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_54 : BitVec 32 := 1#32
  ⟨c0_i32_52, v127, c1_i32_54⟩
def k0_mult1 (i : grid0.Coords) (k0_t1 : Fin (k0_t1_loop i).trips) : BitVec 32 :=
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let c256_i32 : BitVec 32 := 256#32
  let v297 : BitVec 32 := Scalar.muli v296 c256_i32
  v297
def k0_off1 (i : grid0.Coords) (k0_t1 : Fin (k0_t1_loop i).trips) : Fin 4 → Nat :=
  let c0_151 : Index := 0#32
  let c0_152 : Index := 0#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let c256_i32 : BitVec 32 := 256#32
  let v297 : BitVec 32 := Scalar.muli v296 c256_i32
  let v298 : BitVec 32 := v297
  let v299 : Index := Scalar.indexCast v298
  let c0_153 : Index := 0#32
  ![0, 0, v299.toNat, 0]
def k0_off2 (i : grid0.Coords) (k0_t1 : Fin (k0_t1_loop i).trips) : Fin 5 → Nat :=
  let c0_154 : Index := 0#32
  let c0_155 : Index := 0#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let v302 : Index := Scalar.indexCast v296
  let c0_156 : Index := 0#32
  let c0_157 : Index := 0#32
  ![0, 0, v302.toNat, 0, 0]
def k0_off3 (i : grid0.Coords) (k0_t1 : Fin (k0_t1_loop i).trips) : Fin 4 → Nat :=
  let c0_158 : Index := 0#32
  let c1_159 : Index := 1#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let c256_i32 : BitVec 32 := 256#32
  let v297 : BitVec 32 := Scalar.muli v296 c256_i32
  let v298 : BitVec 32 := v297
  let v305 : Index := Scalar.indexCast v298
  let c0_160 : Index := 0#32
  ![0, 1, v305.toNat, 0]
def k0_off4 (i : grid0.Coords) (k0_t1 : Fin (k0_t1_loop i).trips) : Fin 5 → Nat :=
  let c0_161 : Index := 0#32
  let c1_162 : Index := 1#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let v308 : Index := Scalar.indexCast v296
  let c0_163 : Index := 0#32
  let c0_164 : Index := 0#32
  ![0, 1, v308.toNat, 0, 0]
def k0_off5 (i : grid0.Coords) (k0_t1 : Fin (k0_t1_loop i).trips) : Fin 4 → Nat :=
  let c0_165 : Index := 0#32
  let c2_166 : Index := 2#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let c256_i32 : BitVec 32 := 256#32
  let v297 : BitVec 32 := Scalar.muli v296 c256_i32
  let v298 : BitVec 32 := v297
  let v311 : Index := Scalar.indexCast v298
  let c0_167 : Index := 0#32
  ![0, 2, v311.toNat, 0]
def k0_off6 (i : grid0.Coords) (k0_t1 : Fin (k0_t1_loop i).trips) : Fin 5 → Nat :=
  let c0_168 : Index := 0#32
  let c2_169 : Index := 2#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let v314 : Index := Scalar.indexCast v296
  let c0_170 : Index := 0#32
  let c0_171 : Index := 0#32
  ![0, 2, v314.toNat, 0, 0]
def k0_off7 (i : grid0.Coords) (k0_t1 : Fin (k0_t1_loop i).trips) : Fin 4 → Nat :=
  let c0_172 : Index := 0#32
  let c3_173 : Index := 3#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let c256_i32 : BitVec 32 := 256#32
  let v297 : BitVec 32 := Scalar.muli v296 c256_i32
  let v298 : BitVec 32 := v297
  let v317 : Index := Scalar.indexCast v298
  let c0_174 : Index := 0#32
  ![0, 3, v317.toNat, 0]
def k0_off8 (i : grid0.Coords) (k0_t1 : Fin (k0_t1_loop i).trips) : Fin 5 → Nat :=
  let c0_175 : Index := 0#32
  let c3_176 : Index := 3#32
  let c2_i32_150 : BitVec 32 := 2#32
  let c0_i32_52 : BitVec 32 := 0#32
  let c1_i32_54 : BitVec 32 := 1#32
  let arg13 : BitVec 32 := Scf.iv c0_i32_52 c1_i32_54 k0_t1
  let v296 : BitVec 32 := Scalar.muli c2_i32_150 arg13
  let v320 : Index := Scalar.indexCast v296
  let c0_177 : Index := 0#32
  let c0_178 : Index := 0#32
  ![0, 3, v320.toNat, 0, 0]
def k0_mult2 (i : grid0.Coords) (k0_t1 : Fin (k0_t1_loop i).trips) : BitVec 32 :=
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  v325
def k0_off9 (i : grid0.Coords) (k0_t1 : Fin (k0_t1_loop i).trips) : Fin 4 → Nat :=
  let c0_182 : Index := 0#32
  let c0_183 : Index := 0#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v327 : Index := Scalar.indexCast v326
  let c0_184 : Index := 0#32
  ![0, 0, v327.toNat, 0]
def k0_off10 (i : grid0.Coords) (k0_t1 : Fin (k0_t1_loop i).trips) : Fin 5 → Nat :=
  let c0_185 : Index := 0#32
  let c0_186 : Index := 0#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let v330 : Index := Scalar.indexCast v324
  let c0_187 : Index := 0#32
  let c0_188 : Index := 0#32
  ![0, 0, v330.toNat, 0, 0]
def k0_off11 (i : grid0.Coords) (k0_t1 : Fin (k0_t1_loop i).trips) : Fin 4 → Nat :=
  let c0_189 : Index := 0#32
  let c1_190 : Index := 1#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v333 : Index := Scalar.indexCast v326
  let c0_191 : Index := 0#32
  ![0, 1, v333.toNat, 0]
def k0_off12 (i : grid0.Coords) (k0_t1 : Fin (k0_t1_loop i).trips) : Fin 5 → Nat :=
  let c0_192 : Index := 0#32
  let c1_193 : Index := 1#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let v336 : Index := Scalar.indexCast v324
  let c0_194 : Index := 0#32
  let c0_195 : Index := 0#32
  ![0, 1, v336.toNat, 0, 0]
def k0_off13 (i : grid0.Coords) (k0_t1 : Fin (k0_t1_loop i).trips) : Fin 4 → Nat :=
  let c0_196 : Index := 0#32
  let c2_197 : Index := 2#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v339 : Index := Scalar.indexCast v326
  let c0_198 : Index := 0#32
  ![0, 2, v339.toNat, 0]
def k0_off14 (i : grid0.Coords) (k0_t1 : Fin (k0_t1_loop i).trips) : Fin 5 → Nat :=
  let c0_199 : Index := 0#32
  let c2_200 : Index := 2#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let v342 : Index := Scalar.indexCast v324
  let c0_201 : Index := 0#32
  let c0_202 : Index := 0#32
  ![0, 2, v342.toNat, 0, 0]
def k0_off15 (i : grid0.Coords) (k0_t1 : Fin (k0_t1_loop i).trips) : Fin 4 → Nat :=
  let c0_203 : Index := 0#32
  let c3_204 : Index := 3#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v345 : Index := Scalar.indexCast v326
  let c0_205 : Index := 0#32
  ![0, 3, v345.toNat, 0]
def k0_off16 (i : grid0.Coords) (k0_t1 : Fin (k0_t1_loop i).trips) : Fin 5 → Nat :=
  let c0_206 : Index := 0#32
  let c3_207 : Index := 3#32
  let c2_i32_179 : BitVec 32 := 2#32
  let c0_i32_52 : BitVec 32 := 0#32
  let c1_i32_54 : BitVec 32 := 1#32
  let arg13 : BitVec 32 := Scf.iv c0_i32_52 c1_i32_54 k0_t1
  let v323 : BitVec 32 := Scalar.muli c2_i32_179 arg13
  let c1_i32_180 : BitVec 32 := 1#32
  let v324 : BitVec 32 := Scalar.addi v323 c1_i32_180
  let v348 : Index := Scalar.indexCast v324
  let c0_208 : Index := 0#32
  let c0_209 : Index := 0#32
  ![0, 3, v348.toNat, 0, 0]
@[reducible] def k0_t2_loop (i : grid0.Coords) : Scf.Loop 32 :=
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let v124 : BitVec 32 := Scalar.addi c0_i32_52 v123
  let c1_i32_55 : BitVec 32 := 1#32
  ⟨v127, v124, c1_i32_55⟩
def k0_mult3 (i : grid0.Coords) (k0_t2 : Fin (k0_t2_loop i).trips) : BitVec 32 :=
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let c256_i32 : BitVec 32 := 256#32
  let v297 : BitVec 32 := Scalar.muli v296 c256_i32
  v297
def k0_off17 (i : grid0.Coords) (k0_t2 : Fin (k0_t2_loop i).trips) : Fin 4 → Nat :=
  let c0_151 : Index := 0#32
  let c0_152 : Index := 0#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let c256_i32 : BitVec 32 := 256#32
  let v297 : BitVec 32 := Scalar.muli v296 c256_i32
  let v298 : BitVec 32 := v297
  let v299 : Index := Scalar.indexCast v298
  let c0_153 : Index := 0#32
  ![0, 0, v299.toNat, 0]
def k0_off18 (i : grid0.Coords) (k0_t2 : Fin (k0_t2_loop i).trips) : Fin 5 → Nat :=
  let c0_154 : Index := 0#32
  let c0_155 : Index := 0#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let v302 : Index := Scalar.indexCast v296
  let c0_156 : Index := 0#32
  let c0_157 : Index := 0#32
  ![0, 0, v302.toNat, 0, 0]
def k0_off19 (i : grid0.Coords) (k0_t2 : Fin (k0_t2_loop i).trips) : Fin 4 → Nat :=
  let c0_158 : Index := 0#32
  let c1_159 : Index := 1#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let c256_i32 : BitVec 32 := 256#32
  let v297 : BitVec 32 := Scalar.muli v296 c256_i32
  let v298 : BitVec 32 := v297
  let v305 : Index := Scalar.indexCast v298
  let c0_160 : Index := 0#32
  ![0, 1, v305.toNat, 0]
def k0_off20 (i : grid0.Coords) (k0_t2 : Fin (k0_t2_loop i).trips) : Fin 5 → Nat :=
  let c0_161 : Index := 0#32
  let c1_162 : Index := 1#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let v308 : Index := Scalar.indexCast v296
  let c0_163 : Index := 0#32
  let c0_164 : Index := 0#32
  ![0, 1, v308.toNat, 0, 0]
def k0_off21 (i : grid0.Coords) (k0_t2 : Fin (k0_t2_loop i).trips) : Fin 4 → Nat :=
  let c0_165 : Index := 0#32
  let c2_166 : Index := 2#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let c256_i32 : BitVec 32 := 256#32
  let v297 : BitVec 32 := Scalar.muli v296 c256_i32
  let v298 : BitVec 32 := v297
  let v311 : Index := Scalar.indexCast v298
  let c0_167 : Index := 0#32
  ![0, 2, v311.toNat, 0]
def k0_off22 (i : grid0.Coords) (k0_t2 : Fin (k0_t2_loop i).trips) : Fin 5 → Nat :=
  let c0_168 : Index := 0#32
  let c2_169 : Index := 2#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let v314 : Index := Scalar.indexCast v296
  let c0_170 : Index := 0#32
  let c0_171 : Index := 0#32
  ![0, 2, v314.toNat, 0, 0]
def k0_off23 (i : grid0.Coords) (k0_t2 : Fin (k0_t2_loop i).trips) : Fin 4 → Nat :=
  let c0_172 : Index := 0#32
  let c3_173 : Index := 3#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let c256_i32 : BitVec 32 := 256#32
  let v297 : BitVec 32 := Scalar.muli v296 c256_i32
  let v298 : BitVec 32 := v297
  let v317 : Index := Scalar.indexCast v298
  let c0_174 : Index := 0#32
  ![0, 3, v317.toNat, 0]
def k0_off24 (i : grid0.Coords) (k0_t2 : Fin (k0_t2_loop i).trips) : Fin 5 → Nat :=
  let c0_175 : Index := 0#32
  let c3_176 : Index := 3#32
  let c2_i32_150 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v296 : BitVec 32 := Scalar.muli c2_i32_150 arg13
  let v320 : Index := Scalar.indexCast v296
  let c0_177 : Index := 0#32
  let c0_178 : Index := 0#32
  ![0, 3, v320.toNat, 0, 0]
def k0_mult4 (i : grid0.Coords) (k0_t2 : Fin (k0_t2_loop i).trips) : BitVec 32 :=
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  v325
def k0_off25 (i : grid0.Coords) (k0_t2 : Fin (k0_t2_loop i).trips) : Fin 4 → Nat :=
  let c0_182 : Index := 0#32
  let c0_183 : Index := 0#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v327 : Index := Scalar.indexCast v326
  let c0_184 : Index := 0#32
  ![0, 0, v327.toNat, 0]
def k0_off26 (i : grid0.Coords) (k0_t2 : Fin (k0_t2_loop i).trips) : Fin 5 → Nat :=
  let c0_185 : Index := 0#32
  let c0_186 : Index := 0#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let v330 : Index := Scalar.indexCast v324
  let c0_187 : Index := 0#32
  let c0_188 : Index := 0#32
  ![0, 0, v330.toNat, 0, 0]
def k0_off27 (i : grid0.Coords) (k0_t2 : Fin (k0_t2_loop i).trips) : Fin 4 → Nat :=
  let c0_189 : Index := 0#32
  let c1_190 : Index := 1#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v333 : Index := Scalar.indexCast v326
  let c0_191 : Index := 0#32
  ![0, 1, v333.toNat, 0]
def k0_off28 (i : grid0.Coords) (k0_t2 : Fin (k0_t2_loop i).trips) : Fin 5 → Nat :=
  let c0_192 : Index := 0#32
  let c1_193 : Index := 1#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let v336 : Index := Scalar.indexCast v324
  let c0_194 : Index := 0#32
  let c0_195 : Index := 0#32
  ![0, 1, v336.toNat, 0, 0]
def k0_off29 (i : grid0.Coords) (k0_t2 : Fin (k0_t2_loop i).trips) : Fin 4 → Nat :=
  let c0_196 : Index := 0#32
  let c2_197 : Index := 2#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v339 : Index := Scalar.indexCast v326
  let c0_198 : Index := 0#32
  ![0, 2, v339.toNat, 0]
def k0_off30 (i : grid0.Coords) (k0_t2 : Fin (k0_t2_loop i).trips) : Fin 5 → Nat :=
  let c0_199 : Index := 0#32
  let c2_200 : Index := 2#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let v342 : Index := Scalar.indexCast v324
  let c0_201 : Index := 0#32
  let c0_202 : Index := 0#32
  ![0, 2, v342.toNat, 0, 0]
def k0_off31 (i : grid0.Coords) (k0_t2 : Fin (k0_t2_loop i).trips) : Fin 4 → Nat :=
  let c0_203 : Index := 0#32
  let c3_204 : Index := 3#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let c256_i32_181 : BitVec 32 := 256#32
  let v325 : BitVec 32 := Scalar.muli v324 c256_i32_181
  let v326 : BitVec 32 := v325
  let v345 : Index := Scalar.indexCast v326
  let c0_205 : Index := 0#32
  ![0, 3, v345.toNat, 0]
def k0_off32 (i : grid0.Coords) (k0_t2 : Fin (k0_t2_loop i).trips) : Fin 5 → Nat :=
  let c0_206 : Index := 0#32
  let c3_207 : Index := 3#32
  let c2_i32_179 : BitVec 32 := 2#32
  let c0_i32_52 : BitVec 32 := 0#32
  let arg2 : BitVec 32 := BitVec.ofNat 32 (i 2).val
  let c0_i32_46 : BitVec 32 := 0#32
  let v107 : BitVec 1 := Scalar.cmpi .sgt arg2 c0_i32_46
  let v108 : BitVec 32 := Scalar.extui v107
  let c0_i32_47 : BitVec 32 := 0#32
  let v109 : BitVec 1 := Scalar.cmpi .slt arg2 c0_i32_47
  let v110 : BitVec 32 := Scalar.extui v109
  let v111 : BitVec 32 := Scalar.subi v108 v110
  let c2_i32 : BitVec 32 := 2#32
  let c0_i32_48 : BitVec 32 := 0#32
  let v112 : BitVec 1 := Scalar.cmpi .sgt c2_i32 c0_i32_48
  let v113 : BitVec 32 := Scalar.extui v112
  let c0_i32_49 : BitVec 32 := 0#32
  let v114 : BitVec 1 := Scalar.cmpi .slt c2_i32 c0_i32_49
  let v115 : BitVec 32 := Scalar.extui v114
  let v116 : BitVec 32 := Scalar.subi v113 v115
  let v117 : BitVec 1 := Scalar.cmpi .ne v111 v116
  let v118 : BitVec 32 := Scalar.remsi arg2 c2_i32
  let c0_i32_50 : BitVec 32 := 0#32
  let v119 : BitVec 1 := Scalar.cmpi .ne v118 c0_i32_50
  let v120 : BitVec 1 := Scalar.andi v117 v119
  let v106 : BitVec 32 := Scalar.divsi arg2 c2_i32
  let c1_i32 : BitVec 32 := 1#32
  let v121 : BitVec 32 := Scalar.subi v106 c1_i32
  let v122 : BitVec 32 := Scalar.select v120 v121 v106
  let v123 : BitVec 32 := Scalar.subi v122 c0_i32_52
  let c1_i32_53 : BitVec 32 := 1#32
  let v125 : BitVec 32 := Scalar.divsi v123 c1_i32_53
  let v126 : BitVec 32 := Scalar.muli v125 c1_i32_53
  let v127 : BitVec 32 := Scalar.addi c0_i32_52 v126
  let c1_i32_55 : BitVec 32 := 1#32
  let arg13 : BitVec 32 := Scf.iv v127 c1_i32_55 k0_t2
  let v323 : BitVec 32 := Scalar.muli c2_i32_179 arg13
  let c1_i32_180 : BitVec 32 := 1#32
  let v324 : BitVec 32 := Scalar.addi v323 c1_i32_180
  let v348 : Index := Scalar.indexCast v324
  let c0_208 : Index := 0#32
  let c0_209 : Index := 0#32
  ![0, 3, v348.toNat, 0, 0]
def k0_cond2 (i : grid0.Coords) : BitVec 1 :=
  let arg2 : BitVec 32 := BitVec.ofNat 32 (i 2).val
  let c2_i32_56 : BitVec 32 := 2#32
  let c0_i32_57 : BitVec 32 := 0#32
  let v128 : BitVec 1 := Scalar.cmpi .eq c2_i32_56 c0_i32_57
  let c1_i32_58 : BitVec 32 := 1#32
  let v129 : BitVec 32 := Scalar.select v128 c1_i32_58 c2_i32_56
  let v130 : BitVec 32 := Scalar.remsi arg2 v129
  let c0_i32_60 : BitVec 32 := 0#32
  let v132 : BitVec 1 := Scalar.cmpi .slt v130 c0_i32_60
  let c0_i32_61 : BitVec 32 := 0#32
  let v133 : BitVec 1 := Scalar.cmpi .slt v129 c0_i32_61
  let v134 : BitVec 1 := Scalar.xori v132 v133
  let c0_i32_59 : BitVec 32 := 0#32
  let v131 : BitVec 1 := Scalar.cmpi .ne v130 c0_i32_59
  let v135 : BitVec 1 := Scalar.andi v134 v131
  let v136 : BitVec 32 := Scalar.addi v130 v129
  let v137 : BitVec 32 := Scalar.select v135 v136 v130
  let c0_i32_62 : BitVec 32 := 0#32
  let v138 : BitVec 1 := Scalar.cmpi .eq v137 c0_i32_62
  let v139 : BitVec 32 := Scalar.extui v138
  let c0_i32_63 : BitVec 32 := 0#32
  let v140 : BitVec 1 := Scalar.cmpi .ne v139 c0_i32_63
  v140

def k0_mult5 (i : grid0.Coords) : BitVec 32 :=
  let arg2 : BitVec 32 := BitVec.ofNat 32 (i 2).val
  let c256_i32 : BitVec 32 := 256#32
  let v296 : BitVec 32 := Scalar.muli arg2 c256_i32
  v296
def k0_off33 (i : grid0.Coords) : Fin 4 → Nat :=
  let c0_150 : Index := 0#32
  let c0_151 : Index := 0#32
  let arg2 : BitVec 32 := BitVec.ofNat 32 (i 2).val
  let c256_i32 : BitVec 32 := 256#32
  let v296 : BitVec 32 := Scalar.muli arg2 c256_i32
  let v297 : BitVec 32 := v296
  let v298 : Index := Scalar.indexCast v297
  let c0_152 : Index := 0#32
  ![0, 0, v298.toNat, 0]
def k0_off34 (i : grid0.Coords) : Fin 5 → Nat :=
  let c0_153 : Index := 0#32
  let c0_154 : Index := 0#32
  let arg2 : BitVec 32 := BitVec.ofNat 32 (i 2).val
  let v301 : Index := Scalar.indexCast arg2
  let c0_155 : Index := 0#32
  let c0_156 : Index := 0#32
  ![0, 0, v301.toNat, 0, 0]
def k0_off35 (i : grid0.Coords) : Fin 4 → Nat :=
  let c0_157 : Index := 0#32
  let c1_158 : Index := 1#32
  let arg2 : BitVec 32 := BitVec.ofNat 32 (i 2).val
  let c256_i32 : BitVec 32 := 256#32
  let v296 : BitVec 32 := Scalar.muli arg2 c256_i32
  let v297 : BitVec 32 := v296
  let v304 : Index := Scalar.indexCast v297
  let c0_159 : Index := 0#32
  ![0, 1, v304.toNat, 0]
def k0_off36 (i : grid0.Coords) : Fin 5 → Nat :=
  let c0_160 : Index := 0#32
  let c1_161 : Index := 1#32
  let arg2 : BitVec 32 := BitVec.ofNat 32 (i 2).val
  let v307 : Index := Scalar.indexCast arg2
  let c0_162 : Index := 0#32
  let c0_163 : Index := 0#32
  ![0, 1, v307.toNat, 0, 0]
def k0_off37 (i : grid0.Coords) : Fin 4 → Nat :=
  let c0_164 : Index := 0#32
  let c2_165 : Index := 2#32
  let arg2 : BitVec 32 := BitVec.ofNat 32 (i 2).val
  let c256_i32 : BitVec 32 := 256#32
  let v296 : BitVec 32 := Scalar.muli arg2 c256_i32
  let v297 : BitVec 32 := v296
  let v310 : Index := Scalar.indexCast v297
  let c0_166 : Index := 0#32
  ![0, 2, v310.toNat, 0]
def k0_off38 (i : grid0.Coords) : Fin 5 → Nat :=
  let c0_167 : Index := 0#32
  let c2_168 : Index := 2#32
  let arg2 : BitVec 32 := BitVec.ofNat 32 (i 2).val
  let v313 : Index := Scalar.indexCast arg2
  let c0_169 : Index := 0#32
  let c0_170 : Index := 0#32
  ![0, 2, v313.toNat, 0, 0]
def k0_off39 (i : grid0.Coords) : Fin 4 → Nat :=
  let c0_171 : Index := 0#32
  let c3_172 : Index := 3#32
  let arg2 : BitVec 32 := BitVec.ofNat 32 (i 2).val
  let c256_i32 : BitVec 32 := 256#32
  let v296 : BitVec 32 := Scalar.muli arg2 c256_i32
  let v297 : BitVec 32 := v296
  let v316 : Index := Scalar.indexCast v297
  let c0_173 : Index := 0#32
  ![0, 3, v316.toNat, 0]
def k0_off40 (i : grid0.Coords) : Fin 5 → Nat :=
  let c0_174 : Index := 0#32
  let c3_175 : Index := 3#32
  let arg2 : BitVec 32 := BitVec.ofNat 32 (i 2).val
  let v319 : Index := Scalar.indexCast arg2
  let c0_176 : Index := 0#32
  let c0_177 : Index := 0#32
  ![0, 3, v319.toNat, 0, 0]
def k0_cond3 (i : grid0.Coords) : BitVec 1 :=
  let arg2 : BitVec 32 := BitVec.ofNat 32 (i 2).val
  let c2_i32_64 : BitVec 32 := 2#32
  let c0_i32_65 : BitVec 32 := 0#32
  let v141 : BitVec 1 := Scalar.cmpi .eq c2_i32_64 c0_i32_65
  let c1_i32_66 : BitVec 32 := 1#32
  let v142 : BitVec 32 := Scalar.select v141 c1_i32_66 c2_i32_64
  let v143 : BitVec 32 := Scalar.remsi arg2 v142
  let c0_i32_68 : BitVec 32 := 0#32
  let v145 : BitVec 1 := Scalar.cmpi .slt v143 c0_i32_68
  let c0_i32_69 : BitVec 32 := 0#32
  let v146 : BitVec 1 := Scalar.cmpi .slt v142 c0_i32_69
  let v147 : BitVec 1 := Scalar.xori v145 v146
  let c0_i32_67 : BitVec 32 := 0#32
  let v144 : BitVec 1 := Scalar.cmpi .ne v143 c0_i32_67
  let v148 : BitVec 1 := Scalar.andi v147 v144
  let v149 : BitVec 32 := Scalar.addi v143 v142
  let v150 : BitVec 32 := Scalar.select v148 v149 v143
  let c1_i32_70 : BitVec 32 := 1#32
  let v151 : BitVec 1 := Scalar.cmpi .eq v150 c1_i32_70
  let v152 : BitVec 32 := Scalar.extui v151
  let c0_i32_71 : BitVec 32 := 0#32
  let v153 : BitVec 1 := Scalar.cmpi .ne v152 c0_i32_71
  v153

def k0_mult6 (i : grid0.Coords) : BitVec 32 :=
  let arg2 : BitVec 32 := BitVec.ofNat 32 (i 2).val
  let c1_i32_150 : BitVec 32 := 1#32
  let v296 : BitVec 32 := Scalar.subi arg2 c1_i32_150
  let c256_i32 : BitVec 32 := 256#32
  let v297 : BitVec 32 := Scalar.muli v296 c256_i32
  v297
def k0_off41 (i : grid0.Coords) : Fin 4 → Nat :=
  let c0_151 : Index := 0#32
  let c0_152 : Index := 0#32
  let arg2 : BitVec 32 := BitVec.ofNat 32 (i 2).val
  let c1_i32_150 : BitVec 32 := 1#32
  let v296 : BitVec 32 := Scalar.subi arg2 c1_i32_150
  let c256_i32 : BitVec 32 := 256#32
  let v297 : BitVec 32 := Scalar.muli v296 c256_i32
  let v298 : BitVec 32 := v297
  let v299 : Index := Scalar.indexCast v298
  let c0_153 : Index := 0#32
  ![0, 0, v299.toNat, 0]
def k0_off42 (i : grid0.Coords) : Fin 5 → Nat :=
  let c0_154 : Index := 0#32
  let c0_155 : Index := 0#32
  let arg2 : BitVec 32 := BitVec.ofNat 32 (i 2).val
  let c1_i32_150 : BitVec 32 := 1#32
  let v296 : BitVec 32 := Scalar.subi arg2 c1_i32_150
  let v302 : Index := Scalar.indexCast v296
  let c0_156 : Index := 0#32
  let c0_157 : Index := 0#32
  ![0, 0, v302.toNat, 0, 0]
def k0_off43 (i : grid0.Coords) : Fin 4 → Nat :=
  let c0_158 : Index := 0#32
  let c1_159 : Index := 1#32
  let arg2 : BitVec 32 := BitVec.ofNat 32 (i 2).val
  let c1_i32_150 : BitVec 32 := 1#32
  let v296 : BitVec 32 := Scalar.subi arg2 c1_i32_150
  let c256_i32 : BitVec 32 := 256#32
  let v297 : BitVec 32 := Scalar.muli v296 c256_i32
  let v298 : BitVec 32 := v297
  let v305 : Index := Scalar.indexCast v298
  let c0_160 : Index := 0#32
  ![0, 1, v305.toNat, 0]
def k0_off44 (i : grid0.Coords) : Fin 5 → Nat :=
  let c0_161 : Index := 0#32
  let c1_162 : Index := 1#32
  let arg2 : BitVec 32 := BitVec.ofNat 32 (i 2).val
  let c1_i32_150 : BitVec 32 := 1#32
  let v296 : BitVec 32 := Scalar.subi arg2 c1_i32_150
  let v308 : Index := Scalar.indexCast v296
  let c0_163 : Index := 0#32
  let c0_164 : Index := 0#32
  ![0, 1, v308.toNat, 0, 0]
def k0_off45 (i : grid0.Coords) : Fin 4 → Nat :=
  let c0_165 : Index := 0#32
  let c2_166 : Index := 2#32
  let arg2 : BitVec 32 := BitVec.ofNat 32 (i 2).val
  let c1_i32_150 : BitVec 32 := 1#32
  let v296 : BitVec 32 := Scalar.subi arg2 c1_i32_150
  let c256_i32 : BitVec 32 := 256#32
  let v297 : BitVec 32 := Scalar.muli v296 c256_i32
  let v298 : BitVec 32 := v297
  let v311 : Index := Scalar.indexCast v298
  let c0_167 : Index := 0#32
  ![0, 2, v311.toNat, 0]
def k0_off46 (i : grid0.Coords) : Fin 5 → Nat :=
  let c0_168 : Index := 0#32
  let c2_169 : Index := 2#32
  let arg2 : BitVec 32 := BitVec.ofNat 32 (i 2).val
  let c1_i32_150 : BitVec 32 := 1#32
  let v296 : BitVec 32 := Scalar.subi arg2 c1_i32_150
  let v314 : Index := Scalar.indexCast v296
  let c0_170 : Index := 0#32
  let c0_171 : Index := 0#32
  ![0, 2, v314.toNat, 0, 0]
def k0_off47 (i : grid0.Coords) : Fin 4 → Nat :=
  let c0_172 : Index := 0#32
  let c3_173 : Index := 3#32
  let arg2 : BitVec 32 := BitVec.ofNat 32 (i 2).val
  let c1_i32_150 : BitVec 32 := 1#32
  let v296 : BitVec 32 := Scalar.subi arg2 c1_i32_150
  let c256_i32 : BitVec 32 := 256#32
  let v297 : BitVec 32 := Scalar.muli v296 c256_i32
  let v298 : BitVec 32 := v297
  let v317 : Index := Scalar.indexCast v298
  let c0_174 : Index := 0#32
  ![0, 3, v317.toNat, 0]
def k0_off48 (i : grid0.Coords) : Fin 5 → Nat :=
  let c0_175 : Index := 0#32
  let c3_176 : Index := 3#32
  let arg2 : BitVec 32 := BitVec.ofNat 32 (i 2).val
  let c1_i32_150 : BitVec 32 := 1#32
  let v296 : BitVec 32 := Scalar.subi arg2 c1_i32_150
  let v320 : Index := Scalar.indexCast v296
  let c0_177 : Index := 0#32
  let c0_178 : Index := 0#32
  ![0, 3, v320.toNat, 0, 0]
def k0_mult7 (i : grid0.Coords) : BitVec 32 :=
  let arg2 : BitVec 32 := BitVec.ofNat 32 (i 2).val
  let c256_i32_179 : BitVec 32 := 256#32
  let v323 : BitVec 32 := Scalar.muli arg2 c256_i32_179
  v323
def k0_off49 (i : grid0.Coords) : Fin 4 → Nat :=
  let c0_180 : Index := 0#32
  let c0_181 : Index := 0#32
  let arg2 : BitVec 32 := BitVec.ofNat 32 (i 2).val
  let c256_i32_179 : BitVec 32 := 256#32
  let v323 : BitVec 32 := Scalar.muli arg2 c256_i32_179
  let v324 : BitVec 32 := v323
  let v325 : Index := Scalar.indexCast v324
  let c0_182 : Index := 0#32
  ![0, 0, v325.toNat, 0]
def k0_off50 (i : grid0.Coords) : Fin 5 → Nat :=
  let c0_183 : Index := 0#32
  let c0_184 : Index := 0#32
  let arg2 : BitVec 32 := BitVec.ofNat 32 (i 2).val
  let v328 : Index := Scalar.indexCast arg2
  let c0_185 : Index := 0#32
  let c0_186 : Index := 0#32
  ![0, 0, v328.toNat, 0, 0]
def k0_off51 (i : grid0.Coords) : Fin 4 → Nat :=
  let c0_187 : Index := 0#32
  let c1_188 : Index := 1#32
  let arg2 : BitVec 32 := BitVec.ofNat 32 (i 2).val
  let c256_i32_179 : BitVec 32 := 256#32
  let v323 : BitVec 32 := Scalar.muli arg2 c256_i32_179
  let v324 : BitVec 32 := v323
  let v331 : Index := Scalar.indexCast v324
  let c0_189 : Index := 0#32
  ![0, 1, v331.toNat, 0]
def k0_off52 (i : grid0.Coords) : Fin 5 → Nat :=
  let c0_190 : Index := 0#32
  let c1_191 : Index := 1#32
  let arg2 : BitVec 32 := BitVec.ofNat 32 (i 2).val
  let v334 : Index := Scalar.indexCast arg2
  let c0_192 : Index := 0#32
  let c0_193 : Index := 0#32
  ![0, 1, v334.toNat, 0, 0]
def k0_off53 (i : grid0.Coords) : Fin 4 → Nat :=
  let c0_194 : Index := 0#32
  let c2_195 : Index := 2#32
  let arg2 : BitVec 32 := BitVec.ofNat 32 (i 2).val
  let c256_i32_179 : BitVec 32 := 256#32
  let v323 : BitVec 32 := Scalar.muli arg2 c256_i32_179
  let v324 : BitVec 32 := v323
  let v337 : Index := Scalar.indexCast v324
  let c0_196 : Index := 0#32
  ![0, 2, v337.toNat, 0]
def k0_off54 (i : grid0.Coords) : Fin 5 → Nat :=
  let c0_197 : Index := 0#32
  let c2_198 : Index := 2#32
  let arg2 : BitVec 32 := BitVec.ofNat 32 (i 2).val
  let v340 : Index := Scalar.indexCast arg2
  let c0_199 : Index := 0#32
  let c0_200 : Index := 0#32
  ![0, 2, v340.toNat, 0, 0]
def k0_off55 (i : grid0.Coords) : Fin 4 → Nat :=
  let c0_201 : Index := 0#32
  let c3_202 : Index := 3#32
  let arg2 : BitVec 32 := BitVec.ofNat 32 (i 2).val
  let c256_i32_179 : BitVec 32 := 256#32
  let v323 : BitVec 32 := Scalar.muli arg2 c256_i32_179
  let v324 : BitVec 32 := v323
  let v343 : Index := Scalar.indexCast v324
  let c0_203 : Index := 0#32
  ![0, 3, v343.toNat, 0]
def k0_off56 (i : grid0.Coords) : Fin 5 → Nat :=
  let c0_204 : Index := 0#32
  let c3_205 : Index := 3#32
  let arg2 : BitVec 32 := BitVec.ofNat 32 (i 2).val
  let v346 : Index := Scalar.indexCast arg2
  let c0_206 : Index := 0#32
  let c0_207 : Index := 0#32
  ![0, 3, v346.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale_log2e" => some (((Real.sqrt 32)⁻¹ * (Real.log 2)⁻¹ : ℝ) : EReal)
  | _ => none
-- ==== ReferenceIdeal.lean ====
abbrev S8x2048x256 : Shape := ⟨3, ![8, 2048, 256]⟩
abbrev S4x32 : Shape := ⟨2, ![4, 32]⟩
abbrev S64 : Shape := ⟨1, ![64]⟩
abbrev S1x32 : Shape := ⟨2, ![1, 32]⟩
abbrev S32 : Shape := ⟨1, ![32]⟩
abbrev S_ : Shape := ⟨0, ![]⟩
abbrev S2048 : Shape := ⟨1, ![2048]⟩
abbrev S8x2048x4x2x32 : Shape := ⟨5, ![8, 2048, 4, 2, 32]⟩
abbrev S8x4x2x2048x32 : Shape := ⟨5, ![8, 4, 2, 2048, 32]⟩
abbrev S8x2048x4x64 : Shape := ⟨4, ![8, 2048, 4, 64]⟩
abbrev S8x4x2048x64 : Shape := ⟨4, ![8, 4, 2048, 64]⟩
abbrev S8x4x2x2048x2048 : Shape := ⟨5, ![8, 4, 2, 2048, 2048]⟩
abbrev S2048x1 : Shape := ⟨2, ![2048, 1]⟩
abbrev S1x2048 : Shape := ⟨2, ![1, 2048]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S1x1x1x64 : Shape := ⟨4, ![1, 1, 1, 64]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S4x32, .f32⟩
  | .hbm, ⟨4, _⟩ => ⟨S64, .f32⟩
  | .hbm, ⟨5, _⟩ => ⟨S1x32, .f32⟩
  | .hbm, ⟨6, _⟩ => ⟨S32, .f32⟩
  | .hbm, ⟨7, _⟩ => ⟨S1x32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .i32⟩
  | .hbm, ⟨25, _⟩ => ⟨S8x2048x4x2x32, .f32⟩
  | .hbm, ⟨26, _⟩ => ⟨S8x4x2x2048x32, .f32⟩
  | .hbm, ⟨27, _⟩ => ⟨S8x2048x4x2x32, .f32⟩
  | .hbm, ⟨28, _⟩ => ⟨S8x4x2x2048x32, .f32⟩
  | .hbm, ⟨29, _⟩ => ⟨S8x2048x4x64, .f32⟩
  | .hbm, ⟨30, _⟩ => ⟨S8x4x2048x64, .f32⟩
  | .hbm, ⟨31, _⟩ => ⟨S8x4x2x2048x2048, .f32⟩
  | .hbm, ⟨32, _⟩ => ⟨S_, .f32⟩
  | .hbm, ⟨33, _⟩ => ⟨S_, .f32⟩
  | .hbm, ⟨34, _⟩ => ⟨S8x4x2x2048x2048, .f32⟩
  | .hbm, ⟨35, _⟩ => ⟨S8x4x2x2048x2048, .f32⟩
  | .hbm, ⟨36, _⟩ => ⟨S2048x1, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S_, .f32⟩
  | .hbm, ⟨43, _⟩ => ⟨S8x4x2x2048x2048, .i1⟩
  | .hbm, ⟨44, _⟩ => ⟨S8x4x2x2048x2048, .f32⟩
  | .hbm, ⟨45, _⟩ => ⟨S8x4x2x2048x2048, .f32⟩
  | .hbm, ⟨46, _⟩ => ⟨S_, .f32⟩
  | .hbm, ⟨47, _⟩ => ⟨S8x4x2x2048, .f32⟩
  | .hbm, ⟨48, _⟩ => ⟨S_, .f32⟩
  | .hbm, ⟨49, _⟩ => ⟨S8x4x2x2048, .f32⟩
  | .hbm, ⟨50, _⟩ => ⟨S8x4x2x2048, .f32⟩
  | .hbm, ⟨51, _⟩ => ⟨S8x4x2x2048x1, .f32⟩
  | .hbm, ⟨52, _⟩ => ⟨S8x4x2x2048x2048, .f32⟩
  | .hbm, ⟨53, _⟩ => ⟨S8x4x2x2048x2048, .f32⟩
  | .hbm, ⟨54, _⟩ => ⟨S8x4x2x2048x2048, .f32⟩
  | .hbm, ⟨55, _⟩ => ⟨S_, .f32⟩
  | .hbm, ⟨56, _⟩ => ⟨S8x4x2x2048, .f32⟩
  | .hbm, ⟨57, _⟩ => ⟨S8x4x2x2048x1, .f32⟩
  | .hbm, ⟨58, _⟩ => ⟨S8x4x2x2048x2048, .f32⟩
  | .hbm, ⟨59, _⟩ => ⟨S8x4x2x2048x2048, .f32⟩
  | .hbm, ⟨60, _⟩ => ⟨S_, .f32⟩
  | .hbm, ⟨61, _⟩ => ⟨S_, .f32⟩
  | .hbm, ⟨62, _⟩ => ⟨S8x4x2x2048x2048, .i1⟩
  | .hbm, ⟨63, _⟩ => ⟨S8x4x2x2048x2048, .f32⟩
  | .hbm, ⟨64, _⟩ => ⟨S8x4x2x2048x2048, .f32⟩
  | .hbm, ⟨65, _⟩ => ⟨S8x4x1x2048x2048, .f32⟩
  | .hbm, ⟨66, _⟩ => ⟨S8x4x2048x2048, .f32⟩
  | .hbm, ⟨67, _⟩ => ⟨S8x4x1x2048x2048, .f32⟩
  | .hbm, ⟨68, _⟩ => ⟨S8x4x2048x2048, .f32⟩
  | .hbm, ⟨69, _⟩ => ⟨S8x4x2048x2048, .f32⟩
  | .hbm, ⟨70, _⟩ => ⟨S8x4x2048x2048, .f32⟩
  | .hbm, ⟨71, _⟩ => ⟨S8x4x2048x2048, .f32⟩
  | .hbm, ⟨72, _⟩ => ⟨S8x4x2048x64, .f32⟩
  | .hbm, ⟨73, _⟩ => ⟨S8x4x2048x64, .f32⟩
  | .hbm, ⟨74, _⟩ => ⟨S_, .f32⟩
  | .hbm, ⟨75, _⟩ => ⟨S8x4x2048, .f32⟩
  | .hbm, ⟨76, _⟩ => ⟨S8x4x2048x1, .f32⟩
  | .hbm, ⟨77, _⟩ => ⟨S_, .f32⟩
  | .hbm, ⟨78, _⟩ => ⟨S8x4x2048x1, .f32⟩
  | .hbm, ⟨79, _⟩ => ⟨S8x4x2048x1, .f32⟩
  | .hbm, ⟨80, _⟩ => ⟨S_, .f32⟩
  | .hbm, ⟨81, _⟩ => ⟨S8x4x2048x1, .f32⟩
  | .hbm, ⟨82, _⟩ => ⟨S8x4x2048x1, .f32⟩
  | .hbm, ⟨83, _⟩ => ⟨S8x4x2048x1, .f32⟩
  | .hbm, ⟨84, _⟩ => ⟨S8x4x2048x64, .f32⟩
  | .hbm, ⟨85, _⟩ => ⟨S8x4x2048x64, .f32⟩
  | .hbm, ⟨86, _⟩ => ⟨S1x1x1x64, .f32⟩
  | .hbm, ⟨87, _⟩ => ⟨S8x4x2048x64, .f32⟩
  | .hbm, ⟨88, _⟩ => ⟨S8x4x2048x64, .f32⟩
  | .hbm, ⟨89, _⟩ => ⟨S_, .f32⟩
  | .hbm, ⟨90, _⟩ => ⟨S8x4x2048x64, .f32⟩
  | .hbm, ⟨91, _⟩ => ⟨S8x4x2048x64, .f32⟩
  | .hbm, ⟨92, _⟩ => ⟨S8x2048x4x64, .f32⟩
  | .hbm, ⟨93, _⟩ => ⟨S8x2048x256, .f32⟩
  | .hbm, ⟨94, _⟩ => ⟨S8x2048x256, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x9216 : Shape := ⟨2, ![8, 9216]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x2048x256 : Shape := ⟨3, ![8, 2048, 256]⟩
abbrev S8x2048x512 : Shape := ⟨3, ![8, 2048, 512]⟩
abbrev S4x1024x1024 : Shape := ⟨3, ![4, 1024, 1024]⟩
abbrev S1024 : Shape := ⟨1, ![1024]⟩
abbrev S8x9x1024 : Shape := ⟨3, ![8, 9, 1024]⟩
abbrev S1x1x1024 : Shape := ⟨3, ![1, 1, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x512x256 : Shape := ⟨3, ![1, 512, 256]⟩
abbrev S1x512x512 : Shape := ⟨3, ![1, 512, 512]⟩
abbrev S1x1024x1024 : Shape := ⟨3, ![1, 1024, 1024]⟩
abbrev S512x1024 : Shape := ⟨2, ![512, 1024]⟩
abbrev S512x2816 : Shape := ⟨2, ![512, 2816]⟩
abbrev S512x256 : Shape := ⟨2, ![512, 256]⟩
abbrev S1x256x1024 : Shape := ⟨3, ![1, 256, 1024]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 24
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S8x2048x256, .f32⟩
  | .hbm, ⟨7, _⟩ => ⟨S8x2048x256, .f32⟩
  | .hbm, ⟨8, _⟩ => ⟨S8x2048x512, .f32⟩
  | .hbm, ⟨9, _⟩ => ⟨S4x1024x1024, .f32⟩
  | .hbm, ⟨10, _⟩ => ⟨S1024, .f32⟩
  | .hbm, ⟨11, _⟩ => ⟨S8x9x1024, .f32⟩
  | .hbm, ⟨12, _⟩ => ⟨S1x1x1024, .f32⟩
  | .hbm, ⟨13, _⟩ => ⟨S1024, .f32⟩
  | .hbm, ⟨14, _⟩ => ⟨S4x2x1024x2816, .bf16⟩
  | .hbm, ⟨15, _⟩ => ⟨S4x2x1024x2816, .bf16⟩
  | .hbm, ⟨16, _⟩ => ⟨S4x2x2816x1024, .bf16⟩
  | .hbm, ⟨17, _⟩ => ⟨S8x2048x256, .bf16⟩
  | .hbm, ⟨18, _⟩ => ⟨S8x2048x256, .bf16⟩
  | .hbm, ⟨19, _⟩ => ⟨S8x2048x512, .bf16⟩
  | .hbm, ⟨20, _⟩ => ⟨S4x1024x1024, .bf16⟩
  | .hbm, ⟨21, _⟩ => ⟨S1x1024, .f32⟩
  | .hbm, ⟨22, _⟩ => ⟨S1x1024, .f32⟩
  | .hbm, ⟨23, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x512, .bf16⟩
  | .local _ .vmem, ⟨13, _⟩ => ⟨S1x512x512, .bf16⟩
  | .local _ .vmem, ⟨14, _⟩ => ⟨S1x1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S512x2816, .bf16⟩
  | .local _ .vmem, ⟨20, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S8x9216 : Shape := ⟨2, ![8, 9216]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x2048x256 : Shape := ⟨3, ![8, 2048, 256]⟩
abbrev S8x2048x512 : Shape := ⟨3, ![8, 2048, 512]⟩
abbrev S4x1024x1024 : Shape := ⟨3, ![4, 1024, 1024]⟩
abbrev S1024 : Shape := ⟨1, ![1024]⟩
abbrev S8x1x9216 : Shape := ⟨3, ![8, 1, 9216]⟩
abbrev S8x1x1024 : Shape := ⟨3, ![8, 1, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S8x2048x256, .f32⟩
  | .hbm, ⟨7, _⟩ => ⟨S8x2048x256, .f32⟩
  | .hbm, ⟨8, _⟩ => ⟨S8x2048x512, .f32⟩
  | .hbm, ⟨9, _⟩ => ⟨S4x1024x1024, .f32⟩
  | .hbm, ⟨10, _⟩ => ⟨S1024, .f32⟩
  | .hbm, ⟨11, _⟩ => ⟨S8x1x9216, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x2048x1024, .f32⟩
  | .hbm, ⟨22, _⟩ => ⟨S1x1024x1024, .f32⟩
  | .hbm, ⟨23, _⟩ => ⟨S1024x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S1x1x1024x2816, .f32⟩
  | .hbm, ⟨57, _⟩ => ⟨S1024x2816, .f32⟩
  | .hbm, ⟨58, _⟩ => ⟨S1x1x1024x2816, .f32⟩
  | .hbm, ⟨59, _⟩ => ⟨S1024x2816, .f32⟩
  | .hbm, ⟨60, _⟩ => ⟨S1x1x2816x1024, .f32⟩
  | .hbm, ⟨61, _⟩ => ⟨S2816x1024, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S_, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048, .f32⟩
  | .hbm, ⟨81, _⟩ => ⟨S8x2048x1, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S_, .f32⟩
  | .hbm, ⟨86, _⟩ => ⟨S8x2048x1, .f32⟩
  | .hbm, ⟨87, _⟩ => ⟨S8x2048x1, .f32⟩
  | .hbm, ⟨88, _⟩ => ⟨S8x2048x1, .f32⟩
  | .hbm, ⟨89, _⟩ => ⟨S8x2048x1024, .f32⟩
  | .hbm, ⟨90, _⟩ => ⟨S8x2048x1024, .f32⟩
  | .hbm, ⟨91, _⟩ => ⟨S1x1x1024, .f32⟩
  | .hbm, ⟨92, _⟩ => ⟨S8x2048x1024, .f32⟩
  | .hbm, ⟨93, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_4 : Ref sig .tc := ⟨.hbm, 79, rfl⟩
abbrev main_v55 : Ref sig .tc := ⟨.hbm, 80, rfl⟩
abbrev main_v56 : Ref sig .tc := ⟨.hbm, 81, rfl⟩
abbrev main_cst_5 : Ref sig .tc := ⟨.hbm, 82, rfl⟩
abbrev main_v57 : Ref sig .tc := ⟨.hbm, 83, rfl⟩
abbrev main_v58 : Ref sig .tc := ⟨.hbm, 84, rfl⟩
abbrev main_cst_6 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x9216 : Shape := ⟨2, ![8, 9216]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S8x9x1024, .f32⟩
  | .hbm, ⟨7, _⟩ => ⟨S1x1x1024, .f32⟩
  | .hbm, ⟨8, _⟩ => ⟨S1024, .f32⟩
  | .hbm, ⟨9, _⟩ => ⟨S4x2x1024x2816, .bf16⟩
  | .hbm, ⟨10, _⟩ => ⟨S4x2x1024x2816, .bf16⟩
  | .hbm, ⟨11, _⟩ => ⟨S4x2x2816x1024, .bf16⟩
  | .hbm, ⟨12, _⟩ => ⟨S1x1024, .f32⟩
  | .hbm, ⟨13, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x2048x1024 : Shape := ⟨3, ![8, 2048, 1024]⟩
abbrev S8x9216 : Shape := ⟨2, ![8, 9216]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x1x9216 : Shape := ⟨3, ![8, 1, 9216]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S8x1x9216, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1x1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S1x1x1024x2816, .f32⟩
  | .hbm, ⟨45, _⟩ => ⟨S1024x2816, .f32⟩
  | .hbm, ⟨46, _⟩ => ⟨S1x1x1024x2816, .f32⟩
  | .hbm, ⟨47, _⟩ => ⟨S1024x2816, .f32⟩
  | .hbm, ⟨48, _⟩ => ⟨S1x1x2816x1024, .f32⟩
  | .hbm, ⟨49, _⟩ => ⟨S2816x1024, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel4.lean ====
abbrev S8x1024 : Shape := ⟨2, ![8, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x8x9216 : Shape := ⟨3, ![4, 8, 9216]⟩
abbrev S1x1024x1152 : Shape := ⟨3, ![1, 1024, 1152]⟩
abbrev S1x1x1152 : Shape := ⟨3, ![1, 1, 1152]⟩
abbrev S1x8x1152 : Shape := ⟨3, ![1, 8, 1152]⟩
abbrev S1024x1152 : Shape := ⟨2, ![1024, 1152]⟩
abbrev S8x1152 : Shape := ⟨2, ![8, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x8x9216, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x8x1152, .f32⟩
  | .local _ .vmem, ⟨6, _⟩ => ⟨S1x8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S4x1024x9216 : Shape := ⟨3, ![4, 1024, 9216]⟩
abbrev S4x9216 : Shape := ⟨2, ![4, 9216]⟩
abbrev S_ : Shape := ⟨0, ![]⟩
abbrev S4x9216x8 : Shape := ⟨3, ![4, 9216, 8]⟩
abbrev S4x8x9216 : Shape := ⟨3, ![4, 8, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x9216, .f32⟩
  | .hbm, ⟨2, _⟩ => ⟨S4x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x9216x8, .f32⟩
  | .hbm, ⟨13, _⟩ => ⟨S4x8x9216, .f32⟩
  | .hbm, ⟨14, _⟩ => ⟨S4x1x9216, .f32⟩
  | .hbm, ⟨15, _⟩ => ⟨S4x8x9216, .f32⟩
  | .hbm, ⟨16, _⟩ => ⟨S4x8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x9216 : Shape := ⟨2, ![8, 9216]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x2048x256 : Shape := ⟨3, ![8, 2048, 256]⟩
abbrev S8x2048x512 : Shape := ⟨3, ![8, 2048, 512]⟩
abbrev S4x1024x1024 : Shape := ⟨3, ![4, 1024, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x512x256 : Shape := ⟨3, ![1, 512, 256]⟩
abbrev S1x512x512 : Shape := ⟨3, ![1, 512, 512]⟩
abbrev S1x1024x1024 : Shape := ⟨3, ![1, 1024, 1024]⟩
abbrev S512x1024 : Shape := ⟨2, ![512, 1024]⟩
abbrev S512x2816 : Shape := ⟨2, ![512, 2816]⟩
abbrev S512x256 : Shape := ⟨2, ![512, 256]⟩
abbrev S1x256x1024 : Shape := ⟨3, ![1, 256, 1024]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 22
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S8x2048x256, .f32⟩
  | .hbm, ⟨7, _⟩ => ⟨S8x2048x256, .f32⟩
  | .hbm, ⟨8, _⟩ => ⟨S8x2048x512, .f32⟩
  | .hbm, ⟨9, _⟩ => ⟨S4x1024x1024, .f32⟩
  | .hbm, ⟨10, _⟩ => ⟨S8x9x1024, .f32⟩
  | .hbm, ⟨11, _⟩ => ⟨S1x1x1024, .f32⟩
  | .hbm, ⟨12, _⟩ => ⟨S1024, .f32⟩
  | .hbm, ⟨13, _⟩ => ⟨S4x2x1024x2816, .bf16⟩
  | .hbm, ⟨14, _⟩ => ⟨S4x2x1024x2816, .bf16⟩
  | .hbm, ⟨15, _⟩ => ⟨S4x2x2816x1024, .bf16⟩
  | .hbm, ⟨16, _⟩ => ⟨S8x2048x256, .bf16⟩
  | .hbm, ⟨17, _⟩ => ⟨S8x2048x256, .bf16⟩
  | .hbm, ⟨18, _⟩ => ⟨S8x2048x512, .bf16⟩
  | .hbm, ⟨19, _⟩ => ⟨S4x1024x1024, .bf16⟩
  | .hbm, ⟨20, _⟩ => ⟨S1x1024, .f32⟩
  | .hbm, ⟨21, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x512, .bf16⟩
  | .local _ .vmem, ⟨13, _⟩ => ⟨S1x512x512, .bf16⟩
  | .local _ .vmem, ⟨14, _⟩ => ⟨S1x1024x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x2816, .bf16⟩
  | .local _ .vmem, ⟨19, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8x2048x1024 : Shape := ⟨3, ![8, 2048, 1024]⟩
abbrev S8x9216 : Shape := ⟨2, ![8, 9216]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x2048x256 : Shape := ⟨3, ![8, 2048, 256]⟩
abbrev S8x2048x512 : Shape := ⟨3, ![8, 2048, 512]⟩
abbrev S4x1024x1024 : Shape := ⟨3, ![4, 1024, 1024]⟩
abbrev S8x1x9216 : Shape := ⟨3, ![8, 1, 9216]⟩
abbrev S8x1x1024 : Shape := ⟨3, ![8, 1, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S8x2048x256, .f32⟩
  | .hbm, ⟨7, _⟩ => ⟨S8x2048x256, .f32⟩
  | .hbm, ⟨8, _⟩ => ⟨S8x2048x512, .f32⟩
  | .hbm, ⟨9, _⟩ => ⟨S4x1024x1024, .f32⟩
  | .hbm, ⟨10, _⟩ => ⟨S8x1x9216, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S1x1024x1024, .f32⟩
  | .hbm, ⟨22, _⟩ => ⟨S1024x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S1x1x1024x2816, .f32⟩
  | .hbm, ⟨56, _⟩ => ⟨S1024x2816, .f32⟩
  | .hbm, ⟨57, _⟩ => ⟨S1x1x1024x2816, .f32⟩
  | .hbm, ⟨58, _⟩ => ⟨S1024x2816, .f32⟩
  | .hbm, ⟨59, _⟩ => ⟨S1x1x2816x1024, .f32⟩
  | .hbm, ⟨60, _⟩ => ⟨S2816x1024, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S_, .f32⟩
  | .hbm, ⟨65, _⟩ => ⟨S8x2048x2816, .f32⟩
  | .hbm, ⟨66, _⟩ => ⟨S8x2048x2816, .f32⟩
  | .hbm, ⟨67, _⟩ => ⟨S_, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Proof.Attn.Stages.lean ====
/- The reference's arrays over the ideal numbers, stage by stage, read at an index. -/
module

public import proofs.«01_k».proof.Proof.Gen.ReferenceIdeal
public import proofs.«01_k».proof.Proof.Gen.ReferenceIdeal.Run
public import Idealize.ShloMosaic.Lib.Pipeline.ValueKit
public import Idealize.ShloMosaic.Lib.WordCmp
public import Idealize.ShloMosaic.Lib.KernelVsHost

@[expose] public section

set_option maxRecDepth 16384
set_option maxHeartbeats 400000

noncomputable section

namespace Cert.Dense

open Idealize.ShloMosaic Idealize.ShloMosaic.TcCoe Idealize.ShloMosaic.WordCmp Cert.ReferenceIdeal Cert.ReferenceIdeal.Gen
  Cert.ReferenceIdeal.Value

/-- The causal mask: the keys up to the query. -/
def mask : IVec S8x4x2x2048x2048 1 :=
  broadcastInDim S8x4x2x2048x2048 ![3, 4] bcast_S2048x2048_S8x4x2x2048x2048_3_4
    (cmpi .sge
      (broadcastInDim S2048x2048 ![0, 1] bcast_S2048x1_S2048x2048_0_1
        (broadcastInDim S2048x1 ![0] bcast_S2048_S2048x1_0 (iotaInDim S2048 32 0)))
      (broadcastInDim S2048x2048 ![0, 1] bcast_S1x2048_S2048x2048_0_1
        (broadcastInDim S1x2048 ![1] bcast_S2048_S1x2048_1 (iotaInDim S2048 32 0))))

/-- The two halves of the heads. -/
def halves (x : FVec Ideal S8x2048x256 .f32) : FVec Ideal S8x4x2x2048x32 .f32 :=
  transpose S8x4x2x2048x32 [0, 2, 3, 1, 4] (shapeCast _ x shapeCasts_S8x2048x256_S8x2048x4x2x32)
    transposes_S8x2048x4x2x32_S8x4x2x2048x32_0_2_3_1_4

/-- The scores before the mask. -/
def raw (q k : FVec Ideal S8x2048x256 .f32) : FVec Ideal S8x4x2x2048x2048 .f32 :=
  Host.divf
    (Host.dotGeneral dot_S8x4x2x2048x32_S8x4x2x2048x32_S8x4x2x2048x2048_4_4_3_3_012_012 none (halves q) (halves k))
    (broadcastInDim S8x4x2x2048x2048 ![] bcast_S_S8x4x2x2048x2048 (Host.sqrt (constant S_ .f32 0x42000000#32)))

/-- The masked scores. -/
def scores (q k : FVec Ideal S8x2048x256 .f32) : FVec Ideal S8x4x2x2048x2048 .f32 :=
  select mask (raw q k)
    (broadcastInDim S8x4x2x2048x2048 ![] bcast_S_S8x4x2x2048x2048 (id (constant S_ .f32 0xFF800000#32)))

/-- The rows' maxima. -/
def rowMax (t : FVec Ideal S8x4x2x2048x2048 .f32) : FVec Ideal S8x4x2x2048 .f32 :=
  Host.reduce FloatOps.maximumf t (constant S_ .f32 0xFF800000#32) reducesTo_S8x4x2x2048x2048_S8x4x2x2048_d4 h_S_

/-- The exponentials of the scores less their row's maximum. -/
def exps (t : FVec Ideal S8x4x2x2048x2048 .f32) : FVec Ideal S8x4x2x2048x2048 .f32 :=
  Host.exp (subf t
    (broadcastInDim S8x4x2x2048x2048 ![0, 1, 2, 3, 4] bcast_S8x4x2x2048x1_S8x4x2x2048x2048_0_1_2_3_4
      (broadcastInDim S8x4x2x2048x1 ![0, 1, 2, 3] bcast_S8x4x2x2048_S8x4x2x2048x1_0_1_2_3
        (maximumf (broadcastInDim S8x4x2x2048 ![] bcast_S_S8x4x2x2048 (constant S_ .f32 0xFF800000#32))
          (rowMax t)))))

/-- The exponentials over their row's sum, and zeros off the mask. -/
def probs (e : FVec Ideal S8x4x2x2048x2048 .f32) : FVec Ideal S8x4x2x2048x2048 .f32 :=
  select mask
    (Host.divf e
      (broadcastInDim S8x4x2x2048x2048 ![0, 1, 2, 3, 4] bcast_S8x4x2x2048x1_S8x4x2x2048x2048_0_1_2_3_4
        (broadcastInDim S8x4x2x2048x1 ![0, 1, 2, 3] bcast_S8x4x2x2048_S8x4x2x2048x1_0_1_2_3
          (Host.reduceAdd e (constant S_ .f32 0x00000000#32) reducesTo_S8x4x2x2048x2048_S8x4x2x2048_d4 h_S_))))
    (broadcastInDim S8x4x2x2048x2048 ![] bcast_S_S8x4x2x2048x2048 (id (constant S_ .f32 0x00000000#32)))

/-- The mixing weight. -/
def lam (x : FVec Ideal S4x32 .f32) : FVec Ideal S_ .f32 :=
  addf
    (subf
      (Host.exp (Host.reduceAdd
        (mulf (shapeCast _ (extractStridedSlice S1x32 ![0, 0] x slices_S4x32_S1x32_0_0) shapeCasts_S1x32_S32)
          (shapeCast _ (extractStridedSlice S1x32 ![1, 0] x slices_S4x32_S1x32_1_0) shapeCasts_S1x32_S32))
        (constant S_ .f32 0x00000000#32) reducesTo_S32_S_d0 h_S_))
      (Host.exp (Host.reduceAdd
        (mulf (shapeCast _ (extractStridedSlice S1x32 ![2, 0] x slices_S4x32_S1x32_2_0) shapeCasts_S1x32_S32)
          (shapeCast _ (extractStridedSlice S1x32 ![3, 0] x slices_S4x32_S1x32_3_0) shapeCasts_S1x32_S32))
        (constant S_ .f32 0x00000000#32) reducesTo_S32_S_d0 h_S_)))
    (constant S_ .f32 0x3E4CCCCD#32)

/-- The difference of a head's two rows of weights. -/
def diff (l : FVec Ideal S_ .f32) (p : FVec Ideal S8x4x2x2048x2048 .f32) : FVec Ideal S8x4x2048x2048 .f32 :=
  subf
    (shapeCast _ (extractStridedSlice S8x4x1x2048x2048 ![0, 0, 0, 0, 0] p
      slices_S8x4x2x2048x2048_S8x4x1x2048x2048_0_0_0_0_0) shapeCasts_S8x4x1x2048x2048_S8x4x2048x2048)
    (mulf (broadcastInDim S8x4x2048x2048 ![] bcast_S_S8x4x2048x2048 l)
      (shapeCast _ (extractStridedSlice S8x4x1x2048x2048 ![0, 0, 1, 0, 0] p
        slices_S8x4x2x2048x2048_S8x4x1x2048x2048_0_0_1_0_0) shapeCasts_S8x4x1x2048x2048_S8x4x2048x2048))

/-- The weighted sums of the values. -/
def mix (a : FVec Ideal S8x4x2048x2048 .f32) (v : FVec Ideal S8x2048x256 .f32) : FVec Ideal S8x4x2048x64 .f32 :=
  Host.dotGeneral dot_S8x4x2048x2048_S8x4x2048x64_S8x4x2048x64_3_2_2_3_01_01 none a
    (transpose S8x4x2048x64 [0, 2, 1, 3] (shapeCast _ v shapeCasts_S8x2048x256_S8x2048x4x64)
      transposes_S8x2048x4x64_S8x4x2048x64_0_2_1_3)

/-- The normalised rows, scaled. -/
def normed (o : FVec Ideal S8x4x2048x64 .f32) (g : FVec Ideal S64 .f32) : FVec Ideal S8x4x2048x64 .f32 :=
  mulf
    (mulf
      (mulf o
        (broadcastInDim S8x4x2048x64 ![0, 1, 2, 3] bcast_S8x4x2048x1_S8x4x2048x64_0_1_2_3
          (Host.rsqrt (addf
            (Host.divf
              (broadcastInDim S8x4x2048x1 ![0, 1, 2] bcast_S8x4x2048_S8x4x2048x1_0_1_2
                (Host.reduceAdd (mulf o o) (constant S_ .f32 0x00000000#32) reducesTo_S8x4x2048x64_S8x4x2048_d3 h_S_))
              (broadcastInDim S8x4x2048x1 ![] bcast_S_S8x4x2048x1 (constant S_ .f32 0x42800000#32)))
            (broadcastInDim S8x4x2048x1 ![] bcast_S_S8x4x2048x1 (constant S_ .f32 0x358637BD#32))))))
      (broadcastInDim S8x4x2048x64 ![0, 1, 2, 3] bcast_S1x1x1x64_S8x4x2048x64_0_1_2_3
        (broadcastInDim S1x1x1x64 ![3] bcast_S64_S1x1x1x64_3 g)))
    (broadcastInDim S8x4x2048x64 ![] bcast_S_S8x4x2048x64 (constant S_ .f32 0x3F4CCCCD#32))

/-- The heads side by side, as they are returned. -/
def joined (x : FVec Ideal S8x4x2048x64 .f32) : FVec Ideal S8x2048x256 .bf16 :=
  truncf .bf16 (shapeCast _ (transpose S8x2048x4x64 [0, 2, 1, 3] x transposes_S8x4x2048x64_S8x2048x4x64_0_2_1_3)
    shapeCasts_S8x2048x4x64_S8x2048x256) bitsLt_bf16_f32

/-- The reference's array of results, from its stages. -/
theorem result_stages (m : (ℓ : Loc nD τ sig) → Buf (Elt Ideal) ℓ) (c : Dev nD) :
    res_main_v70 m c = joined (normed (mix (diff (lam (m ((c.tc : Thread nD τ).loc main_arg3)))
      (probs (exps (scores (m ((c.tc : Thread nD τ).loc main_arg0)) (m ((c.tc : Thread nD τ).loc main_arg1))))))
      (m ((c.tc : Thread nD τ).loc main_arg2))) (m ((c.tc : Thread nD τ).loc main_arg4))) := by
  unfold res_main_v70
  rfl

theorem mask_at (b : Fin 8) (h : Fin 4) (u : Fin 2) (s k : Fin 2048) :
    mask (ix5 b h u s k) = if k.val ≤ s.val then 1#1 else 0#1 := by
  pointwise [mask]
  have hk := k.isLt
  have hs := s.isLt
  rw [cmpi_sge_ofNat (by omega) (by omega)]
  by_cases h : k.val ≤ s.val
  · rw [if_pos h, decide_eq_true h]; rfl
  · rw [if_neg h, decide_eq_false h]; rfl

theorem halves_at (x : FVec Ideal S8x2048x256 .f32) (b : Fin 8) (h : Fin 4) (u : Fin 2) (s : Fin 2048) (d : Fin 32) :
    (halves x (ix5 b h u s d) : EReal) = x (ix3 b s ⟨64 * h.val + 32 * u.val + d.val, by omega⟩) := by
  pointwise [halves]
  blk_ext []

theorem raw_at (q k : FVec Ideal S8x2048x256 .f32) (b : Fin 8) (h : Fin 4) (u : Fin 2) (s p : Fin 2048) :
    (raw q k (ix5 b h u s p) : EReal)
      = Ideal.div (∑ d : Fin 32, (halves q (ix5 b h u s d) : EReal) * halves k (ix5 b h u p d))
          (Ideal.sqrt (Ideal.ofBits .f32 0x42000000#32)) := by
  pointwise [raw]

theorem scores_at (q k : FVec Ideal S8x2048x256 .f32) (b : Fin 8) (h : Fin 4) (u : Fin 2) (s p : Fin 2048) :
    (scores q k (ix5 b h u s p) : EReal)
      = Scalar.select (mask (ix5 b h u s p)) (raw q k (ix5 b h u s p) : EReal) (Ideal.ofBits .f32 0xFF800000#32) := by
  pointwise [scores]
  rfl

theorem rowMax_at (t : FVec Ideal S8x4x2x2048x2048 .f32) (b : Fin 8) (h : Fin 4) (u : Fin 2) (s : Fin 2048) :
    (rowMax t (ix4 b h u s) : EReal)
      = Finset.univ.fold max (Ideal.ofBits .f32 0xFF800000#32) fun k : Fin 2048 => (t (ix5 b h u s k) : EReal) := by
  unfold rowMax
  rw [hostReduce_maximumf_eq_multiReduction t 0xFF800000#32 reducesTo_S8x4x2x2048x2048_S8x4x2x2048_d4 h_S_ (by decide)
    (.inl rfl) rfl]
  pointwise []

theorem row_at (M : FVec Ideal S8x4x2x2048 .f32) (b : Fin 8) (h : Fin 4) (u : Fin 2) (s p : Fin 2048) :
    (broadcastInDim S8x4x2x2048x2048 ![0, 1, 2, 3, 4] bcast_S8x4x2x2048x1_S8x4x2x2048x2048_0_1_2_3_4
      (broadcastInDim S8x4x2x2048x1 ![0, 1, 2, 3] bcast_S8x4x2x2048_S8x4x2x2048x1_0_1_2_3 M) (ix5 b h u s p) : EReal)
      = M (ix4 b h u s) := by
  pointwise []

theorem most_at (M : FVec Ideal S8x4x2x2048 .f32) (i : S8x4x2x2048.Idx) :
    (maximumf (broadcastInDim S8x4x2x2048 ![] bcast_S_S8x4x2x2048 (constant S_ .f32 0xFF800000#32)) M i : EReal)
      = max (Ideal.ofBits .f32 0xFF800000#32) (M i : EReal) := by
  pointwise []

theorem exps_at (t : FVec Ideal S8x4x2x2048x2048 .f32) (b : Fin 8) (h : Fin 4) (u : Fin 2) (s p : Fin 2048) :
    (exps t (ix5 b h u s p) : EReal)
      = Ideal.exp ((t (ix5 b h u s p) : EReal) - max (Ideal.ofBits .f32 0xFF800000#32) (rowMax t (ix4 b h u s) : EReal)) := by
  unfold exps
  generalize rowMax t = M
  refine Eq.trans (b := Ideal.exp ((t (ix5 b h u s p) : EReal) - broadcastInDim S8x4x2x2048x2048 ![0, 1, 2, 3, 4]
    bcast_S8x4x2x2048x1_S8x4x2x2048x2048_0_1_2_3_4
      (broadcastInDim S8x4x2x2048x1 ![0, 1, 2, 3] bcast_S8x4x2x2048_S8x4x2x2048x1_0_1_2_3
        (maximumf (broadcastInDim S8x4x2x2048 ![] bcast_S_S8x4x2x2048 (constant S_ .f32 0xFF800000#32)) M))
      (ix5 b h u s p))) rfl ?_
  rw [row_at, most_at]

theorem probs_at (e : FVec Ideal S8x4x2x2048x2048 .f32) (b : Fin 8) (h : Fin 4) (u : Fin 2) (s p : Fin 2048) :
    (probs e (ix5 b h u s p) : EReal)
      = Scalar.select (mask (ix5 b h u s p))
          (Ideal.div (e (ix5 b h u s p)) (0 + ∑ k : Fin 2048, (e (ix5 b h u s k) : EReal))) 0 := by
  pointwise [probs]
  exact congrArg (Scalar.select _ _) Ideal.ofBits_zero_f32

theorem lam_at (x : FVec Ideal S4x32 .f32) :
    (lam x ix0 : EReal) = Ideal.exp (0 + ∑ j : Fin 32, (x (ix2 0 j) : EReal) * x (ix2 1 j))
      - Ideal.exp (0 + ∑ j : Fin 32, (x (ix2 2 j) : EReal) * x (ix2 3 j)) + Ideal.ofBits .f32 0x3E4CCCCD#32 := by
  pointwise [lam]

theorem diff_at (l : FVec Ideal S_ .f32) (p : FVec Ideal S8x4x2x2048x2048 .f32) (b : Fin 8) (h : Fin 4)
    (s k : Fin 2048) :
    (diff l p (ix4 b h s k) : EReal) = (p (ix5 b h 0 s k) : EReal) - (l ix0 : EReal) * p (ix5 b h 1 s k) := by
  pointwise [diff]

theorem mix_at (a : FVec Ideal S8x4x2048x2048 .f32) (v : FVec Ideal S8x2048x256 .f32) (b : Fin 8) (h : Fin 4)
    (s : Fin 2048) (d : Fin 64) :
    (mix a v (ix4 b h s d) : EReal)
      = ∑ k : Fin 2048, (a (ix4 b h s k) : EReal) * v (ix3 b k ⟨64 * h.val + d.val, by omega⟩) := by
  pointwise [mix]
  blk_point []

theorem normed_at (o : FVec Ideal S8x4x2048x64 .f32) (g : FVec Ideal S64 .f32) (b : Fin 8) (h : Fin 4)
    (s : Fin 2048) (d : Fin 64) :
    (normed o g (ix4 b h s d) : EReal)
      = o (ix4 b h s d)
        * Ideal.rsqrt (Ideal.div (0 + ∑ e : Fin 64, (o (ix4 b h s e) : EReal) * o (ix4 b h s e))
            (Ideal.ofBits .f32 0x42800000#32) + Ideal.ofBits .f32 0x358637BD#32)
        * g (ix1 d) * Ideal.ofBits .f32 0x3F4CCCCD#32 := by
  pointwise [normed]

theorem joined_at (x : FVec Ideal S8x4x2048x64 .f32) (b : Fin 8) (h : Fin 4) (s : Fin 2048) (d : Fin 64) :
    (joined x (ix3 b s ⟨64 * h.val + d.val, by omega⟩) : EReal) = x (ix4 b h s d) := by
  pointwise [joined]
  blk_ext []

end Cert.Dense

end
-- ==== Proof.Attn.Step.lean ====
/- One tile of 256 keys against one chunk of 256 query columns, as the kernel's body computes it, at any float
   semantics: the tile of scores, the new running maximum, the new running sums; and the loads and stores of a chunk of
   the running state. -/
module

public import proofs.«01_k».proof.Proof.Gen.KernelIdeal.Loops
public import Idealize.ShloMosaic.Lib.WritesUnit

@[expose] public section

set_option maxRecDepth 16384

noncomputable section

namespace Cert.Attn

open Idealize.ShloMosaic Idealize.ShloMosaic.TcCoe Cert.KernelIdeal Cert.KernelIdeal.Gen

variable {F : FTy → Type} [FloatOps F] [Named F]

/-- The scores of a tile of keys (rows) against a chunk of query columns (columns). -/
def scoreTile (k q : Vec F S256x64 .bf16) : FVec F S256x256 .f32 :=
  matmul dot_S256x64_S256x64_S256x256_1_1_0_0_n_n none k q (constant S256x256 .f32 0x00000000#32)

/-- The running maximum after a tile of scores, as a row. -/
def rowM (s : FVec F S256x256 .f32) (m : Vec F S1x1x256 .f32) : FVec F S1x256 .f32 :=
  maximumf (shapeCast S1x256 m shapeCasts_S1x1x256_S1x256)
    (shapeCast S1x256 (multiReduction .maximumf [0] S256 s 0xFF800000#32 reduces_S256x256_S256 (.inl rfl) rfl)
      shapeCasts_S256_S1x256)

/-- The running maximum after a tile of scores, as it is stored. -/
def newM (s : FVec F S256x256 .f32) (m : Vec F S1x1x256 .f32) : Vec F S1x1x256 .f32 :=
  shapeCast S1x1x256 (rowM s m) shapeCasts_S1x256_S1x1x256

/-- Sixteen rows, the first all ones and the others all zeros: below the values they sum the weights. -/
def onesRows : FVec F S16x256 .bf16 :=
  truncf .bf16 (select (cmpi .eq (iota .tc S16x256 32 [0] iota_S16x256_d0_w32) (broadcast S16x256 0#32))
    (broadcast S16x256 (Scalar.ofBits .f32 0x3F800000#32 : F .f32))
    (broadcast S16x256 (Scalar.ofBits .f32 0x00000000#32 : F .f32))) bitsLt_bf16_f32

/-- The running sums after a tile of scores, with the tile's transposed values `vt`. -/
def newA (s : FVec F S256x256 .f32) (m : Vec F S1x1x256 .f32) (vt : FVec F S64x256 .bf16)
    (a : Vec F S1x80x256 .f32) : Vec F S1x80x256 .f32 :=
  shapeCast S1x80x256
    (addf
      (mulf
        (broadcastTo S80x256 (exp2 (subf (shapeCast S1x256 m shapeCasts_S1x1x256_S1x256) (rowM s m)))
          broadcasts_S1x256_S80x256)
        (shapeCast S80x256 a shapeCasts_S1x80x256_S80x256))
      (matmul dot_S80x256_S256x256_S80x256_1_0_0_1_n_n none
        (concatenate S80x256 0 [⟨S64x256, vt⟩, ⟨S16x256, onesRows⟩] concatenates_S64x256_S16x256_S80x256_d0)
        (truncf .bf16 (exp2 (subf s (broadcastTo S256x256 (rowM s m) broadcasts_S1x256_S256x256))) bitsLt_bf16_f32)
        (constant S80x256 .f32 0x00000000#32)))
    shapeCasts_S80x256_S1x80x256

/-! ## A chunk of the running state -/

theorem inbM (c : Fin 8) : ∀ a, (![c.val, 0, 0] : Fin 3 → ℕ) a + S1x1x256.size a ≤ S8x1x256.size a := by
  revert c; decide

theorem inbA (c : Fin 8) : ∀ a, (![c.val, 0, 0] : Fin 3 → ℕ) a + S1x80x256.size a ≤ S8x80x256.size a := by
  revert c; decide

/-- The maxima of chunk `c` in the contents `f`. -/
def mAt (r : Memref sig .tc .vmem S8x1x256 .f32) (f : BufTy.Contents (Elt F) r.view.ty) (c : Fin 8) :
    Vec F S1x1x256 .f32 :=
  View.readAt (Elt F) r.view (Rect.unit (s := S8x1x256) ![c.val, 0, 0] S1x1x256.size (inbM c)).toLoadRect f

/-- The sums of chunk `c` in the contents `f`. -/
def aAt (r : Memref sig .tc .vmem S8x80x256 .f32) (f : BufTy.Contents (Elt F) r.view.ty) (c : Fin 8) :
    Vec F S1x80x256 .f32 :=
  View.readAt (Elt F) r.view (Rect.unit (s := S8x80x256) ![c.val, 0, 0] S1x80x256.size (inbA c)).toLoadRect f

/-- A chunk just stored is read back. -/
theorem mAt_hit (r : Memref sig .tc .vmem S8x1x256 .f32) (f : BufTy.Contents (Elt F) r.view.ty) (c : Fin 8)
    (w : Vec F S1x1x256 .f32) (L : List (View.Piece (Elt F) S8x1x256 .f32)) :
    mAt r (r.view.writes (Elt F) f (⟨Rect.unit (s := S8x1x256) ![c.val, 0, 0] S1x1x256.size (inbM c), w⟩ :: L)) c
      = w :=
  funext fun x => View.read_writes_cons_emb r.view f (Rect.unit (s := S8x1x256) ![c.val, 0, 0] S1x1x256.size (inbM c)) w L x

/-- A chunk is not changed by a store of another. -/
theorem mAt_miss (r : Memref sig .tc .vmem S8x1x256 .f32) (f : BufTy.Contents (Elt F) r.view.ty) (c d : Fin 8)
    (h : d ≠ c) (w : Vec F S1x1x256 .f32) (L : List (View.Piece (Elt F) S8x1x256 .f32)) :
    mAt r (r.view.writes (Elt F) f (⟨Rect.unit (s := S8x1x256) ![d.val, 0, 0] S1x1x256.size (inbM d), w⟩ :: L)) c
      = mAt r (r.view.writes (Elt F) f L) c :=
  funext fun x => View.read_writes_cons_unit_of_not_mem r.view f (inbM d) w L _ rfl 0 (by
    have hx : (x 0).val < 1 := (x 0).isLt
    have hd : d.val ≠ c.val := fun h' => h (Fin.ext h')
    show c.val + 1 * (x 0).val < d.val ∨ d.val + 1 ≤ c.val + 1 * (x 0).val
    omega)

/-- A chunk just stored is read back. -/
theorem aAt_hit (r : Memref sig .tc .vmem S8x80x256 .f32) (f : BufTy.Contents (Elt F) r.view.ty) (c : Fin 8)
    (w : Vec F S1x80x256 .f32) (L : List (View.Piece (Elt F) S8x80x256 .f32)) :
    aAt r (r.view.writes (Elt F) f (⟨Rect.unit (s := S8x80x256) ![c.val, 0, 0] S1x80x256.size (inbA c), w⟩ :: L)) c
      = w :=
  funext fun x => View.read_writes_cons_emb r.view f (Rect.unit (s := S8x80x256) ![c.val, 0, 0] S1x80x256.size (inbA c)) w L x

/-- A chunk is not changed by a store of another. -/
theorem aAt_miss (r : Memref sig .tc .vmem S8x80x256 .f32) (f : BufTy.Contents (Elt F) r.view.ty) (c d : Fin 8)
    (h : d ≠ c) (w : Vec F S1x80x256 .f32) (L : List (View.Piece (Elt F) S8x80x256 .f32)) :
    aAt r (r.view.writes (Elt F) f (⟨Rect.unit (s := S8x80x256) ![d.val, 0, 0] S1x80x256.size (inbA d), w⟩ :: L)) c
      = aAt r (r.view.writes (Elt F) f L) c :=
  funext fun x => View.read_writes_cons_unit_of_not_mem r.view f (inbA d) w L _ rfl 0 (by
    have hx : (x 0).val < 1 := (x 0).isLt
    have hd : d.val ≠ c.val := fun h' => h (Fin.ext h')
    show c.val + 1 * (x 0).val < d.val ∨ d.val + 1 ≤ c.val + 1 * (x 0).val
    omega)

/-! ## The tiles read -/

theorem inbK (hd : Fin 4) (j : Fin 8) :
    ∀ a, (![0, hd.val, 256 * j.val, 0] : Fin 4 → ℕ) a + S1x1x256x64.size a ≤ S1x4x2048x64.size a := by
  revert hd j; decide +kernel

theorem inbV (hd : Fin 4) (j : Fin 8) :
    ∀ a, (![0, hd.val, j.val, 0, 0] : Fin 5 → ℕ) a + S1x1x1x64x256.size a ≤ S1x4x8x64x256.size a := by
  revert hd j; decide +kernel

theorem inbQ (c : Fin 8) : ∀ a, (![256 * c.val, 0] : Fin 2 → ℕ) a + S256x64.size a ≤ S2048x64.size a := by
  revert c; decide +kernel

/-- Tile `j` of head `hd`'s keys. -/
def kTile (r : Memref sig .tc .vmem S1x4x2048x64 .bf16) (X : BufTy.Contents (Elt F) r.view.ty) (hd : Fin 4)
    (j : Fin 8) : Vec F S256x64 .bf16 :=
  shapeCast S256x64 (View.readAt (Elt F) r.view
    (Rect.unit (s := S1x4x2048x64) ![0, hd.val, 256 * j.val, 0] S1x1x256x64.size (inbK hd j)).toLoadRect X)
    shapeCasts_S1x1x256x64_S256x64

/-- Tile `j` of head `hd`'s values, transposed. -/
def vTile (r : Memref sig .tc .vmem S1x4x8x64x256 .bf16) (X : BufTy.Contents (Elt F) r.view.ty) (hd : Fin 4)
    (j : Fin 8) : Vec F S64x256 .bf16 :=
  shapeCast S64x256 (View.readAt (Elt F) r.view
    (Rect.unit (s := S1x4x8x64x256) ![0, hd.val, j.val, 0, 0] S1x1x1x64x256.size (inbV hd j)).toLoadRect X)
    shapeCasts_S1x1x1x64x256_S64x256

/-- Chunk `c` of the masked queries. -/
def qChunk (r : Memref sig .tc .vmem S2048x64 .bf16) (X : BufTy.Contents (Elt F) r.view.ty) (c : Fin 8) :
    Vec F S256x64 .bf16 :=
  View.readAt (Elt F) r.view (Rect.unit (s := S2048x64) ![256 * c.val, 0] S256x64.size (inbQ c)).toLoadRect X

theorem kTile_of (r : Memref sig .tc .vmem S1x4x2048x64 .bf16) (X : BufTy.Contents (Elt F) r.view.ty) (hd : Fin 4)
    (j : Fin 8) (off : Fin 4 → ℕ) (inb : ∀ a, off a + S1x1x256x64.size a ≤ S1x4x2048x64.size a)
    (h : off = ![0, hd.val, 256 * j.val, 0]) :
    shapeCast S256x64 (View.readAt (Elt F) r.view
      (Rect.unit (s := S1x4x2048x64) off S1x1x256x64.size inb).toLoadRect X) shapeCasts_S1x1x256x64_S256x64
      = kTile r X hd j := by
  subst h; rfl

theorem vTile_of (r : Memref sig .tc .vmem S1x4x8x64x256 .bf16) (X : BufTy.Contents (Elt F) r.view.ty) (hd : Fin 4)
    (j : Fin 8) (off : Fin 5 → ℕ) (inb : ∀ a, off a + S1x1x1x64x256.size a ≤ S1x4x8x64x256.size a)
    (h : off = ![0, hd.val, j.val, 0, 0]) :
    shapeCast S64x256 (View.readAt (Elt F) r.view
      (Rect.unit (s := S1x4x8x64x256) off S1x1x1x64x256.size inb).toLoadRect X) shapeCasts_S1x1x1x64x256_S64x256
      = vTile r X hd j := by
  subst h; rfl

/-- The head a chunk of query columns belongs to: two chunks a head, one for each half of its queries. -/
def headOf (c : Fin 8) : Fin 4 := ⟨c.val / 2, by omega⟩

end Cert.Attn

end
-- ==== Proof.Attn.Trip.lean ====
/- What one trip of the loop over pairs of key tiles leaves in each chunk of the running state: two tiles' steps. -/
module

public import proofs.«01_k».proof.Proof.Attn.Step

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

/-! The offsets of a trip's loads: tile `2k` and tile `2k + 1` of each head. -/

theorem kOff_even : ∀ (i : grid0.Coords) (k : Fin (k0_t1_loop i).trips),
    k0_off1 i k = ![0, 0, 256 * (2 * k.val), 0] ∧ k0_off3 i k = ![0, 1, 256 * (2 * k.val), 0]
      ∧ k0_off5 i k = ![0, 2, 256 * (2 * k.val), 0] ∧ k0_off7 i k = ![0, 3, 256 * (2 * k.val), 0] := by
  decide +kernel

theorem kOff_odd : ∀ (i : grid0.Coords) (k : Fin (k0_t1_loop i).trips),
    k0_off9 i k = ![0, 0, 256 * (2 * k.val + 1), 0] ∧ k0_off11 i k = ![0, 1, 256 * (2 * k.val + 1), 0]
      ∧ k0_off13 i k = ![0, 2, 256 * (2 * k.val + 1), 0] ∧ k0_off15 i k = ![0, 3, 256 * (2 * k.val + 1), 0] := by
  decide +kernel

theorem vOff_even : ∀ (i : grid0.Coords) (k : Fin (k0_t1_loop i).trips),
    k0_off2 i k = ![0, 0, 2 * k.val, 0, 0] ∧ k0_off4 i k = ![0, 1, 2 * k.val, 0, 0]
      ∧ k0_off6 i k = ![0, 2, 2 * k.val, 0, 0] ∧ k0_off8 i k = ![0, 3, 2 * k.val, 0, 0] := by
  decide +kernel

theorem vOff_odd : ∀ (i : grid0.Coords) (k : Fin (k0_t1_loop i).trips),
    k0_off10 i k = ![0, 0, 2 * k.val + 1, 0, 0] ∧ k0_off12 i k = ![0, 1, 2 * k.val + 1, 0, 0]
      ∧ k0_off14 i k = ![0, 2, 2 * k.val + 1, 0, 0] ∧ k0_off16 i k = ![0, 3, 2 * k.val + 1, 0, 0] := by
  decide +kernel

theorem newA_congr {s : FVec F S256x256 .f32} {m m' : Vec F S1x1x256 .f32} {vt : FVec F S64x256 .bf16}
    {a a' : Vec F S1x80x256 .f32} (hm : m = m') (ha : a = a') : newA s m vt a = newA s m' vt a' := by
  rw [hm, ha]

section

variable (𝒱 : Variants) (c : Dev nD) (bd : Option 𝒱.V) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)
  (arg2 : BitVec 32) (X4 : BufTy.Contents (Elt F) arg4.view.ty) (X5 : BufTy.Contents (Elt F) arg5.view.ty)
  (X9 : BufTy.Contents (Elt F) arg9.view.ty)
  (k : Fin (k0_t1_loop i).trips) (f11 : BufTy.Contents (Elt F) arg11.view.ty)
  (f12 : BufTy.Contents (Elt F) arg12.view.ty) (j0 j1 : Fin 8) (h0 : j0.val = 2 * k.val) (h1 : j1.val = 2 * k.val + 1)

include h0 h1 in
/-- A trip's effect on chunk 0's maxima: the two tiles' steps. -/
theorem trip_m0 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 0
      = newM (scoreTile (kTile arg4 X4 0 j1) (qChunk arg9 X9 0))
          (newM (scoreTile (kTile arg4 X4 0 j0) (qChunk arg9 X9 0)) (mAt arg11 f11 0)) := by
  rw [← kTile_of arg4 X4 0 j0 _ (k0_off1_inb i k) (by rw [(kOff_even i k).1, h0]; rfl),
    ← kTile_of arg4 X4 0 j1 _ (k0_off9_inb i k) (by rw [(kOff_odd i k).1, h1]; rfl)]
  unfold trip_k0_t1
  refine (mAt_miss arg11 _ 0 7 (by decide) _ _).trans ?_
  refine (mAt_miss arg11 _ 0 6 (by decide) _ _).trans ?_
  refine (mAt_miss arg11 _ 0 5 (by decide) _ _).trans ?_
  refine (mAt_miss arg11 _ 0 4 (by decide) _ _).trans ?_
  refine (mAt_miss arg11 _ 0 3 (by decide) _ _).trans ?_
  refine (mAt_miss arg11 _ 0 2 (by decide) _ _).trans ?_
  refine (mAt_miss arg11 _ 0 1 (by decide) _ _).trans ?_
  refine (mAt_hit arg11 _ 0 _ _).trans (congrArg (newM _) ?_)
  refine (mAt_miss arg11 _ 0 7 (by decide) _ _).trans ?_
  refine (mAt_miss arg11 _ 0 6 (by decide) _ _).trans ?_
  refine (mAt_miss arg11 _ 0 5 (by decide) _ _).trans ?_
  refine (mAt_miss arg11 _ 0 4 (by decide) _ _).trans ?_
  refine (mAt_miss arg11 _ 0 3 (by decide) _ _).trans ?_
  refine (mAt_miss arg11 _ 0 2 (by decide) _ _).trans ?_
  refine (mAt_miss arg11 _ 0 1 (by decide) _ _).trans ?_
  exact mAt_hit arg11 _ 0 _ _

include h0 h1 in
/-- A trip's effect on chunk 0's sums: the two tiles' steps. -/
theorem trip_a0 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 0
      = newA (scoreTile (kTile arg4 X4 0 j1) (qChunk arg9 X9 0))
          (newM (scoreTile (kTile arg4 X4 0 j0) (qChunk arg9 X9 0)) (mAt arg11 f11 0)) (vTile arg5 X5 0 j1)
          (newA (scoreTile (kTile arg4 X4 0 j0) (qChunk arg9 X9 0)) (mAt arg11 f11 0)
            (vTile arg5 X5 0 j0) (aAt arg12 f12 0)) := by
  rw [← kTile_of arg4 X4 0 j0 _ (k0_off1_inb i k) (by rw [(kOff_even i k).1, h0]; rfl),
    ← kTile_of arg4 X4 0 j1 _ (k0_off9_inb i k) (by rw [(kOff_odd i k).1, h1]; rfl),
    ← vTile_of arg5 X5 0 j0 _ (k0_off2_inb i k) (by rw [(vOff_even i k).1, h0]; rfl),
    ← vTile_of arg5 X5 0 j1 _ (k0_off10_inb i k) (by rw [(vOff_odd i k).1, h1]; rfl)]
  unfold trip_k0_t1
  refine (aAt_miss arg12 _ 0 7 (by decide) _ _).trans ?_
  refine (aAt_miss arg12 _ 0 6 (by decide) _ _).trans ?_
  refine (aAt_miss arg12 _ 0 5 (by decide) _ _).trans ?_
  refine (aAt_miss arg12 _ 0 4 (by decide) _ _).trans ?_
  refine (aAt_miss arg12 _ 0 3 (by decide) _ _).trans ?_
  refine (aAt_miss arg12 _ 0 2 (by decide) _ _).trans ?_
  refine (aAt_miss arg12 _ 0 1 (by decide) _ _).trans ?_
  refine (aAt_hit arg12 _ 0 _ _).trans (newA_congr ?_ ?_)
  · refine (mAt_miss arg11 _ 0 7 (by decide) _ _).trans ?_
    refine (mAt_miss arg11 _ 0 6 (by decide) _ _).trans ?_
    refine (mAt_miss arg11 _ 0 5 (by decide) _ _).trans ?_
    refine (mAt_miss arg11 _ 0 4 (by decide) _ _).trans ?_
    refine (mAt_miss arg11 _ 0 3 (by decide) _ _).trans ?_
    refine (mAt_miss arg11 _ 0 2 (by decide) _ _).trans ?_
    refine (mAt_miss arg11 _ 0 1 (by decide) _ _).trans ?_
    exact mAt_hit arg11 _ 0 _ _
  · refine (aAt_miss arg12 _ 0 7 (by decide) _ _).trans ?_
    refine (aAt_miss arg12 _ 0 6 (by decide) _ _).trans ?_
    refine (aAt_miss arg12 _ 0 5 (by decide) _ _).trans ?_
    refine (aAt_miss arg12 _ 0 4 (by decide) _ _).trans ?_
    refine (aAt_miss arg12 _ 0 3 (by decide) _ _).trans ?_
    refine (aAt_miss arg12 _ 0 2 (by decide) _ _).trans ?_
    refine (aAt_miss arg12 _ 0 1 (by decide) _ _).trans ?_
    exact aAt_hit arg12 _ 0 _ _

include h0 h1 in
/-- A trip's effect on chunk 1's maxima: the two tiles' steps. -/
theorem trip_m1 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 1
      = newM (scoreTile (kTile arg4 X4 0 j1) (qChunk arg9 X9 1))
          (newM (scoreTile (kTile arg4 X4 0 j0) (qChunk arg9 X9 1)) (mAt arg11 f11 1)) := by
  rw [← kTile_of arg4 X4 0 j0 _ (k0_off1_inb i k) (by rw [(kOff_even i k).1, h0]; rfl),
    ← kTile_of arg4 X4 0 j1 _ (k0_off9_inb i k) (by rw [(kOff_odd i k).1, h1]; rfl)]
  unfold trip_k0_t1
  refine (mAt_miss arg11 _ 1 7 (by decide) _ _).trans ?_
  refine (mAt_miss arg11 _ 1 6 (by decide) _ _).trans ?_
  refine (mAt_miss arg11 _ 1 5 (by decide) _ _).trans ?_
  refine (mAt_miss arg11 _ 1 4 (by decide) _ _).trans ?_
  refine (mAt_miss arg11 _ 1 3 (by decide) _ _).trans ?_
  refine (mAt_miss arg11 _ 1 2 (by decide) _ _).trans ?_
  refine (mAt_hit arg11 _ 1 _ _).trans (congrArg (newM _) ?_)
  refine (mAt_miss arg11 _ 1 0 (by decide) _ _).trans ?_
  refine (mAt_miss arg11 _ 1 7 (by decide) _ _).trans ?_
  refine (mAt_miss arg11 _ 1 6 (by decide) _ _).trans ?_
  refine (mAt_miss arg11 _ 1 5 (by decide) _ _).trans ?_
  refine (mAt_miss arg11 _ 1 4 (by decide) _ _).trans ?_
  refine (mAt_miss arg11 _ 1 3 (by decide) _ _).trans ?_
  refine (mAt_miss arg11 _ 1 2 (by decide) _ _).trans ?_
  exact mAt_hit arg11 _ 1 _ _

include h0 h1 in
/-- A trip's effect on chunk 1's sums: the two tiles' steps. -/
theorem trip_a1 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 1
      = newA (scoreTile (kTile arg4 X4 0 j1) (qChunk arg9 X9 1))
          (newM (scoreTile (kTile arg4 X4 0 j0) (qChunk arg9 X9 1)) (mAt arg11 f11 1)) (vTile arg5 X5 0 j1)
          (newA (scoreTile (kTile arg4 X4 0 j0) (qChunk arg9 X9 1)) (mAt arg11 f11 1)
            (vTile arg5 X5 0 j0) (aAt arg12 f12 1)) := by
  rw [← kTile_of arg4 X4 0 j0 _ (k0_off1_inb i k) (by rw [(kOff_even i k).1, h0]; rfl),
    ← kTile_of arg4 X4 0 j1 _ (k0_off9_inb i k) (by rw [(kOff_odd i k).1, h1]; rfl),
    ← vTile_of arg5 X5 0 j0 _ (k0_off2_inb i k) (by rw [(vOff_even i k).1, h0]; rfl),
    ← vTile_of arg5 X5 0 j1 _ (k0_off10_inb i k) (by rw [(vOff_odd i k).1, h1]; rfl)]
  unfold trip_k0_t1
  refine (aAt_miss arg12 _ 1 7 (by decide) _ _).trans ?_
  refine (aAt_miss arg12 _ 1 6 (by decide) _ _).trans ?_
  refine (aAt_miss arg12 _ 1 5 (by decide) _ _).trans ?_
  refine (aAt_miss arg12 _ 1 4 (by decide) _ _).trans ?_
  refine (aAt_miss arg12 _ 1 3 (by decide) _ _).trans ?_
  refine (aAt_miss arg12 _ 1 2 (by decide) _ _).trans ?_
  refine (aAt_hit arg12 _ 1 _ _).trans (newA_congr ?_ ?_)
  · refine (mAt_miss arg11 _ 1 0 (by decide) _ _).trans ?_
    refine (mAt_miss arg11 _ 1 7 (by decide) _ _).trans ?_
    refine (mAt_miss arg11 _ 1 6 (by decide) _ _).trans ?_
    refine (mAt_miss arg11 _ 1 5 (by decide) _ _).trans ?_
    refine (mAt_miss arg11 _ 1 4 (by decide) _ _).trans ?_
    refine (mAt_miss arg11 _ 1 3 (by decide) _ _).trans ?_
    refine (mAt_miss arg11 _ 1 2 (by decide) _ _).trans ?_
    exact mAt_hit arg11 _ 1 _ _
  · refine (aAt_miss arg12 _ 1 0 (by decide) _ _).trans ?_
    refine (aAt_miss arg12 _ 1 7 (by decide) _ _).trans ?_
    refine (aAt_miss arg12 _ 1 6 (by decide) _ _).trans ?_
    refine (aAt_miss arg12 _ 1 5 (by decide) _ _).trans ?_
    refine (aAt_miss arg12 _ 1 4 (by decide) _ _).trans ?_
    refine (aAt_miss arg12 _ 1 3 (by decide) _ _).trans ?_
    refine (aAt_miss arg12 _ 1 2 (by decide) _ _).trans ?_
    exact aAt_hit arg12 _ 1 _ _

include h0 h1 in
/-- A trip's effect on chunk 2's maxima: the two tiles' steps. -/
theorem trip_m2 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 2
      = newM (scoreTile (kTile arg4 X4 1 j1) (qChunk arg9 X9 2))
          (newM (scoreTile (kTile arg4 X4 1 j0) (qChunk arg9 X9 2)) (mAt arg11 f11 2)) := by
  rw [← kTile_of arg4 X4 1 j0 _ (k0_off3_inb i k) (by rw [(kOff_even i k).2.1, h0]; rfl),
    ← kTile_of arg4 X4 1 j1 _ (k0_off11_inb i k) (by rw [(kOff_odd i k).2.1, h1]; rfl)]
  unfold trip_k0_t1
  refine (mAt_miss arg11 _ 2 7 (by decide) _ _).trans ?_
  refine (mAt_miss arg11 _ 2 6 (by decide) _ _).trans ?_
  refine (mAt_miss arg11 _ 2 5 (by decide) _ _).trans ?_
  refine (mAt_miss arg11 _ 2 4 (by decide) _ _).trans ?_
  refine (mAt_miss arg11 _ 2 3 (by decide) _ _).trans ?_
  refine (mAt_hit arg11 _ 2 _ _).trans (congrArg (newM _) ?_)
  refine (mAt_miss arg11 _ 2 1 (by decide) _ _).trans ?_
  refine (mAt_miss arg11 _ 2 0 (by decide) _ _).trans ?_
  refine (mAt_miss arg11 _ 2 7 (by decide) _ _).trans ?_
  refine (mAt_miss arg11 _ 2 6 (by decide) _ _).trans ?_
  refine (mAt_miss arg11 _ 2 5 (by decide) _ _).trans ?_
  refine (mAt_miss arg11 _ 2 4 (by decide) _ _).trans ?_
  refine (mAt_miss arg11 _ 2 3 (by decide) _ _).trans ?_
  exact mAt_hit arg11 _ 2 _ _

include h0 h1 in
/-- A trip's effect on chunk 2's sums: the two tiles' steps. -/
theorem trip_a2 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 2
      = newA (scoreTile (kTile arg4 X4 1 j1) (qChunk arg9 X9 2))
          (newM (scoreTile (kTile arg4 X4 1 j0) (qChunk arg9 X9 2)) (mAt arg11 f11 2)) (vTile arg5 X5 1 j1)
          (newA (scoreTile (kTile arg4 X4 1 j0) (qChunk arg9 X9 2)) (mAt arg11 f11 2)
            (vTile arg5 X5 1 j0) (aAt arg12 f12 2)) := by
  rw [← kTile_of arg4 X4 1 j0 _ (k0_off3_inb i k) (by rw [(kOff_even i k).2.1, h0]; rfl),
    ← kTile_of arg4 X4 1 j1 _ (k0_off11_inb i k) (by rw [(kOff_odd i k).2.1, h1]; rfl),
    ← vTile_of arg5 X5 1 j0 _ (k0_off4_inb i k) (by rw [(vOff_even i k).2.1, h0]; rfl),
    ← vTile_of arg5 X5 1 j1 _ (k0_off12_inb i k) (by rw [(vOff_odd i k).2.1, h1]; rfl)]
  unfold trip_k0_t1
  refine (aAt_miss arg12 _ 2 7 (by decide) _ _).trans ?_
  refine (aAt_miss arg12 _ 2 6 (by decide) _ _).trans ?_
  refine (aAt_miss arg12 _ 2 5 (by decide) _ _).trans ?_
  refine (aAt_miss arg12 _ 2 4 (by decide) _ _).trans ?_
  refine (aAt_miss arg12 _ 2 3 (by decide) _ _).trans ?_
  refine (aAt_hit arg12 _ 2 _ _).trans (newA_congr ?_ ?_)
  · refine (mAt_miss arg11 _ 2 1 (by decide) _ _).trans ?_
    refine (mAt_miss arg11 _ 2 0 (by decide) _ _).trans ?_
    refine (mAt_miss arg11 _ 2 7 (by decide) _ _).trans ?_
    refine (mAt_miss arg11 _ 2 6 (by decide) _ _).trans ?_
    refine (mAt_miss arg11 _ 2 5 (by decide) _ _).trans ?_
    refine (mAt_miss arg11 _ 2 4 (by decide) _ _).trans ?_
    refine (mAt_miss arg11 _ 2 3 (by decide) _ _).trans ?_
    exact mAt_hit arg11 _ 2 _ _
  · refine (aAt_miss arg12 _ 2 1 (by decide) _ _).trans ?_
    refine (aAt_miss arg12 _ 2 0 (by decide) _ _).trans ?_
    refine (aAt_miss arg12 _ 2 7 (by decide) _ _).trans ?_
    refine (aAt_miss arg12 _ 2 6 (by decide) _ _).trans ?_
    refine (aAt_miss arg12 _ 2 5 (by decide) _ _).trans ?_
    refine (aAt_miss arg12 _ 2 4 (by decide) _ _).trans ?_
    refine (aAt_miss arg12 _ 2 3 (by decide) _ _).trans ?_
    exact aAt_hit arg12 _ 2 _ _

include h0 h1 in
/-- A trip's effect on chunk 3's maxima: the two tiles' steps. -/
theorem trip_m3 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 3
      = newM (scoreTile (kTile arg4 X4 1 j1) (qChunk arg9 X9 3))
          (newM (scoreTile (kTile arg4 X4 1 j0) (qChunk arg9 X9 3)) (mAt arg11 f11 3)) := by
  rw [← kTile_of arg4 X4 1 j0 _ (k0_off3_inb i k) (by rw [(kOff_even i k).2.1, h0]; rfl),
    ← kTile_of arg4 X4 1 j1 _ (k0_off11_inb i k) (by rw [(kOff_odd i k).2.1, h1]; rfl)]
  unfold trip_k0_t1
  refine (mAt_miss arg11 _ 3 7 (by decide) _ _).trans ?_
  refine (mAt_miss arg11 _ 3 6 (by decide) _ _).trans ?_
  refine (mAt_miss arg11 _ 3 5 (by decide) _ _).trans ?_
  refine (mAt_miss arg11 _ 3 4 (by decide) _ _).trans ?_
  refine (mAt_hit arg11 _ 3 _ _).trans (congrArg (newM _) ?_)
  refine (mAt_miss arg11 _ 3 2 (by decide) _ _).trans ?_
  refine (mAt_miss arg11 _ 3 1 (by decide) _ _).trans ?_
  refine (mAt_miss arg11 _ 3 0 (by decide) _ _).trans ?_
  refine (mAt_miss arg11 _ 3 7 (by decide) _ _).trans ?_
  refine (mAt_miss arg11 _ 3 6 (by decide) _ _).trans ?_
  refine (mAt_miss arg11 _ 3 5 (by decide) _ _).trans ?_
  refine (mAt_miss arg11 _ 3 4 (by decide) _ _).trans ?_
  exact mAt_hit arg11 _ 3 _ _

include h0 h1 in
/-- A trip's effect on chunk 3's sums: the two tiles' steps. -/
theorem trip_a3 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 3
      = newA (scoreTile (kTile arg4 X4 1 j1) (qChunk arg9 X9 3))
          (newM (scoreTile (kTile arg4 X4 1 j0) (qChunk arg9 X9 3)) (mAt arg11 f11 3)) (vTile arg5 X5 1 j1)
          (newA (scoreTile (kTile arg4 X4 1 j0) (qChunk arg9 X9 3)) (mAt arg11 f11 3)
            (vTile arg5 X5 1 j0) (aAt arg12 f12 3)) := by
  rw [← kTile_of arg4 X4 1 j0 _ (k0_off3_inb i k) (by rw [(kOff_even i k).2.1, h0]; rfl),
    ← kTile_of arg4 X4 1 j1 _ (k0_off11_inb i k) (by rw [(kOff_odd i k).2.1, h1]; rfl),
    ← vTile_of arg5 X5 1 j0 _ (k0_off4_inb i k) (by rw [(vOff_even i k).2.1, h0]; rfl),
    ← vTile_of arg5 X5 1 j1 _ (k0_off12_inb i k) (by rw [(vOff_odd i k).2.1, h1]; rfl)]
  unfold trip_k0_t1
  refine (aAt_miss arg12 _ 3 7 (by decide) _ _).trans ?_
  refine (aAt_miss arg12 _ 3 6 (by decide) _ _).trans ?_
  refine (aAt_miss arg12 _ 3 5 (by decide) _ _).trans ?_
  refine (aAt_miss arg12 _ 3 4 (by decide) _ _).trans ?_
  refine (aAt_hit arg12 _ 3 _ _).trans (newA_congr ?_ ?_)
  · refine (mAt_miss arg11 _ 3 2 (by decide) _ _).trans ?_
    refine (mAt_miss arg11 _ 3 1 (by decide) _ _).trans ?_
    refine (mAt_miss arg11 _ 3 0 (by decide) _ _).trans ?_
    refine (mAt_miss arg11 _ 3 7 (by decide) _ _).trans ?_
    refine (mAt_miss arg11 _ 3 6 (by decide) _ _).trans ?_
    refine (mAt_miss arg11 _ 3 5 (by decide) _ _).trans ?_
    refine (mAt_miss arg11 _ 3 4 (by decide) _ _).trans ?_
    exact mAt_hit arg11 _ 3 _ _
  · refine (aAt_miss arg12 _ 3 2 (by decide) _ _).trans ?_
    refine (aAt_miss arg12 _ 3 1 (by decide) _ _).trans ?_
    refine (aAt_miss arg12 _ 3 0 (by decide) _ _).trans ?_
    refine (aAt_miss arg12 _ 3 7 (by decide) _ _).trans ?_
    refine (aAt_miss arg12 _ 3 6 (by decide) _ _).trans ?_
    refine (aAt_miss arg12 _ 3 5 (by decide) _ _).trans ?_
    refine (aAt_miss arg12 _ 3 4 (by decide) _ _).trans ?_
    exact aAt_hit arg12 _ 3 _ _

include h0 h1 in
/-- A trip's effect on chunk 4's maxima: the two tiles' steps. -/
theorem trip_m4 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 4
      = newM (scoreTile (kTile arg4 X4 2 j1) (qChunk arg9 X9 4))
          (newM (scoreTile (kTile arg4 X4 2 j0) (qChunk arg9 X9 4)) (mAt arg11 f11 4)) := by
  rw [← kTile_of arg4 X4 2 j0 _ (k0_off5_inb i k) (by rw [(kOff_even i k).2.2.1, h0]; rfl),
    ← kTile_of arg4 X4 2 j1 _ (k0_off13_inb i k) (by rw [(kOff_odd i k).2.2.1, h1]; rfl)]
  unfold trip_k0_t1
  refine (mAt_miss arg11 _ 4 7 (by decide) _ _).trans ?_
  refine (mAt_miss arg11 _ 4 6 (by decide) _ _).trans ?_
  refine (mAt_miss arg11 _ 4 5 (by decide) _ _).trans ?_
  refine (mAt_hit arg11 _ 4 _ _).trans (congrArg (newM _) ?_)
  refine (mAt_miss arg11 _ 4 3 (by decide) _ _).trans ?_
  refine (mAt_miss arg11 _ 4 2 (by decide) _ _).trans ?_
  refine (mAt_miss arg11 _ 4 1 (by decide) _ _).trans ?_
  refine (mAt_miss arg11 _ 4 0 (by decide) _ _).trans ?_
  refine (mAt_miss arg11 _ 4 7 (by decide) _ _).trans ?_
  refine (mAt_miss arg11 _ 4 6 (by decide) _ _).trans ?_
  refine (mAt_miss arg11 _ 4 5 (by decide) _ _).trans ?_
  exact mAt_hit arg11 _ 4 _ _

include h0 h1 in
/-- A trip's effect on chunk 4's sums: the two tiles' steps. -/
theorem trip_a4 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 4
      = newA (scoreTile (kTile arg4 X4 2 j1) (qChunk arg9 X9 4))
          (newM (scoreTile (kTile arg4 X4 2 j0) (qChunk arg9 X9 4)) (mAt arg11 f11 4)) (vTile arg5 X5 2 j1)
          (newA (scoreTile (kTile arg4 X4 2 j0) (qChunk arg9 X9 4)) (mAt arg11 f11 4)
            (vTile arg5 X5 2 j0) (aAt arg12 f12 4)) := by
  rw [← kTile_of arg4 X4 2 j0 _ (k0_off5_inb i k) (by rw [(kOff_even i k).2.2.1, h0]; rfl),
    ← kTile_of arg4 X4 2 j1 _ (k0_off13_inb i k) (by rw [(kOff_odd i k).2.2.1, h1]; rfl),
    ← vTile_of arg5 X5 2 j0 _ (k0_off6_inb i k) (by rw [(vOff_even i k).2.2.1, h0]; rfl),
    ← vTile_of arg5 X5 2 j1 _ (k0_off14_inb i k) (by rw [(vOff_odd i k).2.2.1, h1]; rfl)]
  unfold trip_k0_t1
  refine (aAt_miss arg12 _ 4 7 (by decide) _ _).trans ?_
  refine (aAt_miss arg12 _ 4 6 (by decide) _ _).trans ?_
  refine (aAt_miss arg12 _ 4 5 (by decide) _ _).trans ?_
  refine (aAt_hit arg12 _ 4 _ _).trans (newA_congr ?_ ?_)
  · refine (mAt_miss arg11 _ 4 3 (by decide) _ _).trans ?_
    refine (mAt_miss arg11 _ 4 2 (by decide) _ _).trans ?_
    refine (mAt_miss arg11 _ 4 1 (by decide) _ _).trans ?_
    refine (mAt_miss arg11 _ 4 0 (by decide) _ _).trans ?_
    refine (mAt_miss arg11 _ 4 7 (by decide) _ _).trans ?_
    refine (mAt_miss arg11 _ 4 6 (by decide) _ _).trans ?_
    refine (mAt_miss arg11 _ 4 5 (by decide) _ _).trans ?_
    exact mAt_hit arg11 _ 4 _ _
  · refine (aAt_miss arg12 _ 4 3 (by decide) _ _).trans ?_
    refine (aAt_miss arg12 _ 4 2 (by decide) _ _).trans ?_
    refine (aAt_miss arg12 _ 4 1 (by decide) _ _).trans ?_
    refine (aAt_miss arg12 _ 4 0 (by decide) _ _).trans ?_
    refine (aAt_miss arg12 _ 4 7 (by decide) _ _).trans ?_
    refine (aAt_miss arg12 _ 4 6 (by decide) _ _).trans ?_
    refine (aAt_miss arg12 _ 4 5 (by decide) _ _).trans ?_
    exact aAt_hit arg12 _ 4 _ _

include h0 h1 in
/-- A trip's effect on chunk 5's maxima: the two tiles' steps. -/
theorem trip_m5 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 5
      = newM (scoreTile (kTile arg4 X4 2 j1) (qChunk arg9 X9 5))
          (newM (scoreTile (kTile arg4 X4 2 j0) (qChunk arg9 X9 5)) (mAt arg11 f11 5)) := by
  rw [← kTile_of arg4 X4 2 j0 _ (k0_off5_inb i k) (by rw [(kOff_even i k).2.2.1, h0]; rfl),
    ← kTile_of arg4 X4 2 j1 _ (k0_off13_inb i k) (by rw [(kOff_odd i k).2.2.1, h1]; rfl)]
  unfold trip_k0_t1
  refine (mAt_miss arg11 _ 5 7 (by decide) _ _).trans ?_
  refine (mAt_miss arg11 _ 5 6 (by decide) _ _).trans ?_
  refine (mAt_hit arg11 _ 5 _ _).trans (congrArg (newM _) ?_)
  refine (mAt_miss arg11 _ 5 4 (by decide) _ _).trans ?_
  refine (mAt_miss arg11 _ 5 3 (by decide) _ _).trans ?_
  refine (mAt_miss arg11 _ 5 2 (by decide) _ _).trans ?_
  refine (mAt_miss arg11 _ 5 1 (by decide) _ _).trans ?_
  refine (mAt_miss arg11 _ 5 0 (by decide) _ _).trans ?_
  refine (mAt_miss arg11 _ 5 7 (by decide) _ _).trans ?_
  refine (mAt_miss arg11 _ 5 6 (by decide) _ _).trans ?_
  exact mAt_hit arg11 _ 5 _ _

include h0 h1 in
/-- A trip's effect on chunk 5's sums: the two tiles' steps. -/
theorem trip_a5 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 5
      = newA (scoreTile (kTile arg4 X4 2 j1) (qChunk arg9 X9 5))
          (newM (scoreTile (kTile arg4 X4 2 j0) (qChunk arg9 X9 5)) (mAt arg11 f11 5)) (vTile arg5 X5 2 j1)
          (newA (scoreTile (kTile arg4 X4 2 j0) (qChunk arg9 X9 5)) (mAt arg11 f11 5)
            (vTile arg5 X5 2 j0) (aAt arg12 f12 5)) := by
  rw [← kTile_of arg4 X4 2 j0 _ (k0_off5_inb i k) (by rw [(kOff_even i k).2.2.1, h0]; rfl),
    ← kTile_of arg4 X4 2 j1 _ (k0_off13_inb i k) (by rw [(kOff_odd i k).2.2.1, h1]; rfl),
    ← vTile_of arg5 X5 2 j0 _ (k0_off6_inb i k) (by rw [(vOff_even i k).2.2.1, h0]; rfl),
    ← vTile_of arg5 X5 2 j1 _ (k0_off14_inb i k) (by rw [(vOff_odd i k).2.2.1, h1]; rfl)]
  unfold trip_k0_t1
  refine (aAt_miss arg12 _ 5 7 (by decide) _ _).trans ?_
  refine (aAt_miss arg12 _ 5 6 (by decide) _ _).trans ?_
  refine (aAt_hit arg12 _ 5 _ _).trans (newA_congr ?_ ?_)
  · refine (mAt_miss arg11 _ 5 4 (by decide) _ _).trans ?_
    refine (mAt_miss arg11 _ 5 3 (by decide) _ _).trans ?_
    refine (mAt_miss arg11 _ 5 2 (by decide) _ _).trans ?_
    refine (mAt_miss arg11 _ 5 1 (by decide) _ _).trans ?_
    refine (mAt_miss arg11 _ 5 0 (by decide) _ _).trans ?_
    refine (mAt_miss arg11 _ 5 7 (by decide) _ _).trans ?_
    refine (mAt_miss arg11 _ 5 6 (by decide) _ _).trans ?_
    exact mAt_hit arg11 _ 5 _ _
  · refine (aAt_miss arg12 _ 5 4 (by decide) _ _).trans ?_
    refine (aAt_miss arg12 _ 5 3 (by decide) _ _).trans ?_
    refine (aAt_miss arg12 _ 5 2 (by decide) _ _).trans ?_
    refine (aAt_miss arg12 _ 5 1 (by decide) _ _).trans ?_
    refine (aAt_miss arg12 _ 5 0 (by decide) _ _).trans ?_
    refine (aAt_miss arg12 _ 5 7 (by decide) _ _).trans ?_
    refine (aAt_miss arg12 _ 5 6 (by decide) _ _).trans ?_
    exact aAt_hit arg12 _ 5 _ _

include h0 h1 in
/-- A trip's effect on chunk 6's maxima: the two tiles' steps. -/
theorem trip_m6 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 6
      = newM (scoreTile (kTile arg4 X4 3 j1) (qChunk arg9 X9 6))
          (newM (scoreTile (kTile arg4 X4 3 j0) (qChunk arg9 X9 6)) (mAt arg11 f11 6)) := by
  rw [← kTile_of arg4 X4 3 j0 _ (k0_off7_inb i k) (by rw [(kOff_even i k).2.2.2, h0]; rfl),
    ← kTile_of arg4 X4 3 j1 _ (k0_off15_inb i k) (by rw [(kOff_odd i k).2.2.2, h1]; rfl)]
  unfold trip_k0_t1
  refine (mAt_miss arg11 _ 6 7 (by decide) _ _).trans ?_
  refine (mAt_hit arg11 _ 6 _ _).trans (congrArg (newM _) ?_)
  refine (mAt_miss arg11 _ 6 5 (by decide) _ _).trans ?_
  refine (mAt_miss arg11 _ 6 4 (by decide) _ _).trans ?_
  refine (mAt_miss arg11 _ 6 3 (by decide) _ _).trans ?_
  refine (mAt_miss arg11 _ 6 2 (by decide) _ _).trans ?_
  refine (mAt_miss arg11 _ 6 1 (by decide) _ _).trans ?_
  refine (mAt_miss arg11 _ 6 0 (by decide) _ _).trans ?_
  refine (mAt_miss arg11 _ 6 7 (by decide) _ _).trans ?_
  exact mAt_hit arg11 _ 6 _ _

include h0 h1 in
/-- A trip's effect on chunk 6's sums: the two tiles' steps. -/
theorem trip_a6 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 6
      = newA (scoreTile (kTile arg4 X4 3 j1) (qChunk arg9 X9 6))
          (newM (scoreTile (kTile arg4 X4 3 j0) (qChunk arg9 X9 6)) (mAt arg11 f11 6)) (vTile arg5 X5 3 j1)
          (newA (scoreTile (kTile arg4 X4 3 j0) (qChunk arg9 X9 6)) (mAt arg11 f11 6)
            (vTile arg5 X5 3 j0) (aAt arg12 f12 6)) := by
  rw [← kTile_of arg4 X4 3 j0 _ (k0_off7_inb i k) (by rw [(kOff_even i k).2.2.2, h0]; rfl),
    ← kTile_of arg4 X4 3 j1 _ (k0_off15_inb i k) (by rw [(kOff_odd i k).2.2.2, h1]; rfl),
    ← vTile_of arg5 X5 3 j0 _ (k0_off8_inb i k) (by rw [(vOff_even i k).2.2.2, h0]; rfl),
    ← vTile_of arg5 X5 3 j1 _ (k0_off16_inb i k) (by rw [(vOff_odd i k).2.2.2, h1]; rfl)]
  unfold trip_k0_t1
  refine (aAt_miss arg12 _ 6 7 (by decide) _ _).trans ?_
  refine (aAt_hit arg12 _ 6 _ _).trans (newA_congr ?_ ?_)
  · refine (mAt_miss arg11 _ 6 5 (by decide) _ _).trans ?_
    refine (mAt_miss arg11 _ 6 4 (by decide) _ _).trans ?_
    refine (mAt_miss arg11 _ 6 3 (by decide) _ _).trans ?_
    refine (mAt_miss arg11 _ 6 2 (by decide) _ _).trans ?_
    refine (mAt_miss arg11 _ 6 1 (by decide) _ _).trans ?_
    refine (mAt_miss arg11 _ 6 0 (by decide) _ _).trans ?_
    refine (mAt_miss arg11 _ 6 7 (by decide) _ _).trans ?_
    exact mAt_hit arg11 _ 6 _ _
  · refine (aAt_miss arg12 _ 6 5 (by decide) _ _).trans ?_
    refine (aAt_miss arg12 _ 6 4 (by decide) _ _).trans ?_
    refine (aAt_miss arg12 _ 6 3 (by decide) _ _).trans ?_
    refine (aAt_miss arg12 _ 6 2 (by decide) _ _).trans ?_
    refine (aAt_miss arg12 _ 6 1 (by decide) _ _).trans ?_
    refine (aAt_miss arg12 _ 6 0 (by decide) _ _).trans ?_
    refine (aAt_miss arg12 _ 6 7 (by decide) _ _).trans ?_
    exact aAt_hit arg12 _ 6 _ _

include h0 h1 in
/-- A trip's effect on chunk 7's maxima: the two tiles' steps. -/
theorem trip_m7 :
    mAt arg11 (arg11.view.writes (Elt F) f11 ((trip_k0_t1 𝒱 c bd i arg3 harg3 arg4 harg4 arg5 harg5 arg6 harg6 arg7 harg7 arg8 harg8 arg9 harg9 arg10 harg10 arg11 harg11 arg12 harg12 arg2 X4 X5 X9 k).1 f11 f12)) 7
      = newM (scoreTile (kTile arg4 X4 3 j1) (qChunk arg9 X9 7))
          (newM (scoreTile (kTile arg4 X4 3 j0) (qChunk arg9 X9 7)) (mAt arg11 f11 7)) := by
  rw [← kTile_of arg4 X4 3 j0 _ (k0_off7_inb i k) (by rw [(kOff_even i k).2.2.2, h0]; rfl),
    ← kTile_of arg4 X4 3 j1 _ (k0_off15_inb i k) (by rw [(kOff_odd i k).2.2.2, h1]; rfl)]
  unfold trip_k0_t1
  refine (mAt_hit arg11 _ 7 _ _).trans (congrArg (newM _) ?_)
  refine (mAt_miss arg11 _ 7 6 (by decide) _ _).trans ?_
  refine (mAt_miss arg11 _ 7 5 (by decide) _ _).trans ?_
  refine (mAt_miss arg11 _ 7 4 (by decide) _ _).trans ?_
  refine (mAt_miss arg11 _ 7 3 (by decide) _ _).trans ?_
  refine (mAt_miss arg11 _ 7 2 (by decide) _ _).trans ?_
  refine (mAt_miss arg11 _ 7 1 (by decide) _ _).trans ?_
  refine (mAt_miss arg11 _ 7 0 (by decide) _ _).trans ?_
  exact mAt_hit arg11 _ 7 _ _

include h0 h1 in
/-- A trip's effect on chunk 7's sums: the two tiles' steps. -/
theorem trip_a7 :
    aAt arg12 (arg12.view.writes (Elt F) f12 ((trip_k0_t1 𝒱 c bd i arg3 harg3 arg4 harg4 arg5 harg5 arg6 harg6 arg7 harg7 arg8 harg8 arg9 harg9 arg10 harg10 arg11 harg11 arg12 harg12 arg2 X4 X5 X9 k).2.1 f11 f12)) 7
      = newA (scoreTile (kTile arg4 X4 3 j1) (qChunk arg9 X9 7))
          (newM (scoreTile (kTile arg4 X4 3 j0) (qChunk arg9 X9 7)) (mAt arg11 f11 7)) (vTile arg5 X5 3 j1)
          (newA (scoreTile (kTile arg4 X4 3 j0) (qChunk arg9 X9 7)) (mAt arg11 f11 7)
            (vTile arg5 X5 3 j0) (aAt arg12 f12 7)) := by
  rw [← kTile_of arg4 X4 3 j0 _ (k0_off7_inb i k) (by rw [(kOff_even i k).2.2.2, h0]; rfl),
    ← kTile_of arg4 X4 3 j1 _ (k0_off15_inb i k) (by rw [(kOff_odd i k).2.2.2, h1]; rfl),
    ← vTile_of arg5 X5 3 j0 _ (k0_off8_inb i k) (by rw [(vOff_even i k).2.2.2, h0]; rfl),
    ← vTile_of arg5 X5 3 j1 _ (k0_off16_inb i k) (by rw [(vOff_odd i k).2.2.2, h1]; rfl)]
  unfold trip_k0_t1
  refine (aAt_hit arg12 _ 7 _ _).trans (newA_congr ?_ ?_)
  · refine (mAt_miss arg11 _ 7 6 (by decide) _ _).trans ?_
    refine (mAt_miss arg11 _ 7 5 (by decide) _ _).trans ?_
    refine (mAt_miss arg11 _ 7 4 (by decide) _ _).trans ?_
    refine (mAt_miss arg11 _ 7 3 (by decide) _ _).trans ?_
    refine (mAt_miss arg11 _ 7 2 (by decide) _ _).trans ?_
    refine (mAt_miss arg11 _ 7 1 (by decide) _ _).trans ?_
    refine (mAt_miss arg11 _ 7 0 (by decide) _ _).trans ?_
    exact mAt_hit arg11 _ 7 _ _
  · refine (aAt_miss arg12 _ 7 6 (by decide) _ _).trans ?_
    refine (aAt_miss arg12 _ 7 5 (by decide) _ _).trans ?_
    refine (aAt_miss arg12 _ 7 4 (by decide) _ _).trans ?_
    refine (aAt_miss arg12 _ 7 3 (by decide) _ _).trans ?_
    refine (aAt_miss arg12 _ 7 2 (by decide) _ _).trans ?_
    refine (aAt_miss arg12 _ 7 1 (by decide) _ _).trans ?_
    refine (aAt_miss arg12 _ 7 0 (by decide) _ _).trans ?_
    exact aAt_hit arg12 _ 7 _ _

end

end Cert.Attn

end
-- ==== Proof.Attn.Loop.lean ====
/- The loop over pairs of key tiles: what it leaves in each chunk of the running state, by induction on its trips. -/
module

public import proofs.«01_k».proof.Proof.Attn.Trip

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

/-- The running maxima after the first `n` tiles `kt 0, …, kt (n - 1)`, against the query chunk `q`. -/
def stM (kt : ℕ → Vec F S256x64 .bf16) (q : Vec F S256x64 .bf16) (m : Vec F S1x1x256 .f32) : ℕ → Vec F S1x1x256 .f32
  | 0 => m
  | n + 1 => newM (scoreTile (kt n) q) (stM kt q m n)

/-- The running sums after the first `n` tiles. -/
def stA (kt : ℕ → Vec F S256x64 .bf16) (vt : ℕ → Vec F S64x256 .bf16) (q : Vec F S256x64 .bf16)
    (m : Vec F S1x1x256 .f32) (a : Vec F S1x80x256 .f32) : ℕ → Vec F S1x80x256 .f32
  | 0 => a
  | n + 1 => newA (scoreTile (kt n) q) (stM kt q m n) (vt n) (stA kt vt q m a n)

/-- The key tiles of the head of chunk `ch`, counted by naturals. -/
def kTiles (r : Memref sig .tc .vmem S1x4x2048x64 .bf16) (X : BufTy.Contents (Elt F) r.view.ty) (ch : Fin 8) (n : ℕ) :
    Vec F S256x64 .bf16 := kTile r X (headOf ch) (Fin.ofNat 8 n)

/-- The value tiles of the head of chunk `ch`, counted by naturals. -/
def vTiles (r : Memref sig .tc .vmem S1x4x8x64x256 .bf16) (X : BufTy.Contents (Elt F) r.view.ty) (ch : Fin 8) (n : ℕ) :
    Vec F S64x256 .bf16 := vTile r X (headOf ch) (Fin.ofNat 8 n)

theorem trips_le : ∀ i : grid0.Coords, 2 * (k0_t1_loop i).trips < 8 := by decide +kernel

section

variable (𝒱 : Variants) (c : Dev nD) (bd : Option 𝒱.V) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)
  (arg2 : BitVec 32) (X4 : BufTy.Contents (Elt F) arg4.view.ty) (X5 : BufTy.Contents (Elt F) arg5.view.ty)
  (X9 : BufTy.Contents (Elt F) arg9.view.ty)
  (G11 : BufTy.Contents (Elt F) arg11.view.ty) (G12 : BufTy.Contents (Elt F) arg12.view.ty)

/-- One trip moves every chunk by two tiles. -/
theorem trip_all (k : Fin (k0_t1_loop i).trips) (f11 : BufTy.Contents (Elt F) arg11.view.ty)
    (f12 : BufTy.Contents (Elt F) arg12.view.ty) (ch : Fin 8) (m : Vec F S1x1x256 .f32) (a : Vec F S1x80x256 .f32)
    (hm : mAt arg11 f11 ch = stM (kTiles arg4 X4 ch) (qChunk arg9 X9 ch) m (2 * k.val))
    (ha : aAt arg12 f12 ch = stA (kTiles arg4 X4 ch) (vTiles arg5 X5 ch) (qChunk arg9 X9 ch) m a (2 * k.val)) :
    mAt arg11 (arg11.view.writes (Elt F) f11 ((tripL_k0_t1 𝒱 c bd i arg3 harg3 arg4 harg4 arg5 harg5 arg6 harg6 arg7 harg7 arg8 harg8 arg9 harg9 arg10 harg10 arg11 harg11 arg12 harg12 arg2 X4 X5 X9 k f11 f12).1)) ch
        = stM (kTiles arg4 X4 ch) (qChunk arg9 X9 ch) m (2 * (k.val + 1))
      ∧ aAt arg12 (arg12.view.writes (Elt F) f12 ((tripL_k0_t1 𝒱 c bd i arg3 harg3 arg4 harg4 arg5 harg5 arg6 harg6 arg7 harg7 arg8 harg8 arg9 harg9 arg10 harg10 arg11 harg11 arg12 harg12 arg2 X4 X5 X9 k f11 f12).2)) ch
        = stA (kTiles arg4 X4 ch) (vTiles arg5 X5 ch) (qChunk arg9 X9 ch) m a (2 * (k.val + 1)) := by
  have hk : 2 * k.val + 1 < 8 := by have := trips_le i; have := k.isLt; omega
  have h0 : (Fin.ofNat 8 (2 * k.val)).val = 2 * k.val := Nat.mod_eq_of_lt (by omega)
  have h1 : (Fin.ofNat 8 (2 * k.val + 1)).val = 2 * k.val + 1 := Nat.mod_eq_of_lt hk
  show _ = newM _ (newM _ (stM _ _ m (2 * k.val))) ∧
    _ = newA _ (newM _ (stM _ _ m (2 * k.val))) _ (newA _ (stM _ _ m (2 * k.val)) _ (stA _ _ _ m a (2 * k.val)))
  rw [← hm, ← ha]
  fin_cases ch
  · exact ⟨trip_m0 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a0 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m1 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a1 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m2 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a2 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m3 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a3 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m4 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a4 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m5 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a5 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m6 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a6 𝒱 c bd i arg3 harg3 arg4 harg4 arg5 harg5 arg6 harg6 arg7 harg7 arg8 harg8 arg9 harg9 arg10 harg10 arg11 harg11 arg12 harg12 arg2 X4 X5 X9 k f11 f12 _ _ h0 h1⟩
  · exact ⟨trip_m7 𝒱 c bd i arg3 harg3 arg4 harg4 arg5 harg5 arg6 harg6 arg7 harg7 arg8 harg8 arg9 harg9 arg10 harg10 arg11 harg11 arg12 harg12 arg2 X4 X5 X9 k f11 f12 _ _ h0 h1,
      trip_a7 𝒱 c bd i arg3 harg3 arg4 harg4 arg5 harg5 arg6 harg6 arg7 harg7 arg8 harg8 arg9 harg9 arg10 harg10 arg11 harg11 arg12 harg12 arg2 X4 X5 X9 k f11 f12 _ _ h0 h1⟩

/-- After `n` trips every chunk has taken the first `2n` tiles. -/
theorem loop_all (ch : Fin 8) : ∀ n : ℕ, n ≤ (k0_t1_loop i).trips →
    mAt arg11 (arg11.view.writes (Elt F) G11 (pb_k0_t1 𝒱 c bd i arg3 harg3 arg4 harg4 arg5 harg5 arg6 harg6 arg7 harg7 arg8 harg8 arg9 harg9 arg10 harg10 arg11 harg11 arg12 harg12 arg2 X4 X5 X9 G11 G12 n).1) ch
        = stM (kTiles arg4 X4 ch) (qChunk arg9 X9 ch) (mAt arg11 G11 ch) (2 * n)
      ∧ aAt arg12 (arg12.view.writes (Elt F) G12 (pb_k0_t1 𝒱 c bd i arg3 harg3 arg4 harg4 arg5 harg5 arg6 harg6 arg7 harg7 arg8 harg8 arg9 harg9 arg10 harg10 arg11 harg11 arg12 harg12 arg2 X4 X5 X9 G11 G12 n).2) ch
        = stA (kTiles arg4 X4 ch) (vTiles arg5 X5 ch) (qChunk arg9 X9 ch) (mAt arg11 G11 ch) (aAt arg12 G12 ch) (2 * n)
  | 0, _ => ⟨rfl, rfl⟩
  | n + 1, hn => by
    have ih := loop_all ch n (by omega)
    rw [pb_k0_t1_succ 𝒱 c bd i arg3 harg3 arg4 harg4 arg5 harg5 arg6 harg6 arg7 harg7 arg8 harg8 arg9 harg9 arg10 harg10 arg11 harg11 arg12 harg12 arg2 X4 X5 X9 G11 G12 ⟨n, by omega⟩, View.writes_append, View.writes_append]
    exact trip_all 𝒱 c bd i arg3 harg3 arg4 harg4 arg5 harg5 arg6 harg6 arg7 harg7 arg8 harg8 arg9 harg9 arg10 harg10 arg11 harg11 arg12 harg12 arg2 X4 X5 X9 ⟨n, by omega⟩ _ _ ch _ _ ih.1 ih.2

end

end Cert.Attn

end
-- ==== Proof.Attn.Body.lean ====
/- A grid point of the kernel as one expression: the masked query chunks, the tiles, the running state after the tiles
   before the diagonal one, the diagonal tile, and the block of results made of the final sums. -/
module

public import proofs.«01_k».proof.Proof.Attn.Loop
public import Idealize.ShloMosaic.Lib.Pipeline.ValueKit

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

/-! ## The query chunks -/

theorem inbX (hd : Fin 4) :
    ∀ a, (![0, hd.val, 0, 0] : Fin 4 → ℕ) a + S1x1x256x64.size a ≤ S1x4x256x64.size a := by
  revert hd; decide +kernel

/-- Head `hd` of the block of queries, scaled. -/
def qHead (x : Vec F S1x4x256x64 .f32) (hd : Fin 4) : FVec F S256x64 .bf16 :=
  truncf .bf16
    (mulf
      (shapeCast S256x64 (View.ld x (Rect.unit (s := S1x4x256x64) ![0, hd.val, 0, 0] S1x1x256x64.size (inbX hd)))
        shapeCasts_S1x1x256x64_S256x64)
      (broadcast S256x64 (Named.named κ "scale_log2e" 0x3E8293EE#32 : F .f32))) bitsLt_bf16_f32

/-- The lanes of a head's first queries. -/
def firstLanes : IVec S256x64 1 :=
  broadcastTo S256x64
    (shapeCast S1x64 (cmpi .slt (iota .tc S1x64 32 [1] iota_S1x64_d1_w32) (broadcast S1x64 32#32))
      shapeCasts_S1x64_S1x64)
    broadcasts_S1x64_S256x64

/-- A chunk of masked queries: a head's first half, then its second half, zero in the other half's lanes. -/
def qVal (x : Vec F S1x4x256x64 .f32) (c : Fin 8) : Vec F S256x64 .bf16 :=
  shapeCast S256x64
    (if c.val % 2 = 0 then
      select firstLanes (qHead x (headOf c)) (broadcast S256x64 (Scalar.ofBits .bf16 0x0000#16 : F .bf16))
    else
      select firstLanes (broadcast S256x64 (Scalar.ofBits .bf16 0x0000#16 : F .bf16)) (qHead x (headOf c)))
    shapeCasts_S256x64_S256x64

/-! ## The tiles of a head -/

/-- Tile `n` of the keys of chunk `c`'s head. -/
def kVal (x : Vec F S1x4x2048x64 .bf16) (c : Fin 8) (n : ℕ) : Vec F S256x64 .bf16 :=
  shapeCast S256x64 (View.ld x (Rect.unit (s := S1x4x2048x64) ![0, (headOf c).val, 256 * (Fin.ofNat 8 n).val, 0]
    S1x1x256x64.size (inbK (headOf c) (Fin.ofNat 8 n)))) shapeCasts_S1x1x256x64_S256x64

/-- Tile `n` of the transposed values of chunk `c`'s head. -/
def vVal (x : Vec F S1x4x8x64x256 .bf16) (c : Fin 8) (n : ℕ) : Vec F S64x256 .bf16 :=
  shapeCast S64x256 (View.ld x (Rect.unit (s := S1x4x8x64x256) ![0, (headOf c).val, (Fin.ofNat 8 n).val, 0, 0]
    S1x1x1x64x256.size (inbV (headOf c) (Fin.ofNat 8 n)))) shapeCasts_S1x1x1x64x256_S64x256

theorem kTiles_unread (r : Memref sig .tc .vmem S1x4x2048x64 .bf16) (hr : r.IsWhole) (x : Vec F S1x4x2048x64 .bf16)
    (c : Fin 8) : kTiles r (hr.unread x) c = kVal x c := by
  funext n
  unfold kTiles kTile kVal
  congr 1
  exact funext fun y => congrFun (hr.read_unread x) _

theorem vTiles_unread (r : Memref sig .tc .vmem S1x4x8x64x256 .bf16) (hr : r.IsWhole) (x : Vec F S1x4x8x64x256 .bf16)
    (c : Fin 8) : vTiles r (hr.unread x) c = vVal x c := by
  funext n
  unfold vTiles vTile vVal
  congr 1
  exact funext fun y => congrFun (hr.read_unread x) _

/-- A whole buffer of known contents, loaded through the rectangle of its whole shape. -/
theorem load_whole {S : Shape} {e : EltTy} (r : Memref sig .tc .vmem S e) (hr : r.IsWhole) (x : S.Idx → Elt F e)
    (off : Fin S.rank → ℕ) (h : off = fun _ => 0) (inb : ∀ a, off a + S.size a ≤ S.size a) :
    View.readAt (Elt F) r.view (Rect.unit (s := S) off S.size inb).toLoadRect (hr.unread x) = x := by
  funext y
  refine (congrFun (hr.read_unread x) _).trans (congrArg x (funext fun a => Fin.ext ?_))
  subst h
  show 0 + 1 * (y a).val = (y a).val
  omega

/-! ## The sums of a chunk at the end of a grid point -/

/-- The maxima of chunk `c` before any tile. -/
def m0 : Vec F S1x1x256 .f32 := fun _ => Named.named κ "mask" 0xF149F2CA#32

/-- The sums of chunk `c` before any tile. -/
def a0 : Vec F S1x80x256 .f32 := fun _ => Scalar.ofBits .f32 0x00000000#32

/-- The sums of chunk `c` after the `n` tiles before the diagonal one and the diagonal one, under the bias `b`. -/
def finA (x0 : Vec F S1x4x256x64 .f32) (x1 : Vec F S1x4x2048x64 .bf16) (x2 : Vec F S1x4x8x64x256 .bf16)
    (b : Vec F S256x256 .f32) (n : ℕ) (c : Fin 8) : Vec F S1x80x256 .f32 :=
  newA (addf (scoreTile (kVal x1 c n) (qVal x0 c)) b) (stM (kVal x1 c) (qVal x0 c) m0 n) (vVal x2 c n)
    (stA (kVal x1 c) (vVal x2 c) (qVal x0 c) m0 a0 n)

/-! ## The block of results -/

/-- One head's rows of values, from the two softmaxes' sums of values `v` and of weights `l`. -/
def headOut (lam : FVec F S1x1 .f32) (g : Vec F S64x256 .f32) (v1 : Vec F S1x64x256 .f32) (l1 : Vec F S1x1x256 .f32)
    (v2 : Vec F S1x64x256 .f32) (l2 : Vec F S1x1x256 .f32) : FVec F S64x256 .f32 :=
  mulf
    (mulf
      (mulf (k0_pay420 lam v1 l1 v2 l2)
        (broadcastTo S64x256
          (rsqrt (addf (k0_pay421 lam v1 l1 v2 l2) (broadcast S1x256 (Scalar.ofBits .f32 0x358637BD#32 : F .f32))))
          broadcasts_S1x256_S64x256))
      (shapeCast S64x256 g shapeCasts_S64x256_S64x256))
    (broadcast S64x256 (Scalar.ofBits .f32 0x3F4CCCCD#32 : F .f32))

/-- The block of results: the four heads' rows one below the other, transposed. -/
def outBlock (lam : FVec F S1x1 .f32) (g : Vec F S64x256 .f32) (v : Fin 8 → Vec F S1x64x256 .f32)
    (l : Fin 8 → Vec F S1x1x256 .f32) : Vec F S1x256x256 .bf16 :=
  shapeCast S1x256x256
    (truncf .bf16
      (transpose S256x256 [1, 0]
        (concatenate S256x256 0 [⟨S64x256, headOut lam g (v 0) (l 0) (v 1) (l 1)⟩,
          ⟨S64x256, headOut lam g (v 2) (l 2) (v 3) (l 3)⟩, ⟨S64x256, headOut lam g (v 4) (l 4) (v 5) (l 5)⟩,
          ⟨S64x256, headOut lam g (v 6) (l 6) (v 7) (l 7)⟩] concatenates_S64x256_S64x256_S64x256_S64x256_S256x256_d0)
        transposes_S256x256_p1_0_S256x256) bitsLt_bf16_f32)
    shapeCasts_S256x256_S1x256x256

/-- The rows of values of a chunk's sums. -/
def topRows (a : Vec F S1x80x256 .f32) : Vec F S1x64x256 .f32 :=
  fun x => a (ix3 0 ⟨(x 1).val, by have h : (x 1).val < 64 := (x 1).isLt; omega⟩ (x 2))

/-- The row of weights of a chunk's sums. -/
def weightRow (a : Vec F S1x80x256 .f32) : Vec F S1x1x256 .f32 :=
  fun x => a (ix3 0 ⟨64, by omega⟩ (x 2))

theorem inbTop (c : Fin 8) : ∀ a, (![c.val, 0, 0] : Fin 3 → ℕ) a + S1x64x256.size a ≤ S8x80x256.size a := by
  revert c; decide

theorem inbRow (c : Fin 8) : ∀ a, (![c.val, 64, 0] : Fin 3 → ℕ) a + S1x1x256.size a ≤ S8x80x256.size a := by
  revert c; decide

/-- The load of a chunk's rows of values. -/
theorem load_top (r : Memref sig .tc .vmem S8x80x256 .f32) (f : BufTy.Contents (Elt F) r.view.ty) (c : Fin 8) :
    View.readAt (Elt F) r.view (Rect.unit (s := S8x80x256) ![c.val, 0, 0] S1x64x256.size (inbTop c)).toLoadRect f
      = topRows (aAt r f c) := by
  funext x
  refine congrArg (r.view.read (Elt F) f) (funext fun a => Fin.ext ?_)
  have h0 : (x 0).val < 1 := (x 0).isLt
  fin_cases a
  · show c.val + 1 * (x 0).val = c.val + 1 * 0
    omega
  · show 0 + 1 * (x 1).val = 0 + 1 * (x 1).val
    rfl
  · show 0 + 1 * (x 2).val = 0 + 1 * (x 2).val
    rfl

/-- The load of a chunk's row of weights. -/
theorem load_row (r : Memref sig .tc .vmem S8x80x256 .f32) (f : BufTy.Contents (Elt F) r.view.ty) (c : Fin 8) :
    View.readAt (Elt F) r.view (Rect.unit (s := S8x80x256) ![c.val, 64, 0] S1x1x256.size (inbRow c)).toLoadRect f
      = weightRow (aAt r f c) := by
  funext x
  refine congrArg (r.view.read (Elt F) f) (funext fun a => Fin.ext ?_)
  have h0 : (x 0).val < 1 := (x 0).isLt
  have h1 : (x 1).val < 1 := (x 1).isLt
  fin_cases a
  · show c.val + 1 * (x 0).val = c.val + 1 * 0
    omega
  · show 64 + 1 * (x 1).val = 0 + 1 * 64
    omega
  · show 0 + 1 * (x 2).val = 0 + 1 * (x 2).val
    rfl

/-! ## The stores before the loop, read back -/

/-- A query chunk just stored is read back. -/
theorem q_hit (r : Memref sig .tc .vmem S2048x64 .bf16) (f : BufTy.Contents (Elt F) r.view.ty) (c : Fin 8)
    (w : Vec F S256x64 .bf16) (L : List (View.Piece (Elt F) S2048x64 .bf16)) :
    qChunk r (r.view.writes (Elt F) f (⟨Rect.unit (s := S2048x64) ![256 * c.val, 0] S256x64.size (inbQ c), w⟩ :: L)) c
      = w :=
  funext fun x => View.read_writes_cons_emb r.view f
    (Rect.unit (s := S2048x64) ![256 * c.val, 0] S256x64.size (inbQ c)) w L x

/-- A query chunk is not changed by a store of another. -/
theorem q_miss (r : Memref sig .tc .vmem S2048x64 .bf16) (f : BufTy.Contents (Elt F) r.view.ty) (c d : Fin 8)
    (h : d ≠ c) (w : Vec F S256x64 .bf16) (L : List (View.Piece (Elt F) S2048x64 .bf16)) :
    qChunk r (r.view.writes (Elt F) f (⟨Rect.unit (s := S2048x64) ![256 * d.val, 0] S256x64.size (inbQ d), w⟩ :: L)) c
      = qChunk r (r.view.writes (Elt F) f L) c :=
  funext fun x => View.read_writes_cons_unit_of_not_mem r.view f (inbQ d) w L _ rfl 0 (by
    have hx : (x 0).val < 256 := (x 0).isLt
    have hd : d.val ≠ c.val := fun h' => h (Fin.ext h')
    show 256 * c.val + 1 * (x 0).val < 256 * d.val ∨ 256 * d.val + 256 ≤ 256 * c.val + 1 * (x 0).val
    omega)

/-- The query chunks, from the load of a head of the block of queries. -/
theorem qHead_of (r : Memref sig .tc .vmem S1x4x256x64 .f32) (hr : r.IsWhole) (x : Vec F S1x4x256x64 .f32)
    (hd : Fin 4) :
    View.readAt (Elt F) r.view (Rect.unit (s := S1x4x256x64) ![0, hd.val, 0, 0] S1x1x256x64.size (inbX hd)).toLoadRect
        (hr.unread x)
      = View.ld x (Rect.unit (s := S1x4x256x64) ![0, hd.val, 0, 0] S1x1x256x64.size (inbX hd)) :=
  funext fun y => congrFun (hr.read_unread x) _

/-- A chunk of a buffer of maxima filled with one value. -/
theorem m_fill (r : Memref sig .tc .vmem S8x1x256 .f32) (f : BufTy.Contents (Elt F) r.view.ty) (c : Fin 8)
    (w : Vec F S8x1x256 .f32) (v : F .f32) (h : ∀ y, w y = v)
    (inb : ∀ a, (![0, 0, 0] : Fin 3 → ℕ) a + S8x1x256.size a ≤ S8x1x256.size a) :
    mAt r (r.view.writes (Elt F) f [⟨Rect.unit (s := S8x1x256) ![0, 0, 0] S8x1x256.size inb, w⟩]) c = fun _ => v :=
  funext fun x => (View.read_writes_cons_unit_of_mem r.view f inb w [] _
    ((Rect.unit (s := S8x1x256) ![c.val, 0, 0] S1x1x256.size (inbM c)).idx x) rfl (fun a => by
      fin_cases a <;> exact (Nat.zero_add _).symm)).trans (h _)

/-- A chunk of a buffer of sums filled with one value. -/
theorem a_fill (r : Memref sig .tc .vmem S8x80x256 .f32) (f : BufTy.Contents (Elt F) r.view.ty) (c : Fin 8)
    (w : Vec F S8x80x256 .f32) (v : F .f32) (h : ∀ y, w y = v)
    (inb : ∀ a, (![0, 0, 0] : Fin 3 → ℕ) a + S8x80x256.size a ≤ S8x80x256.size a) :
    aAt r (r.view.writes (Elt F) f [⟨Rect.unit (s := S8x80x256) ![0, 0, 0] S8x80x256.size inb, w⟩]) c = fun _ => v :=
  funext fun x => (View.read_writes_cons_unit_of_mem r.view f inb w [] _
    ((Rect.unit (s := S8x80x256) ![c.val, 0, 0] S1x80x256.size (inbA c)).idx x) rfl (fun a => by
      fin_cases a <;> exact (Nat.zero_add _).symm)).trans (h _)

/-! ## The two loops -/

/-- The number of trips of the loop over pairs of tiles, at an even and at an odd block of queries. -/
theorem trips_even : ∀ i : grid0.Coords, k0_cond2 i = 1#1 →
    2 * Scf.trips (k0_t1_loop i).lb (k0_t1_loop i).ub (k0_t1_loop i).st = (i 2).val := by decide +kernel

theorem trips_odd : ∀ i : grid0.Coords, ¬ k0_cond2 i = 1#1 →
    2 * Scf.trips (k0_t1_loop i).lb (k0_t1_loop i).ub (k0_t1_loop i).st + 1 = (i 2).val := by decide +kernel

theorem trips2 : ∀ i : grid0.Coords,
    Scf.trips (k0_t2_loop i).lb (k0_t2_loop i).ub (k0_t2_loop i).st = 0 := by decide +kernel

section

variable (𝒱 : Variants) (c : Dev nD) (bd : Option 𝒱.V) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)
  (arg2 : BitVec 32)   (X9 : BufTy.Contents (Elt F) arg9.view.ty)
  (x1 : Vec F S1x4x2048x64 .bf16) (x2 : Vec F S1x4x8x64x256 .bf16)
  (w127 : BitVec 32) (G11 G11' : BufTy.Contents (Elt F) arg11.view.ty) (G12 G12' : BufTy.Contents (Elt F) arg12.view.ty)
  (H11 : List (View.Piece (Elt F) S8x1x256 .f32)) (H12 : List (View.Piece (Elt F) S8x80x256 .f32)) (ch : Fin 8)
  (q : Vec F S256x64 .bf16) (hq : qChunk arg9 X9 ch = q)

include hq in
/-- The maxima of a chunk after both loops (the second makes no trip). -/
theorem loops_m (f : BufTy.Contents (Elt F) arg11.view.ty) (hG : arg11.view.writes (Elt F) f H11 = G11)
    (m : Vec F S1x1x256 .f32) (hm : mAt arg11 G11 ch = m) :
    mAt arg11 (arg11.view.writes (Elt F) f
        ((pb_k0_t2 𝒱 c bd i arg3 harg3 arg4 harg4 arg5 harg5 arg6 harg6 arg7 harg7 arg8 harg8 arg9 harg9 arg10 harg10 arg11 harg11 arg12 harg12 arg2 w127 (harg4.unread x1) (harg5.unread x2) X9 G11' G12' (Scf.trips (k0_t2_loop i).lb (k0_t2_loop i).ub (k0_t2_loop i).st)).1
          ++ ((pb_k0_t1 𝒱 c bd i arg3 harg3 arg4 harg4 arg5 harg5 arg6 harg6 arg7 harg7 arg8 harg8 arg9 harg9 arg10 harg10 arg11 harg11 arg12 harg12 arg2 (harg4.unread x1) (harg5.unread x2) X9 G11 G12 (Scf.trips (k0_t1_loop i).lb (k0_t1_loop i).ub (k0_t1_loop i).st)).1 ++ H11))) ch
      = stM (kVal x1 ch) q m (2 * Scf.trips (k0_t1_loop i).lb (k0_t1_loop i).ub (k0_t1_loop i).st) := by
  rw [trips2 i, View.writes_append, View.writes_append, hG]
  have h := (loop_all 𝒱 c bd i arg3 harg3 arg4 harg4 arg5 harg5 arg6 harg6 arg7 harg7 arg8 harg8 arg9 harg9 arg10 harg10 arg11 harg11 arg12 harg12 arg2 (harg4.unread x1) (harg5.unread x2) X9 G11 G12 ch _ le_rfl).1
  rw [hm, hq, kTiles_unread] at h
  exact h

include hq in
/-- The sums of a chunk after both loops. -/
theorem loops_a (f : BufTy.Contents (Elt F) arg12.view.ty) (hG : arg12.view.writes (Elt F) f H12 = G12)
    (m : Vec F S1x1x256 .f32) (hm : mAt arg11 G11 ch = m) (a : Vec F S1x80x256 .f32) (ha : aAt arg12 G12 ch = a) :
    aAt arg12 (arg12.view.writes (Elt F) f
        ((pb_k0_t2 𝒱 c bd i arg3 harg3 arg4 harg4 arg5 harg5 arg6 harg6 arg7 harg7 arg8 harg8 arg9 harg9 arg10 harg10 arg11 harg11 arg12 harg12 arg2 w127 (harg4.unread x1) (harg5.unread x2) X9 G11' G12' (Scf.trips (k0_t2_loop i).lb (k0_t2_loop i).ub (k0_t2_loop i).st)).2
          ++ ((pb_k0_t1 𝒱 c bd i arg3 harg3 arg4 harg4 arg5 harg5 arg6 harg6 arg7 harg7 arg8 harg8 arg9 harg9 arg10 harg10 arg11 harg11 arg12 harg12 arg2 (harg4.unread x1) (harg5.unread x2) X9 G11 G12 (Scf.trips (k0_t1_loop i).lb (k0_t1_loop i).ub (k0_t1_loop i).st)).2 ++ H12))) ch
      = stA (kVal x1 ch) (vVal x2 ch) q m a (2 * Scf.trips (k0_t1_loop i).lb (k0_t1_loop i).ub (k0_t1_loop i).st) := by
  rw [trips2 i, View.writes_append, View.writes_append, hG]
  have h := (loop_all 𝒱 c bd i arg3 harg3 arg4 harg4 arg5 harg5 arg6 harg6 arg7 harg7 arg8 harg8 arg9 harg9 arg10 harg10 arg11 harg11 arg12 harg12 arg2 (harg4.unread x1) (harg5.unread x2) X9 G11 G12 ch _ le_rfl).2
  rw [hm, ha, hq, kTiles_unread, vTiles_unread] at h
  exact h

end

end Cert.Attn

end
-- ==== Proof.Attn.Stores.lean ====
/- The masked query chunks as a grid point stores them, read back; and the tiles at the grid point's offsets. -/
module

public import proofs.«01_k».proof.Proof.Attn.Body

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

/-- The eight chunks of masked queries as the body stores them, the last first. -/
def qList (arg3 : Memref sig .tc .vmem S1x4x256x64 .f32) (harg3 : arg3.IsWhole) (x0 : Vec F S1x4x256x64 .f32) :
    List (View.Piece (Elt F) S2048x64 .bf16) :=
  [⟨Rect.unit (s := S2048x64) ![1792, 0] S256x64.size (inbQ 7),
      k0_pay407 k0_pay394 (View.readAt (Elt F) arg3.view (Rect.unit (s := S1x4x256x64) ![0, 3, 0, 0] S1x1x256x64.size (inbX 3)).toLoadRect (harg3.unread x0))⟩,
    ⟨Rect.unit (s := S2048x64) ![1536, 0] S256x64.size (inbQ 6),
      k0_pay406 k0_pay394 (View.readAt (Elt F) arg3.view (Rect.unit (s := S1x4x256x64) ![0, 3, 0, 0] S1x1x256x64.size (inbX 3)).toLoadRect (harg3.unread x0))⟩,
    ⟨Rect.unit (s := S2048x64) ![1280, 0] S256x64.size (inbQ 5),
      k0_pay404 (k0_pay403 k0_pay394 (View.readAt (Elt F) arg3.view (Rect.unit (s := S1x4x256x64) ![0, 2, 0, 0] S1x1x256x64.size (inbX 2)).toLoadRect (harg3.unread x0)))⟩,
    ⟨Rect.unit (s := S2048x64) ![1024, 0] S256x64.size (inbQ 4),
      k0_pay402 k0_pay394 (View.readAt (Elt F) arg3.view (Rect.unit (s := S1x4x256x64) ![0, 2, 0, 0] S1x1x256x64.size (inbX 2)).toLoadRect (harg3.unread x0))⟩,
    ⟨Rect.unit (s := S2048x64) ![768, 0] S256x64.size (inbQ 3),
      k0_pay400 k0_pay394 (View.readAt (Elt F) arg3.view (Rect.unit (s := S1x4x256x64) ![0, 1, 0, 0] S1x1x256x64.size (inbX 1)).toLoadRect (harg3.unread x0))⟩,
    ⟨Rect.unit (s := S2048x64) ![512, 0] S256x64.size (inbQ 2),
      k0_pay399 k0_pay394 (View.readAt (Elt F) arg3.view (Rect.unit (s := S1x4x256x64) ![0, 1, 0, 0] S1x1x256x64.size (inbX 1)).toLoadRect (harg3.unread x0))⟩,
    ⟨Rect.unit (s := S2048x64) ![256, 0] S256x64.size (inbQ 1),
      k0_pay397 (View.readAt (Elt F) arg3.view (Rect.unit (s := S1x4x256x64) ![0, 0, 0, 0] S1x1x256x64.size (inbX 0)).toLoadRect (harg3.unread x0))⟩,
    ⟨Rect.unit (s := S2048x64) ![0, 0] S256x64.size (inbQ 0),
      k0_pay396 (View.readAt (Elt F) arg3.view (Rect.unit (s := S1x4x256x64) ![0, 0, 0, 0] S1x1x256x64.size (inbX 0)).toLoadRect (harg3.unread x0))⟩]

/-- Each chunk of masked queries, read back after the eight stores. -/
theorem qs (arg3 : Memref sig .tc .vmem S1x4x256x64 .f32) (harg3 : arg3.IsWhole) (x0 : Vec F S1x4x256x64 .f32)
    (arg9 : Memref sig .tc .vmem S2048x64 .bf16) (f : BufTy.Contents (Elt F) arg9.view.ty) (ch : Fin 8) :
    qChunk arg9 (arg9.view.writes (Elt F) f (qList arg3 harg3 x0)) ch = qVal x0 ch := by
  fin_cases ch
  · refine (q_miss arg9 f 0 7 (by decide) _ _).trans ?_
    refine (q_miss arg9 f 0 6 (by decide) _ _).trans ?_
    refine (q_miss arg9 f 0 5 (by decide) _ _).trans ?_
    refine (q_miss arg9 f 0 4 (by decide) _ _).trans ?_
    refine (q_miss arg9 f 0 3 (by decide) _ _).trans ?_
    refine (q_miss arg9 f 0 2 (by decide) _ _).trans ?_
    refine (q_miss arg9 f 0 1 (by decide) _ _).trans ?_
    refine (q_hit arg9 f 0 _ _).trans ?_
    exact (congrArg (fun z => k0_pay396 z) (qHead_of arg3 harg3 x0 0)).trans rfl
  · refine (q_miss arg9 f 1 7 (by decide) _ _).trans ?_
    refine (q_miss arg9 f 1 6 (by decide) _ _).trans ?_
    refine (q_miss arg9 f 1 5 (by decide) _ _).trans ?_
    refine (q_miss arg9 f 1 4 (by decide) _ _).trans ?_
    refine (q_miss arg9 f 1 3 (by decide) _ _).trans ?_
    refine (q_miss arg9 f 1 2 (by decide) _ _).trans ?_
    refine (q_hit arg9 f 1 _ _).trans ?_
    exact (congrArg (fun z => k0_pay397 z) (qHead_of arg3 harg3 x0 0)).trans rfl
  · refine (q_miss arg9 f 2 7 (by decide) _ _).trans ?_
    refine (q_miss arg9 f 2 6 (by decide) _ _).trans ?_
    refine (q_miss arg9 f 2 5 (by decide) _ _).trans ?_
    refine (q_miss arg9 f 2 4 (by decide) _ _).trans ?_
    refine (q_miss arg9 f 2 3 (by decide) _ _).trans ?_
    refine (q_hit arg9 f 2 _ _).trans ?_
    exact (congrArg (fun z => k0_pay399 k0_pay394 z) (qHead_of arg3 harg3 x0 1)).trans rfl
  · refine (q_miss arg9 f 3 7 (by decide) _ _).trans ?_
    refine (q_miss arg9 f 3 6 (by decide) _ _).trans ?_
    refine (q_miss arg9 f 3 5 (by decide) _ _).trans ?_
    refine (q_miss arg9 f 3 4 (by decide) _ _).trans ?_
    refine (q_hit arg9 f 3 _ _).trans ?_
    exact (congrArg (fun z => k0_pay400 k0_pay394 z) (qHead_of arg3 harg3 x0 1)).trans rfl
  · refine (q_miss arg9 f 4 7 (by decide) _ _).trans ?_
    refine (q_miss arg9 f 4 6 (by decide) _ _).trans ?_
    refine (q_miss arg9 f 4 5 (by decide) _ _).trans ?_
    refine (q_hit arg9 f 4 _ _).trans ?_
    exact (congrArg (fun z => k0_pay402 k0_pay394 z) (qHead_of arg3 harg3 x0 2)).trans rfl
  · refine (q_miss arg9 f 5 7 (by decide) _ _).trans ?_
    refine (q_miss arg9 f 5 6 (by decide) _ _).trans ?_
    refine (q_hit arg9 f 5 _ _).trans ?_
    exact (congrArg (fun z => k0_pay404 (k0_pay403 k0_pay394 z)) (qHead_of arg3 harg3 x0 2)).trans rfl
  · refine (q_miss arg9 f 6 7 (by decide) _ _).trans ?_
    refine (q_hit arg9 f 6 _ _).trans ?_
    exact (congrArg (fun z => k0_pay406 k0_pay394 z) (qHead_of arg3 harg3 x0 3)).trans rfl
  · refine (q_hit arg9 f 7 _ _).trans ?_
    exact (congrArg (fun z => k0_pay407 k0_pay394 z) (qHead_of arg3 harg3 x0 3)).trans rfl

/-- A tile of keys loaded at an offset of its value. -/
theorem kVal_of (r : Memref sig .tc .vmem S1x4x2048x64 .bf16) (hr : r.IsWhole) (x : Vec F S1x4x2048x64 .bf16) (c : Fin 8)
    (n : ℕ) (off : Fin 4 → ℕ) (inb : ∀ a, off a + S1x1x256x64.size a ≤ S1x4x2048x64.size a)
    (h : off = ![0, (headOf c).val, 256 * (Fin.ofNat 8 n).val, 0]) :
    shapeCast S256x64 (View.readAt (Elt F) r.view
      (Rect.unit (s := S1x4x2048x64) off S1x1x256x64.size inb).toLoadRect (hr.unread x)) shapeCasts_S1x1x256x64_S256x64
      = kVal x c n := by
  subst h
  unfold kVal
  congr 1
  exact funext fun y => congrFun (hr.read_unread x) _

/-- A tile of values loaded at an offset of its value. -/
theorem vVal_of (r : Memref sig .tc .vmem S1x4x8x64x256 .bf16) (hr : r.IsWhole) (x : Vec F S1x4x8x64x256 .bf16)
    (c : Fin 8) (n : ℕ) (off : Fin 5 → ℕ) (inb : ∀ a, off a + S1x1x1x64x256.size a ≤ S1x4x8x64x256.size a)
    (h : off = ![0, (headOf c).val, (Fin.ofNat 8 n).val, 0, 0]) :
    shapeCast S64x256 (View.readAt (Elt F) r.view
      (Rect.unit (s := S1x4x8x64x256) off S1x1x1x64x256.size inb).toLoadRect (hr.unread x))
      shapeCasts_S1x1x1x64x256_S64x256 = vVal x c n := by
  subst h
  unfold vVal
  congr 1
  exact funext fun y => congrFun (hr.read_unread x) _

/-- The sums after the diagonal tile, from equal parts. -/
theorem fin_congr {k k' q q' : Vec F S256x64 .bf16} {b b' : Vec F S256x256 .f32} {m m' : Vec F S1x1x256 .f32}
    {vt vt' : Vec F S64x256 .bf16} {a a' : Vec F S1x80x256 .f32} (hk : k = k') (hq : q = q') (hb : b = b')
    (hm : m = m') (hv : vt = vt') (ha : a = a') :
    newA (addf (scoreTile k q) b) m vt a = newA (addf (scoreTile k' q') b') m' vt' a' := by
  rw [hk, hq, hb, hm, hv, ha]

/-- The maxima after a tile, from equal parts. -/
theorem newM_congr {k k' q q' : Vec F S256x64 .bf16} {m m' : Vec F S1x1x256 .f32} (hk : k = k') (hq : q = q')
    (hm : m = m') : newM (scoreTile k q) m = newM (scoreTile k' q') m' := by
  rw [hk, hq, hm]

/-- The sums after a tile, from equal parts. -/
theorem newA_congr' {k k' q q' : Vec F S256x64 .bf16} {m m' : Vec F S1x1x256 .f32}
    {vt vt' : Vec F S64x256 .bf16} {a a' : Vec F S1x80x256 .f32} (hk : k = k') (hq : q = q')
    (hm : m = m') (hv : vt = vt') (ha : a = a') :
    newA (scoreTile k q) m vt a = newA (scoreTile k' q') m' vt' a' := by
  rw [hk, hq, hm, hv, ha]

/-- The block of results, from the final sums' loads. -/
theorem outBlock_loads (lam lam' : FVec F S1x1 .f32) (hl : lam = lam') (g g' : Vec F S64x256 .f32) (hg : g = g')
    (r : Memref sig .tc .vmem S8x80x256 .f32) (f : BufTy.Contents (Elt F) r.view.ty) (a : Fin 8 → Vec F S1x80x256 .f32)
    (ha : ∀ ch, aAt r f ch = a ch) :
    outBlock lam g
        (fun ch => View.readAt (Elt F) r.view
          (Rect.unit (s := S8x80x256) ![ch.val, 0, 0] S1x64x256.size (inbTop ch)).toLoadRect f)
        (fun ch => View.readAt (Elt F) r.view
          (Rect.unit (s := S8x80x256) ![ch.val, 64, 0] S1x1x256.size (inbRow ch)).toLoadRect f)
      = outBlock lam' g' (fun ch => topRows (a ch)) (fun ch => weightRow (a ch)) := by
  rw [hl, hg]
  congr 1
  · exact funext fun ch => (load_top r f ch).trans (congrArg topRows (ha ch))
  · exact funext fun ch => (load_row r f ch).trans (congrArg weightRow (ha ch))

theorem m0_fill (r : Memref sig .tc .vmem S8x1x256 .f32) (f : BufTy.Contents (Elt F) r.view.ty) (c : Fin 8)
    (inb : ∀ a, (![0, 0, 0] : Fin 3 → ℕ) a + S8x1x256.size a ≤ S8x1x256.size a) :
    mAt r (r.view.writes (Elt F) f [⟨Rect.unit (s := S8x1x256) ![0, 0, 0] S8x1x256.size inb, k0_pay409⟩]) c = m0 :=
  m_fill r f c _ _ (fun _ => rfl) inb

theorem a0_fill (r : Memref sig .tc .vmem S8x80x256 .f32) (f : BufTy.Contents (Elt F) r.view.ty) (c : Fin 8)
    (inb : ∀ a, (![0, 0, 0] : Fin 3 → ℕ) a + S8x80x256.size a ≤ S8x80x256.size a) :
    aAt r (r.view.writes (Elt F) f [⟨Rect.unit (s := S8x80x256) ![0, 0, 0] S8x80x256.size inb, k0_pay410⟩]) c = a0 :=
  a_fill r f c _ _ (fun _ => rfl) inb

theorem zero2 : (![0, 0] : Fin 2 → ℕ) = fun _ => 0 := by decide

/-- The tile before the diagonal one, at an odd block. -/
theorem before_eq (i : grid0.Coords) (h : ¬ k0_cond2 i = 1#1) :
    2 * Scf.trips (k0_t1_loop i).lb (k0_t1_loop i).ub (k0_t1_loop i).st = (i 2).val - 1 := by
  have := trips_odd i h
  omega

/-! The offsets of the diagonal tile's loads, and at an odd block of queries of the tile before it. -/

theorem kOff_diag : ∀ i : grid0.Coords,
    k0_off33 i = ![0, 0, 256 * (Fin.ofNat 8 ((i 2).val)).val, 0]
      ∧ k0_off35 i = ![0, 1, 256 * (Fin.ofNat 8 ((i 2).val)).val, 0]
      ∧ k0_off37 i = ![0, 2, 256 * (Fin.ofNat 8 ((i 2).val)).val, 0]
      ∧ k0_off39 i = ![0, 3, 256 * (Fin.ofNat 8 ((i 2).val)).val, 0] := by decide +kernel

theorem vOff_diag : ∀ i : grid0.Coords,
    k0_off34 i = ![0, 0, (Fin.ofNat 8 ((i 2).val)).val, 0, 0]
      ∧ k0_off36 i = ![0, 1, (Fin.ofNat 8 ((i 2).val)).val, 0, 0]
      ∧ k0_off38 i = ![0, 2, (Fin.ofNat 8 ((i 2).val)).val, 0, 0]
      ∧ k0_off40 i = ![0, 3, (Fin.ofNat 8 ((i 2).val)).val, 0, 0] := by decide +kernel

theorem kOff_diagB : ∀ i : grid0.Coords,
    k0_off49 i = ![0, 0, 256 * (Fin.ofNat 8 ((i 2).val)).val, 0]
      ∧ k0_off51 i = ![0, 1, 256 * (Fin.ofNat 8 ((i 2).val)).val, 0]
      ∧ k0_off53 i = ![0, 2, 256 * (Fin.ofNat 8 ((i 2).val)).val, 0]
      ∧ k0_off55 i = ![0, 3, 256 * (Fin.ofNat 8 ((i 2).val)).val, 0] := by decide +kernel

theorem vOff_diagB : ∀ i : grid0.Coords,
    k0_off50 i = ![0, 0, (Fin.ofNat 8 ((i 2).val)).val, 0, 0]
      ∧ k0_off52 i = ![0, 1, (Fin.ofNat 8 ((i 2).val)).val, 0, 0]
      ∧ k0_off54 i = ![0, 2, (Fin.ofNat 8 ((i 2).val)).val, 0, 0]
      ∧ k0_off56 i = ![0, 3, (Fin.ofNat 8 ((i 2).val)).val, 0, 0] := by decide +kernel

theorem kOff_beforeB : ∀ i : grid0.Coords, ¬ k0_cond2 i = 1#1 →
    k0_off41 i = ![0, 0, 256 * (Fin.ofNat 8 ((i 2).val - 1)).val, 0]
      ∧ k0_off43 i = ![0, 1, 256 * (Fin.ofNat 8 ((i 2).val - 1)).val, 0]
      ∧ k0_off45 i = ![0, 2, 256 * (Fin.ofNat 8 ((i 2).val - 1)).val, 0]
      ∧ k0_off47 i = ![0, 3, 256 * (Fin.ofNat 8 ((i 2).val - 1)).val, 0] := by decide +kernel

theorem vOff_beforeB : ∀ i : grid0.Coords, ¬ k0_cond2 i = 1#1 →
    k0_off42 i = ![0, 0, (Fin.ofNat 8 ((i 2).val - 1)).val, 0, 0]
      ∧ k0_off44 i = ![0, 1, (Fin.ofNat 8 ((i 2).val - 1)).val, 0, 0]
      ∧ k0_off46 i = ![0, 2, (Fin.ofNat 8 ((i 2).val - 1)).val, 0, 0]
      ∧ k0_off48 i = ![0, 3, (Fin.ofNat 8 ((i 2).val - 1)).val, 0, 0] := by decide +kernel

end Cert.Attn

end
-- ==== Proof.Attn.RunA.lean ====
/- A first block of queries of a batch: the block of results its run leaves, and the bias it stores. -/
module

public import proofs.«01_k».proof.Proof.Attn.Stores
public import proofs.«01_k».proof.Proof.Gen.KernelIdeal.Frame.RunA

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

variable (c : Dev nD) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)
  (hc0 : cond0_0 i) (hc1 : cond0_1 i) (hc2 : ¬cond0_2 i)
  (x0 : Vec F S1x4x256x64 .f32) (x1 : Vec F S1x4x2048x64 .bf16) (x2 : Vec F S1x4x8x64x256 .bf16)
  (x3 : Vec F S4x32 .f32) (x4 : Vec F S64x256 .f32)

/-- The block of results: made of the final sums of the eight chunks. -/
theorem outA :
    (kernelRun0_A c i arg3 harg3 arg4 harg4 arg5 harg5 arg6 harg6 arg7 harg7 arg8 harg8 arg9 harg9 arg10 harg10 arg11 harg11 arg12 harg12 hc0 hc1 hc2 x0 x1 x2 x3 x4).1
      = [⟨Rect.unit (s := S1x256x256) ![0, 0, 0] ![1, 256, 256] inb_S1x256x256_S1x256x256_0_0_0,
          outBlock (k0_pay393 x3) x4 (fun ch => topRows (finA x0 x1 x2 k0_pay408 (i 2).val ch))
            (fun ch => weightRow (finA x0 x1 x2 k0_pay408 (i 2).val ch))⟩] := by
  have key : ∃ f : BufTy.Contents (Elt F) arg12.view.ty,
      (kernelRun0_A c i arg3 harg3 arg4 harg4 arg5 harg5 arg6 harg6 arg7 harg7 arg8 harg8 arg9 harg9 arg10 harg10 arg11 harg11 arg12 harg12 hc0 hc1 hc2 x0 x1 x2 x3 x4).1
        = [⟨Rect.unit (s := S1x256x256) ![0, 0, 0] ![1, 256, 256] inb_S1x256x256_S1x256x256_0_0_0,
            outBlock (k0_pay393 (View.readAt (Elt F) arg6.view (Rect.unit (s := S4x32) ![0, 0] S4x32.size
                inb_S4x32_S4x32_0_0).toLoadRect (harg6.unread x3)))
              (View.readAt (Elt F) arg7.view (Rect.unit (s := S64x256) ![0, 0] S64x256.size
                inb_S64x256_S64x256_0_0).toLoadRect (harg7.unread x4))
              (fun ch => View.readAt (Elt F) arg12.view
                (Rect.unit (s := S8x80x256) ![ch.val, 0, 0] S1x64x256.size (inbTop ch)).toLoadRect f)
              (fun ch => View.readAt (Elt F) arg12.view
                (Rect.unit (s := S8x80x256) ![ch.val, 64, 0] S1x1x256.size (inbRow ch)).toLoadRect f)⟩]
      ∧ ∀ ch, aAt arg12 f ch = finA x0 x1 x2 k0_pay408 (i 2).val ch := by
    refine ⟨_, rfl, fun ch => ?_⟩
    fin_cases ch
    · refine (aAt_miss arg12 _ 0 7 (by decide) _ _).trans ?_
      refine (aAt_miss arg12 _ 0 6 (by decide) _ _).trans ?_
      refine (aAt_miss arg12 _ 0 5 (by decide) _ _).trans ?_
      refine (aAt_miss arg12 _ 0 4 (by decide) _ _).trans ?_
      refine (aAt_miss arg12 _ 0 3 (by decide) _ _).trans ?_
      refine (aAt_miss arg12 _ 0 2 (by decide) _ _).trans ?_
      refine (aAt_miss arg12 _ 0 1 (by decide) _ _).trans ?_
      refine (aAt_hit arg12 _ 0 _ _).trans (fin_congr ?_ ?_ ?_ ?_ ?_ ?_)
      · exact kVal_of arg4 harg4 x1 0 _ _ _ (kOff_diag i).1
      · exact qs arg3 harg3 x0 arg9 _ 0
      · exact View.readCov_cons_toLoadRect _ _ _ _
      · exact (loops_m Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _)).trans
          (congrArg (stM _ _ _) (trips_even i hc1))
      · exact vVal_of arg5 harg5 x2 0 _ _ _ (vOff_diag i).1
      · exact (loops_a Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _) _ (a0_fill arg12 _ 0 _)).trans
          (congrArg (stA _ _ _ _ _) (trips_even i hc1))
    · refine (aAt_miss arg12 _ 1 7 (by decide) _ _).trans ?_
      refine (aAt_miss arg12 _ 1 6 (by decide) _ _).trans ?_
      refine (aAt_miss arg12 _ 1 5 (by decide) _ _).trans ?_
      refine (aAt_miss arg12 _ 1 4 (by decide) _ _).trans ?_
      refine (aAt_miss arg12 _ 1 3 (by decide) _ _).trans ?_
      refine (aAt_miss arg12 _ 1 2 (by decide) _ _).trans ?_
      refine (aAt_hit arg12 _ 1 _ _).trans (fin_congr ?_ ?_ ?_ ?_ ?_ ?_)
      · exact kVal_of arg4 harg4 x1 1 _ _ _ (kOff_diag i).1
      · exact qs arg3 harg3 x0 arg9 _ 1
      · exact View.readCov_cons_toLoadRect _ _ _ _
      · refine (mAt_miss arg11 _ 1 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _)).trans
          (congrArg (stM _ _ _) (trips_even i hc1))
      · exact vVal_of arg5 harg5 x2 1 _ _ _ (vOff_diag i).1
      · refine (aAt_miss arg12 _ 1 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _) _ (a0_fill arg12 _ 1 _)).trans
          (congrArg (stA _ _ _ _ _) (trips_even i hc1))
    · refine (aAt_miss arg12 _ 2 7 (by decide) _ _).trans ?_
      refine (aAt_miss arg12 _ 2 6 (by decide) _ _).trans ?_
      refine (aAt_miss arg12 _ 2 5 (by decide) _ _).trans ?_
      refine (aAt_miss arg12 _ 2 4 (by decide) _ _).trans ?_
      refine (aAt_miss arg12 _ 2 3 (by decide) _ _).trans ?_
      refine (aAt_hit arg12 _ 2 _ _).trans (fin_congr ?_ ?_ ?_ ?_ ?_ ?_)
      · exact kVal_of arg4 harg4 x1 2 _ _ _ (kOff_diag i).2.1
      · exact qs arg3 harg3 x0 arg9 _ 2
      · exact View.readCov_cons_toLoadRect _ _ _ _
      · refine (mAt_miss arg11 _ 2 1 (by decide) _ _).trans ?_
        refine (mAt_miss arg11 _ 2 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _)).trans
          (congrArg (stM _ _ _) (trips_even i hc1))
      · exact vVal_of arg5 harg5 x2 2 _ _ _ (vOff_diag i).2.1
      · refine (aAt_miss arg12 _ 2 1 (by decide) _ _).trans ?_
        refine (aAt_miss arg12 _ 2 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _) _ (a0_fill arg12 _ 2 _)).trans
          (congrArg (stA _ _ _ _ _) (trips_even i hc1))
    · refine (aAt_miss arg12 _ 3 7 (by decide) _ _).trans ?_
      refine (aAt_miss arg12 _ 3 6 (by decide) _ _).trans ?_
      refine (aAt_miss arg12 _ 3 5 (by decide) _ _).trans ?_
      refine (aAt_miss arg12 _ 3 4 (by decide) _ _).trans ?_
      refine (aAt_hit arg12 _ 3 _ _).trans (fin_congr ?_ ?_ ?_ ?_ ?_ ?_)
      · exact kVal_of arg4 harg4 x1 3 _ _ _ (kOff_diag i).2.1
      · exact qs arg3 harg3 x0 arg9 _ 3
      · exact View.readCov_cons_toLoadRect _ _ _ _
      · refine (mAt_miss arg11 _ 3 2 (by decide) _ _).trans ?_
        refine (mAt_miss arg11 _ 3 1 (by decide) _ _).trans ?_
        refine (mAt_miss arg11 _ 3 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _)).trans
          (congrArg (stM _ _ _) (trips_even i hc1))
      · exact vVal_of arg5 harg5 x2 3 _ _ _ (vOff_diag i).2.1
      · refine (aAt_miss arg12 _ 3 2 (by decide) _ _).trans ?_
        refine (aAt_miss arg12 _ 3 1 (by decide) _ _).trans ?_
        refine (aAt_miss arg12 _ 3 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _) _ (a0_fill arg12 _ 3 _)).trans
          (congrArg (stA _ _ _ _ _) (trips_even i hc1))
    · refine (aAt_miss arg12 _ 4 7 (by decide) _ _).trans ?_
      refine (aAt_miss arg12 _ 4 6 (by decide) _ _).trans ?_
      refine (aAt_miss arg12 _ 4 5 (by decide) _ _).trans ?_
      refine (aAt_hit arg12 _ 4 _ _).trans (fin_congr ?_ ?_ ?_ ?_ ?_ ?_)
      · exact kVal_of arg4 harg4 x1 4 _ _ _ (kOff_diag i).2.2.1
      · exact qs arg3 harg3 x0 arg9 _ 4
      · exact View.readCov_cons_toLoadRect _ _ _ _
      · refine (mAt_miss arg11 _ 4 3 (by decide) _ _).trans ?_
        refine (mAt_miss arg11 _ 4 2 (by decide) _ _).trans ?_
        refine (mAt_miss arg11 _ 4 1 (by decide) _ _).trans ?_
        refine (mAt_miss arg11 _ 4 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _)).trans
          (congrArg (stM _ _ _) (trips_even i hc1))
      · exact vVal_of arg5 harg5 x2 4 _ _ _ (vOff_diag i).2.2.1
      · refine (aAt_miss arg12 _ 4 3 (by decide) _ _).trans ?_
        refine (aAt_miss arg12 _ 4 2 (by decide) _ _).trans ?_
        refine (aAt_miss arg12 _ 4 1 (by decide) _ _).trans ?_
        refine (aAt_miss arg12 _ 4 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _) _ (a0_fill arg12 _ 4 _)).trans
          (congrArg (stA _ _ _ _ _) (trips_even i hc1))
    · refine (aAt_miss arg12 _ 5 7 (by decide) _ _).trans ?_
      refine (aAt_miss arg12 _ 5 6 (by decide) _ _).trans ?_
      refine (aAt_hit arg12 _ 5 _ _).trans (fin_congr ?_ ?_ ?_ ?_ ?_ ?_)
      · exact kVal_of arg4 harg4 x1 5 _ _ _ (kOff_diag i).2.2.1
      · exact qs arg3 harg3 x0 arg9 _ 5
      · exact View.readCov_cons_toLoadRect _ _ _ _
      · refine (mAt_miss arg11 _ 5 4 (by decide) _ _).trans ?_
        refine (mAt_miss arg11 _ 5 3 (by decide) _ _).trans ?_
        refine (mAt_miss arg11 _ 5 2 (by decide) _ _).trans ?_
        refine (mAt_miss arg11 _ 5 1 (by decide) _ _).trans ?_
        refine (mAt_miss arg11 _ 5 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _)).trans
          (congrArg (stM _ _ _) (trips_even i hc1))
      · exact vVal_of arg5 harg5 x2 5 _ _ _ (vOff_diag i).2.2.1
      · refine (aAt_miss arg12 _ 5 4 (by decide) _ _).trans ?_
        refine (aAt_miss arg12 _ 5 3 (by decide) _ _).trans ?_
        refine (aAt_miss arg12 _ 5 2 (by decide) _ _).trans ?_
        refine (aAt_miss arg12 _ 5 1 (by decide) _ _).trans ?_
        refine (aAt_miss arg12 _ 5 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _) _ (a0_fill arg12 _ 5 _)).trans
          (congrArg (stA _ _ _ _ _) (trips_even i hc1))
    · refine (aAt_miss arg12 _ 6 7 (by decide) _ _).trans ?_
      refine (aAt_hit arg12 _ 6 _ _).trans (fin_congr ?_ ?_ ?_ ?_ ?_ ?_)
      · exact kVal_of arg4 harg4 x1 6 _ _ _ (kOff_diag i).2.2.2
      · exact qs arg3 harg3 x0 arg9 _ 6
      · exact View.readCov_cons_toLoadRect _ _ _ _
      · refine (mAt_miss arg11 _ 6 5 (by decide) _ _).trans ?_
        refine (mAt_miss arg11 _ 6 4 (by decide) _ _).trans ?_
        refine (mAt_miss arg11 _ 6 3 (by decide) _ _).trans ?_
        refine (mAt_miss arg11 _ 6 2 (by decide) _ _).trans ?_
        refine (mAt_miss arg11 _ 6 1 (by decide) _ _).trans ?_
        refine (mAt_miss arg11 _ 6 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _)).trans
          (congrArg (stM _ _ _) (trips_even i hc1))
      · exact vVal_of arg5 harg5 x2 6 _ _ _ (vOff_diag i).2.2.2
      · refine (aAt_miss arg12 _ 6 5 (by decide) _ _).trans ?_
        refine (aAt_miss arg12 _ 6 4 (by decide) _ _).trans ?_
        refine (aAt_miss arg12 _ 6 3 (by decide) _ _).trans ?_
        refine (aAt_miss arg12 _ 6 2 (by decide) _ _).trans ?_
        refine (aAt_miss arg12 _ 6 1 (by decide) _ _).trans ?_
        refine (aAt_miss arg12 _ 6 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _) _ (a0_fill arg12 _ 6 _)).trans
          (congrArg (stA _ _ _ _ _) (trips_even i hc1))
    · refine (aAt_hit arg12 _ 7 _ _).trans (fin_congr ?_ ?_ ?_ ?_ ?_ ?_)
      · exact kVal_of arg4 harg4 x1 7 _ _ _ (kOff_diag i).2.2.2
      · exact qs arg3 harg3 x0 arg9 _ 7
      · exact View.readCov_cons_toLoadRect _ _ _ _
      · refine (mAt_miss arg11 _ 7 6 (by decide) _ _).trans ?_
        refine (mAt_miss arg11 _ 7 5 (by decide) _ _).trans ?_
        refine (mAt_miss arg11 _ 7 4 (by decide) _ _).trans ?_
        refine (mAt_miss arg11 _ 7 3 (by decide) _ _).trans ?_
        refine (mAt_miss arg11 _ 7 2 (by decide) _ _).trans ?_
        refine (mAt_miss arg11 _ 7 1 (by decide) _ _).trans ?_
        refine (mAt_miss arg11 _ 7 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _)).trans
          (congrArg (stM _ _ _) (trips_even i hc1))
      · exact vVal_of arg5 harg5 x2 7 _ _ _ (vOff_diag i).2.2.2
      · refine (aAt_miss arg12 _ 7 6 (by decide) _ _).trans ?_
        refine (aAt_miss arg12 _ 7 5 (by decide) _ _).trans ?_
        refine (aAt_miss arg12 _ 7 4 (by decide) _ _).trans ?_
        refine (aAt_miss arg12 _ 7 3 (by decide) _ _).trans ?_
        refine (aAt_miss arg12 _ 7 2 (by decide) _ _).trans ?_
        refine (aAt_miss arg12 _ 7 1 (by decide) _ _).trans ?_
        refine (aAt_miss arg12 _ 7 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _) _ (a0_fill arg12 _ 7 _)).trans
          (congrArg (stA _ _ _ _ _) (trips_even i hc1))
  obtain ⟨f, hf, ha⟩ := key
  rw [hf, outBlock_loads _ (k0_pay393 x3) (congrArg k0_pay393 (load_whole arg6 harg6 x3 _ zero2 _)) _ x4
    (load_whole arg7 harg7 x4 _ zero2 _) arg12 f _ ha]

/-- The bias the run stores. -/
theorem biasA :
    (kernelRun0_A c i arg3 harg3 arg4 harg4 arg5 harg5 arg6 harg6 arg7 harg7 arg8 harg8 arg9 harg9 arg10 harg10 arg11 harg11 arg12 harg12 hc0 hc1 hc2 x0 x1 x2 x3 x4).2.1
      = [⟨Rect.unit (s := S256x256) ![0, 0] S256x256.size inb_S256x256_S256x256_0_0, k0_pay408⟩] := rfl

end Cert.Attn

end
-- ==== Proof.Attn.RunB.lean ====
/- An odd block of queries: the block of results its run leaves. -/
module

public import proofs.«01_k».proof.Proof.Attn.Stores
public import proofs.«01_k».proof.Proof.Gen.KernelIdeal.Frame.RunB

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

variable (c : Dev nD) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)
  (hc0 : ¬cond0_0 i) (hc1 : ¬cond0_1 i) (hc2 : cond0_2 i)
  (x0 : Vec F S1x4x256x64 .f32) (x1 : Vec F S1x4x2048x64 .bf16) (x2 : Vec F S1x4x8x64x256 .bf16)
  (x3 : Vec F S4x32 .f32) (x4 : Vec F S64x256 .f32) (xs1 : Vec F S256x256 .f32)

/-- The block of results: made of the final sums of the eight chunks. -/
theorem outB :
    (kernelRun0_B c i arg3 harg3 arg4 harg4 arg5 harg5 arg6 harg6 arg7 harg7 arg8 harg8 arg9 harg9 arg10 harg10 arg11 harg11 arg12 harg12 hc0 hc1 hc2 x0 x1 x2 x3 x4 xs1).1
      = [⟨Rect.unit (s := S1x256x256) ![0, 0, 0] ![1, 256, 256] inb_S1x256x256_S1x256x256_0_0_0,
          outBlock (k0_pay393 x3) x4 (fun ch => topRows (finA x0 x1 x2 xs1 (i 2).val ch))
            (fun ch => weightRow (finA x0 x1 x2 xs1 (i 2).val ch))⟩] := by
  have key : ∃ f : BufTy.Contents (Elt F) arg12.view.ty,
      (kernelRun0_B c i arg3 harg3 arg4 harg4 arg5 harg5 arg6 harg6 arg7 harg7 arg8 harg8 arg9 harg9 arg10 harg10 arg11 harg11 arg12 harg12 hc0 hc1 hc2 x0 x1 x2 x3 x4 xs1).1
        = [⟨Rect.unit (s := S1x256x256) ![0, 0, 0] ![1, 256, 256] inb_S1x256x256_S1x256x256_0_0_0,
            outBlock (k0_pay393 (View.readAt (Elt F) arg6.view (Rect.unit (s := S4x32) ![0, 0] S4x32.size
                inb_S4x32_S4x32_0_0).toLoadRect (harg6.unread x3)))
              (View.readAt (Elt F) arg7.view (Rect.unit (s := S64x256) ![0, 0] S64x256.size
                inb_S64x256_S64x256_0_0).toLoadRect (harg7.unread x4))
              (fun ch => View.readAt (Elt F) arg12.view
                (Rect.unit (s := S8x80x256) ![ch.val, 0, 0] S1x64x256.size (inbTop ch)).toLoadRect f)
              (fun ch => View.readAt (Elt F) arg12.view
                (Rect.unit (s := S8x80x256) ![ch.val, 64, 0] S1x1x256.size (inbRow ch)).toLoadRect f)⟩]
      ∧ ∀ ch, aAt arg12 f ch = finA x0 x1 x2 xs1 (i 2).val ch := by
    refine ⟨_, rfl, fun ch => ?_⟩
    rw [← trips_odd i hc1]
    fin_cases ch
    · refine (aAt_miss arg12 _ 0 7 (by decide) _ _).trans ?_
      refine (aAt_miss arg12 _ 0 6 (by decide) _ _).trans ?_
      refine (aAt_miss arg12 _ 0 5 (by decide) _ _).trans ?_
      refine (aAt_miss arg12 _ 0 4 (by decide) _ _).trans ?_
      refine (aAt_miss arg12 _ 0 3 (by decide) _ _).trans ?_
      refine (aAt_miss arg12 _ 0 2 (by decide) _ _).trans ?_
      refine (aAt_miss arg12 _ 0 1 (by decide) _ _).trans ?_
      refine (aAt_hit arg12 _ 0 _ _).trans (fin_congr ?_ ?_ ?_ ?_ ?_ ?_)
      · exact kVal_of arg4 harg4 x1 0 _ _ _ (by rw [trips_odd i hc1]; exact (kOff_diagB i).1)
      · exact qs arg3 harg3 x0 arg9 _ 0
      · exact load_whole arg10 harg10 xs1 _ zero2 _
      · refine (mAt_miss arg11 _ 0 7 (by decide) _ _).trans ?_
        refine (mAt_miss arg11 _ 0 6 (by decide) _ _).trans ?_
        refine (mAt_miss arg11 _ 0 5 (by decide) _ _).trans ?_
        refine (mAt_miss arg11 _ 0 4 (by decide) _ _).trans ?_
        refine (mAt_miss arg11 _ 0 3 (by decide) _ _).trans ?_
        refine (mAt_miss arg11 _ 0 2 (by decide) _ _).trans ?_
        refine (mAt_miss arg11 _ 0 1 (by decide) _ _).trans ?_
        refine (mAt_hit arg11 _ 0 _ _).trans (newM_congr (kVal_of arg4 harg4 x1 0 _ _ _ (by rw [before_eq i hc1]; exact (kOff_beforeB i hc1).1)) (qs arg3 harg3 x0 arg9 _ 0) ?_)
        exact (loops_m Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _))
      · exact vVal_of arg5 harg5 x2 0 _ _ _ (by rw [trips_odd i hc1]; exact (vOff_diagB i).1)
      · refine (aAt_miss arg12 _ 0 7 (by decide) _ _).trans ?_
        refine (aAt_miss arg12 _ 0 6 (by decide) _ _).trans ?_
        refine (aAt_miss arg12 _ 0 5 (by decide) _ _).trans ?_
        refine (aAt_miss arg12 _ 0 4 (by decide) _ _).trans ?_
        refine (aAt_miss arg12 _ 0 3 (by decide) _ _).trans ?_
        refine (aAt_miss arg12 _ 0 2 (by decide) _ _).trans ?_
        refine (aAt_miss arg12 _ 0 1 (by decide) _ _).trans ?_
        refine (aAt_hit arg12 _ 0 _ _).trans
          (newA_congr' (kVal_of arg4 harg4 x1 0 _ _ _ (by rw [before_eq i hc1]; exact (kOff_beforeB i hc1).1)) (qs arg3 harg3 x0 arg9 _ 0) ?_ (vVal_of arg5 harg5 x2 0 _ _ _ (by rw [before_eq i hc1]; exact (vOff_beforeB i hc1).1)) ?_)
        · exact (loops_m Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _))
        · exact (loops_a Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _) _ (a0_fill arg12 _ 0 _))
    · refine (aAt_miss arg12 _ 1 7 (by decide) _ _).trans ?_
      refine (aAt_miss arg12 _ 1 6 (by decide) _ _).trans ?_
      refine (aAt_miss arg12 _ 1 5 (by decide) _ _).trans ?_
      refine (aAt_miss arg12 _ 1 4 (by decide) _ _).trans ?_
      refine (aAt_miss arg12 _ 1 3 (by decide) _ _).trans ?_
      refine (aAt_miss arg12 _ 1 2 (by decide) _ _).trans ?_
      refine (aAt_hit arg12 _ 1 _ _).trans (fin_congr ?_ ?_ ?_ ?_ ?_ ?_)
      · exact kVal_of arg4 harg4 x1 1 _ _ _ (by rw [trips_odd i hc1]; exact (kOff_diagB i).1)
      · exact qs arg3 harg3 x0 arg9 _ 1
      · exact load_whole arg10 harg10 xs1 _ zero2 _
      · refine (mAt_miss arg11 _ 1 0 (by decide) _ _).trans ?_
        refine (mAt_miss arg11 _ 1 7 (by decide) _ _).trans ?_
        refine (mAt_miss arg11 _ 1 6 (by decide) _ _).trans ?_
        refine (mAt_miss arg11 _ 1 5 (by decide) _ _).trans ?_
        refine (mAt_miss arg11 _ 1 4 (by decide) _ _).trans ?_
        refine (mAt_miss arg11 _ 1 3 (by decide) _ _).trans ?_
        refine (mAt_miss arg11 _ 1 2 (by decide) _ _).trans ?_
        refine (mAt_hit arg11 _ 1 _ _).trans (newM_congr (kVal_of arg4 harg4 x1 1 _ _ _ (by rw [before_eq i hc1]; exact (kOff_beforeB i hc1).1)) (qs arg3 harg3 x0 arg9 _ 1) ?_)
        refine (mAt_miss arg11 _ 1 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _))
      · exact vVal_of arg5 harg5 x2 1 _ _ _ (by rw [trips_odd i hc1]; exact (vOff_diagB i).1)
      · refine (aAt_miss arg12 _ 1 0 (by decide) _ _).trans ?_
        refine (aAt_miss arg12 _ 1 7 (by decide) _ _).trans ?_
        refine (aAt_miss arg12 _ 1 6 (by decide) _ _).trans ?_
        refine (aAt_miss arg12 _ 1 5 (by decide) _ _).trans ?_
        refine (aAt_miss arg12 _ 1 4 (by decide) _ _).trans ?_
        refine (aAt_miss arg12 _ 1 3 (by decide) _ _).trans ?_
        refine (aAt_miss arg12 _ 1 2 (by decide) _ _).trans ?_
        refine (aAt_hit arg12 _ 1 _ _).trans
          (newA_congr' (kVal_of arg4 harg4 x1 1 _ _ _ (by rw [before_eq i hc1]; exact (kOff_beforeB i hc1).1)) (qs arg3 harg3 x0 arg9 _ 1) ?_ (vVal_of arg5 harg5 x2 1 _ _ _ (by rw [before_eq i hc1]; exact (vOff_beforeB i hc1).1)) ?_)
        · refine (mAt_miss arg11 _ 1 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _))
        · refine (aAt_miss arg12 _ 1 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _) _ (a0_fill arg12 _ 1 _))
    · refine (aAt_miss arg12 _ 2 7 (by decide) _ _).trans ?_
      refine (aAt_miss arg12 _ 2 6 (by decide) _ _).trans ?_
      refine (aAt_miss arg12 _ 2 5 (by decide) _ _).trans ?_
      refine (aAt_miss arg12 _ 2 4 (by decide) _ _).trans ?_
      refine (aAt_miss arg12 _ 2 3 (by decide) _ _).trans ?_
      refine (aAt_hit arg12 _ 2 _ _).trans (fin_congr ?_ ?_ ?_ ?_ ?_ ?_)
      · exact kVal_of arg4 harg4 x1 2 _ _ _ (by rw [trips_odd i hc1]; exact (kOff_diagB i).2.1)
      · exact qs arg3 harg3 x0 arg9 _ 2
      · exact load_whole arg10 harg10 xs1 _ zero2 _
      · refine (mAt_miss arg11 _ 2 1 (by decide) _ _).trans ?_
        refine (mAt_miss arg11 _ 2 0 (by decide) _ _).trans ?_
        refine (mAt_miss arg11 _ 2 7 (by decide) _ _).trans ?_
        refine (mAt_miss arg11 _ 2 6 (by decide) _ _).trans ?_
        refine (mAt_miss arg11 _ 2 5 (by decide) _ _).trans ?_
        refine (mAt_miss arg11 _ 2 4 (by decide) _ _).trans ?_
        refine (mAt_miss arg11 _ 2 3 (by decide) _ _).trans ?_
        refine (mAt_hit arg11 _ 2 _ _).trans (newM_congr (kVal_of arg4 harg4 x1 2 _ _ _ (by rw [before_eq i hc1]; exact (kOff_beforeB i hc1).2.1)) (qs arg3 harg3 x0 arg9 _ 2) ?_)
        refine (mAt_miss arg11 _ 2 1 (by decide) _ _).trans ?_
        refine (mAt_miss arg11 _ 2 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _))
      · exact vVal_of arg5 harg5 x2 2 _ _ _ (by rw [trips_odd i hc1]; exact (vOff_diagB i).2.1)
      · refine (aAt_miss arg12 _ 2 1 (by decide) _ _).trans ?_
        refine (aAt_miss arg12 _ 2 0 (by decide) _ _).trans ?_
        refine (aAt_miss arg12 _ 2 7 (by decide) _ _).trans ?_
        refine (aAt_miss arg12 _ 2 6 (by decide) _ _).trans ?_
        refine (aAt_miss arg12 _ 2 5 (by decide) _ _).trans ?_
        refine (aAt_miss arg12 _ 2 4 (by decide) _ _).trans ?_
        refine (aAt_miss arg12 _ 2 3 (by decide) _ _).trans ?_
        refine (aAt_hit arg12 _ 2 _ _).trans
          (newA_congr' (kVal_of arg4 harg4 x1 2 _ _ _ (by rw [before_eq i hc1]; exact (kOff_beforeB i hc1).2.1)) (qs arg3 harg3 x0 arg9 _ 2) ?_ (vVal_of arg5 harg5 x2 2 _ _ _ (by rw [before_eq i hc1]; exact (vOff_beforeB i hc1).2.1)) ?_)
        · refine (mAt_miss arg11 _ 2 1 (by decide) _ _).trans ?_
          refine (mAt_miss arg11 _ 2 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _))
        · refine (aAt_miss arg12 _ 2 1 (by decide) _ _).trans ?_
          refine (aAt_miss arg12 _ 2 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _) _ (a0_fill arg12 _ 2 _))
    · refine (aAt_miss arg12 _ 3 7 (by decide) _ _).trans ?_
      refine (aAt_miss arg12 _ 3 6 (by decide) _ _).trans ?_
      refine (aAt_miss arg12 _ 3 5 (by decide) _ _).trans ?_
      refine (aAt_miss arg12 _ 3 4 (by decide) _ _).trans ?_
      refine (aAt_hit arg12 _ 3 _ _).trans (fin_congr ?_ ?_ ?_ ?_ ?_ ?_)
      · exact kVal_of arg4 harg4 x1 3 _ _ _ (by rw [trips_odd i hc1]; exact (kOff_diagB i).2.1)
      · exact qs arg3 harg3 x0 arg9 _ 3
      · exact load_whole arg10 harg10 xs1 _ zero2 _
      · refine (mAt_miss arg11 _ 3 2 (by decide) _ _).trans ?_
        refine (mAt_miss arg11 _ 3 1 (by decide) _ _).trans ?_
        refine (mAt_miss arg11 _ 3 0 (by decide) _ _).trans ?_
        refine (mAt_miss arg11 _ 3 7 (by decide) _ _).trans ?_
        refine (mAt_miss arg11 _ 3 6 (by decide) _ _).trans ?_
        refine (mAt_miss arg11 _ 3 5 (by decide) _ _).trans ?_
        refine (mAt_miss arg11 _ 3 4 (by decide) _ _).trans ?_
        refine (mAt_hit arg11 _ 3 _ _).trans (newM_congr (kVal_of arg4 harg4 x1 3 _ _ _ (by rw [before_eq i hc1]; exact (kOff_beforeB i hc1).2.1)) (qs arg3 harg3 x0 arg9 _ 3) ?_)
        refine (mAt_miss arg11 _ 3 2 (by decide) _ _).trans ?_
        refine (mAt_miss arg11 _ 3 1 (by decide) _ _).trans ?_
        refine (mAt_miss arg11 _ 3 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _))
      · exact vVal_of arg5 harg5 x2 3 _ _ _ (by rw [trips_odd i hc1]; exact (vOff_diagB i).2.1)
      · refine (aAt_miss arg12 _ 3 2 (by decide) _ _).trans ?_
        refine (aAt_miss arg12 _ 3 1 (by decide) _ _).trans ?_
        refine (aAt_miss arg12 _ 3 0 (by decide) _ _).trans ?_
        refine (aAt_miss arg12 _ 3 7 (by decide) _ _).trans ?_
        refine (aAt_miss arg12 _ 3 6 (by decide) _ _).trans ?_
        refine (aAt_miss arg12 _ 3 5 (by decide) _ _).trans ?_
        refine (aAt_miss arg12 _ 3 4 (by decide) _ _).trans ?_
        refine (aAt_hit arg12 _ 3 _ _).trans
          (newA_congr' (kVal_of arg4 harg4 x1 3 _ _ _ (by rw [before_eq i hc1]; exact (kOff_beforeB i hc1).2.1)) (qs arg3 harg3 x0 arg9 _ 3) ?_ (vVal_of arg5 harg5 x2 3 _ _ _ (by rw [before_eq i hc1]; exact (vOff_beforeB i hc1).2.1)) ?_)
        · refine (mAt_miss arg11 _ 3 2 (by decide) _ _).trans ?_
          refine (mAt_miss arg11 _ 3 1 (by decide) _ _).trans ?_
          refine (mAt_miss arg11 _ 3 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _))
        · refine (aAt_miss arg12 _ 3 2 (by decide) _ _).trans ?_
          refine (aAt_miss arg12 _ 3 1 (by decide) _ _).trans ?_
          refine (aAt_miss arg12 _ 3 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _) _ (a0_fill arg12 _ 3 _))
    · refine (aAt_miss arg12 _ 4 7 (by decide) _ _).trans ?_
      refine (aAt_miss arg12 _ 4 6 (by decide) _ _).trans ?_
      refine (aAt_miss arg12 _ 4 5 (by decide) _ _).trans ?_
      refine (aAt_hit arg12 _ 4 _ _).trans (fin_congr ?_ ?_ ?_ ?_ ?_ ?_)
      · exact kVal_of arg4 harg4 x1 4 _ _ _ (by rw [trips_odd i hc1]; exact (kOff_diagB i).2.2.1)
      · exact qs arg3 harg3 x0 arg9 _ 4
      · exact load_whole arg10 harg10 xs1 _ zero2 _
      · refine (mAt_miss arg11 _ 4 3 (by decide) _ _).trans ?_
        refine (mAt_miss arg11 _ 4 2 (by decide) _ _).trans ?_
        refine (mAt_miss arg11 _ 4 1 (by decide) _ _).trans ?_
        refine (mAt_miss arg11 _ 4 0 (by decide) _ _).trans ?_
        refine (mAt_miss arg11 _ 4 7 (by decide) _ _).trans ?_
        refine (mAt_miss arg11 _ 4 6 (by decide) _ _).trans ?_
        refine (mAt_miss arg11 _ 4 5 (by decide) _ _).trans ?_
        refine (mAt_hit arg11 _ 4 _ _).trans (newM_congr (kVal_of arg4 harg4 x1 4 _ _ _ (by rw [before_eq i hc1]; exact (kOff_beforeB i hc1).2.2.1)) (qs arg3 harg3 x0 arg9 _ 4) ?_)
        refine (mAt_miss arg11 _ 4 3 (by decide) _ _).trans ?_
        refine (mAt_miss arg11 _ 4 2 (by decide) _ _).trans ?_
        refine (mAt_miss arg11 _ 4 1 (by decide) _ _).trans ?_
        refine (mAt_miss arg11 _ 4 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _))
      · exact vVal_of arg5 harg5 x2 4 _ _ _ (by rw [trips_odd i hc1]; exact (vOff_diagB i).2.2.1)
      · refine (aAt_miss arg12 _ 4 3 (by decide) _ _).trans ?_
        refine (aAt_miss arg12 _ 4 2 (by decide) _ _).trans ?_
        refine (aAt_miss arg12 _ 4 1 (by decide) _ _).trans ?_
        refine (aAt_miss arg12 _ 4 0 (by decide) _ _).trans ?_
        refine (aAt_miss arg12 _ 4 7 (by decide) _ _).trans ?_
        refine (aAt_miss arg12 _ 4 6 (by decide) _ _).trans ?_
        refine (aAt_miss arg12 _ 4 5 (by decide) _ _).trans ?_
        refine (aAt_hit arg12 _ 4 _ _).trans
          (newA_congr' (kVal_of arg4 harg4 x1 4 _ _ _ (by rw [before_eq i hc1]; exact (kOff_beforeB i hc1).2.2.1)) (qs arg3 harg3 x0 arg9 _ 4) ?_ (vVal_of arg5 harg5 x2 4 _ _ _ (by rw [before_eq i hc1]; exact (vOff_beforeB i hc1).2.2.1)) ?_)
        · refine (mAt_miss arg11 _ 4 3 (by decide) _ _).trans ?_
          refine (mAt_miss arg11 _ 4 2 (by decide) _ _).trans ?_
          refine (mAt_miss arg11 _ 4 1 (by decide) _ _).trans ?_
          refine (mAt_miss arg11 _ 4 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _))
        · refine (aAt_miss arg12 _ 4 3 (by decide) _ _).trans ?_
          refine (aAt_miss arg12 _ 4 2 (by decide) _ _).trans ?_
          refine (aAt_miss arg12 _ 4 1 (by decide) _ _).trans ?_
          refine (aAt_miss arg12 _ 4 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _) _ (a0_fill arg12 _ 4 _))
    · refine (aAt_miss arg12 _ 5 7 (by decide) _ _).trans ?_
      refine (aAt_miss arg12 _ 5 6 (by decide) _ _).trans ?_
      refine (aAt_hit arg12 _ 5 _ _).trans (fin_congr ?_ ?_ ?_ ?_ ?_ ?_)
      · exact kVal_of arg4 harg4 x1 5 _ _ _ (by rw [trips_odd i hc1]; exact (kOff_diagB i).2.2.1)
      · exact qs arg3 harg3 x0 arg9 _ 5
      · exact load_whole arg10 harg10 xs1 _ zero2 _
      · refine (mAt_miss arg11 _ 5 4 (by decide) _ _).trans ?_
        refine (mAt_miss arg11 _ 5 3 (by decide) _ _).trans ?_
        refine (mAt_miss arg11 _ 5 2 (by decide) _ _).trans ?_
        refine (mAt_miss arg11 _ 5 1 (by decide) _ _).trans ?_
        refine (mAt_miss arg11 _ 5 0 (by decide) _ _).trans ?_
        refine (mAt_miss arg11 _ 5 7 (by decide) _ _).trans ?_
        refine (mAt_miss arg11 _ 5 6 (by decide) _ _).trans ?_
        refine (mAt_hit arg11 _ 5 _ _).trans (newM_congr (kVal_of arg4 harg4 x1 5 _ _ _ (by rw [before_eq i hc1]; exact (kOff_beforeB i hc1).2.2.1)) (qs arg3 harg3 x0 arg9 _ 5) ?_)
        refine (mAt_miss arg11 _ 5 4 (by decide) _ _).trans ?_
        refine (mAt_miss arg11 _ 5 3 (by decide) _ _).trans ?_
        refine (mAt_miss arg11 _ 5 2 (by decide) _ _).trans ?_
        refine (mAt_miss arg11 _ 5 1 (by decide) _ _).trans ?_
        refine (mAt_miss arg11 _ 5 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _))
      · exact vVal_of arg5 harg5 x2 5 _ _ _ (by rw [trips_odd i hc1]; exact (vOff_diagB i).2.2.1)
      · refine (aAt_miss arg12 _ 5 4 (by decide) _ _).trans ?_
        refine (aAt_miss arg12 _ 5 3 (by decide) _ _).trans ?_
        refine (aAt_miss arg12 _ 5 2 (by decide) _ _).trans ?_
        refine (aAt_miss arg12 _ 5 1 (by decide) _ _).trans ?_
        refine (aAt_miss arg12 _ 5 0 (by decide) _ _).trans ?_
        refine (aAt_miss arg12 _ 5 7 (by decide) _ _).trans ?_
        refine (aAt_miss arg12 _ 5 6 (by decide) _ _).trans ?_
        refine (aAt_hit arg12 _ 5 _ _).trans
          (newA_congr' (kVal_of arg4 harg4 x1 5 _ _ _ (by rw [before_eq i hc1]; exact (kOff_beforeB i hc1).2.2.1)) (qs arg3 harg3 x0 arg9 _ 5) ?_ (vVal_of arg5 harg5 x2 5 _ _ _ (by rw [before_eq i hc1]; exact (vOff_beforeB i hc1).2.2.1)) ?_)
        · refine (mAt_miss arg11 _ 5 4 (by decide) _ _).trans ?_
          refine (mAt_miss arg11 _ 5 3 (by decide) _ _).trans ?_
          refine (mAt_miss arg11 _ 5 2 (by decide) _ _).trans ?_
          refine (mAt_miss arg11 _ 5 1 (by decide) _ _).trans ?_
          refine (mAt_miss arg11 _ 5 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _))
        · refine (aAt_miss arg12 _ 5 4 (by decide) _ _).trans ?_
          refine (aAt_miss arg12 _ 5 3 (by decide) _ _).trans ?_
          refine (aAt_miss arg12 _ 5 2 (by decide) _ _).trans ?_
          refine (aAt_miss arg12 _ 5 1 (by decide) _ _).trans ?_
          refine (aAt_miss arg12 _ 5 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _) _ (a0_fill arg12 _ 5 _))
    · refine (aAt_miss arg12 _ 6 7 (by decide) _ _).trans ?_
      refine (aAt_hit arg12 _ 6 _ _).trans (fin_congr ?_ ?_ ?_ ?_ ?_ ?_)
      · exact kVal_of arg4 harg4 x1 6 _ _ _ (by rw [trips_odd i hc1]; exact (kOff_diagB i).2.2.2)
      · exact qs arg3 harg3 x0 arg9 _ 6
      · exact load_whole arg10 harg10 xs1 _ zero2 _
      · refine (mAt_miss arg11 _ 6 5 (by decide) _ _).trans ?_
        refine (mAt_miss arg11 _ 6 4 (by decide) _ _).trans ?_
        refine (mAt_miss arg11 _ 6 3 (by decide) _ _).trans ?_
        refine (mAt_miss arg11 _ 6 2 (by decide) _ _).trans ?_
        refine (mAt_miss arg11 _ 6 1 (by decide) _ _).trans ?_
        refine (mAt_miss arg11 _ 6 0 (by decide) _ _).trans ?_
        refine (mAt_miss arg11 _ 6 7 (by decide) _ _).trans ?_
        refine (mAt_hit arg11 _ 6 _ _).trans (newM_congr (kVal_of arg4 harg4 x1 6 _ _ _ (by rw [before_eq i hc1]; exact (kOff_beforeB i hc1).2.2.2)) (qs arg3 harg3 x0 arg9 _ 6) ?_)
        refine (mAt_miss arg11 _ 6 5 (by decide) _ _).trans ?_
        refine (mAt_miss arg11 _ 6 4 (by decide) _ _).trans ?_
        refine (mAt_miss arg11 _ 6 3 (by decide) _ _).trans ?_
        refine (mAt_miss arg11 _ 6 2 (by decide) _ _).trans ?_
        refine (mAt_miss arg11 _ 6 1 (by decide) _ _).trans ?_
        refine (mAt_miss arg11 _ 6 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _))
      · exact vVal_of arg5 harg5 x2 6 _ _ _ (by rw [trips_odd i hc1]; exact (vOff_diagB i).2.2.2)
      · refine (aAt_miss arg12 _ 6 5 (by decide) _ _).trans ?_
        refine (aAt_miss arg12 _ 6 4 (by decide) _ _).trans ?_
        refine (aAt_miss arg12 _ 6 3 (by decide) _ _).trans ?_
        refine (aAt_miss arg12 _ 6 2 (by decide) _ _).trans ?_
        refine (aAt_miss arg12 _ 6 1 (by decide) _ _).trans ?_
        refine (aAt_miss arg12 _ 6 0 (by decide) _ _).trans ?_
        refine (aAt_miss arg12 _ 6 7 (by decide) _ _).trans ?_
        refine (aAt_hit arg12 _ 6 _ _).trans
          (newA_congr' (kVal_of arg4 harg4 x1 6 _ _ _ (by rw [before_eq i hc1]; exact (kOff_beforeB i hc1).2.2.2)) (qs arg3 harg3 x0 arg9 _ 6) ?_ (vVal_of arg5 harg5 x2 6 _ _ _ (by rw [before_eq i hc1]; exact (vOff_beforeB i hc1).2.2.2)) ?_)
        · refine (mAt_miss arg11 _ 6 5 (by decide) _ _).trans ?_
          refine (mAt_miss arg11 _ 6 4 (by decide) _ _).trans ?_
          refine (mAt_miss arg11 _ 6 3 (by decide) _ _).trans ?_
          refine (mAt_miss arg11 _ 6 2 (by decide) _ _).trans ?_
          refine (mAt_miss arg11 _ 6 1 (by decide) _ _).trans ?_
          refine (mAt_miss arg11 _ 6 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _))
        · refine (aAt_miss arg12 _ 6 5 (by decide) _ _).trans ?_
          refine (aAt_miss arg12 _ 6 4 (by decide) _ _).trans ?_
          refine (aAt_miss arg12 _ 6 3 (by decide) _ _).trans ?_
          refine (aAt_miss arg12 _ 6 2 (by decide) _ _).trans ?_
          refine (aAt_miss arg12 _ 6 1 (by decide) _ _).trans ?_
          refine (aAt_miss arg12 _ 6 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _) _ (a0_fill arg12 _ 6 _))
    · refine (aAt_hit arg12 _ 7 _ _).trans (fin_congr ?_ ?_ ?_ ?_ ?_ ?_)
      · exact kVal_of arg4 harg4 x1 7 _ _ _ (by rw [trips_odd i hc1]; exact (kOff_diagB i).2.2.2)
      · exact qs arg3 harg3 x0 arg9 _ 7
      · exact load_whole arg10 harg10 xs1 _ zero2 _
      · refine (mAt_miss arg11 _ 7 6 (by decide) _ _).trans ?_
        refine (mAt_miss arg11 _ 7 5 (by decide) _ _).trans ?_
        refine (mAt_miss arg11 _ 7 4 (by decide) _ _).trans ?_
        refine (mAt_miss arg11 _ 7 3 (by decide) _ _).trans ?_
        refine (mAt_miss arg11 _ 7 2 (by decide) _ _).trans ?_
        refine (mAt_miss arg11 _ 7 1 (by decide) _ _).trans ?_
        refine (mAt_miss arg11 _ 7 0 (by decide) _ _).trans ?_
        refine (mAt_hit arg11 _ 7 _ _).trans (newM_congr (kVal_of arg4 harg4 x1 7 _ _ _ (by rw [before_eq i hc1]; exact (kOff_beforeB i hc1).2.2.2)) (qs arg3 harg3 x0 arg9 _ 7) ?_)
        refine (mAt_miss arg11 _ 7 6 (by decide) _ _).trans ?_
        refine (mAt_miss arg11 _ 7 5 (by decide) _ _).trans ?_
        refine (mAt_miss arg11 _ 7 4 (by decide) _ _).trans ?_
        refine (mAt_miss arg11 _ 7 3 (by decide) _ _).trans ?_
        refine (mAt_miss arg11 _ 7 2 (by decide) _ _).trans ?_
        refine (mAt_miss arg11 _ 7 1 (by decide) _ _).trans ?_
        refine (mAt_miss arg11 _ 7 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _))
      · exact vVal_of arg5 harg5 x2 7 _ _ _ (by rw [trips_odd i hc1]; exact (vOff_diagB i).2.2.2)
      · refine (aAt_miss arg12 _ 7 6 (by decide) _ _).trans ?_
        refine (aAt_miss arg12 _ 7 5 (by decide) _ _).trans ?_
        refine (aAt_miss arg12 _ 7 4 (by decide) _ _).trans ?_
        refine (aAt_miss arg12 _ 7 3 (by decide) _ _).trans ?_
        refine (aAt_miss arg12 _ 7 2 (by decide) _ _).trans ?_
        refine (aAt_miss arg12 _ 7 1 (by decide) _ _).trans ?_
        refine (aAt_miss arg12 _ 7 0 (by decide) _ _).trans ?_
        refine (aAt_hit arg12 _ 7 _ _).trans
          (newA_congr' (kVal_of arg4 harg4 x1 7 _ _ _ (by rw [before_eq i hc1]; exact (kOff_beforeB i hc1).2.2.2)) (qs arg3 harg3 x0 arg9 _ 7) ?_ (vVal_of arg5 harg5 x2 7 _ _ _ (by rw [before_eq i hc1]; exact (vOff_beforeB i hc1).2.2.2)) ?_)
        · refine (mAt_miss arg11 _ 7 6 (by decide) _ _).trans ?_
          refine (mAt_miss arg11 _ 7 5 (by decide) _ _).trans ?_
          refine (mAt_miss arg11 _ 7 4 (by decide) _ _).trans ?_
          refine (mAt_miss arg11 _ 7 3 (by decide) _ _).trans ?_
          refine (mAt_miss arg11 _ 7 2 (by decide) _ _).trans ?_
          refine (mAt_miss arg11 _ 7 1 (by decide) _ _).trans ?_
          refine (mAt_miss arg11 _ 7 0 (by decide) _ _).trans ?_
          exact (loops_m Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _))
        · refine (aAt_miss arg12 _ 7 6 (by decide) _ _).trans ?_
          refine (aAt_miss arg12 _ 7 5 (by decide) _ _).trans ?_
          refine (aAt_miss arg12 _ 7 4 (by decide) _ _).trans ?_
          refine (aAt_miss arg12 _ 7 3 (by decide) _ _).trans ?_
          refine (aAt_miss arg12 _ 7 2 (by decide) _ _).trans ?_
          refine (aAt_miss arg12 _ 7 1 (by decide) _ _).trans ?_
          refine (aAt_miss arg12 _ 7 0 (by decide) _ _).trans ?_
          exact (loops_a Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _) _ (a0_fill arg12 _ 7 _))
  obtain ⟨f, hf, ha⟩ := key
  rw [hf, outBlock_loads _ (k0_pay393 x3) (congrArg k0_pay393 (load_whole arg6 harg6 x3 _ zero2 _)) _ x4
    (load_whole arg7 harg7 x4 _ zero2 _) arg12 f _ ha]

end Cert.Attn

end
-- ==== Proof.Attn.RunC.lean ====
/- An even block of queries after the first: the block of results its run leaves. -/
module

public import proofs.«01_k».proof.Proof.Attn.Stores
public import proofs.«01_k».proof.Proof.Gen.KernelIdeal.Frame.RunC

@[expose] public section

set_option maxRecDepth 16384
set_option maxHeartbeats 4000000

noncomputable section

namespace Cert.Attn

open Idealize.ShloMosaic Idealize.ShloMosaic.TcCoe Cert.KernelIdeal Cert.KernelIdeal.Gen

variable {F : FTy → Type} [FloatOps F] [Named F]

variable (c : Dev nD) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)
  (hc0 : ¬cond0_0 i) (hc1 : cond0_1 i) (hc2 : ¬cond0_2 i)
  (x0 : Vec F S1x4x256x64 .f32) (x1 : Vec F S1x4x2048x64 .bf16) (x2 : Vec F S1x4x8x64x256 .bf16)
  (x3 : Vec F S4x32 .f32) (x4 : Vec F S64x256 .f32) (xs1 : Vec F S256x256 .f32)

/-- The block of results: made of the final sums of the eight chunks. -/
theorem outC :
    (kernelRun0_C c i arg3 harg3 arg4 harg4 arg5 harg5 arg6 harg6 arg7 harg7 arg8 harg8 arg9 harg9 arg10 harg10 arg11 harg11 arg12 harg12 hc0 hc1 hc2 x0 x1 x2 x3 x4 xs1).1
      = [⟨Rect.unit (s := S1x256x256) ![0, 0, 0] ![1, 256, 256] inb_S1x256x256_S1x256x256_0_0_0,
          outBlock (k0_pay393 x3) x4 (fun ch => topRows (finA x0 x1 x2 xs1 (i 2).val ch))
            (fun ch => weightRow (finA x0 x1 x2 xs1 (i 2).val ch))⟩] := by
  have key : ∃ f : BufTy.Contents (Elt F) arg12.view.ty,
      (kernelRun0_C c i arg3 harg3 arg4 harg4 arg5 harg5 arg6 harg6 arg7 harg7 arg8 harg8 arg9 harg9 arg10 harg10 arg11 harg11 arg12 harg12 hc0 hc1 hc2 x0 x1 x2 x3 x4 xs1).1
        = [⟨Rect.unit (s := S1x256x256) ![0, 0, 0] ![1, 256, 256] inb_S1x256x256_S1x256x256_0_0_0,
            outBlock (k0_pay393 (View.readAt (Elt F) arg6.view (Rect.unit (s := S4x32) ![0, 0] S4x32.size
                inb_S4x32_S4x32_0_0).toLoadRect (harg6.unread x3)))
              (View.readAt (Elt F) arg7.view (Rect.unit (s := S64x256) ![0, 0] S64x256.size
                inb_S64x256_S64x256_0_0).toLoadRect (harg7.unread x4))
              (fun ch => View.readAt (Elt F) arg12.view
                (Rect.unit (s := S8x80x256) ![ch.val, 0, 0] S1x64x256.size (inbTop ch)).toLoadRect f)
              (fun ch => View.readAt (Elt F) arg12.view
                (Rect.unit (s := S8x80x256) ![ch.val, 64, 0] S1x1x256.size (inbRow ch)).toLoadRect f)⟩]
      ∧ ∀ ch, aAt arg12 f ch = finA x0 x1 x2 xs1 (i 2).val ch := by
    refine ⟨_, rfl, fun ch => ?_⟩
    fin_cases ch
    · refine (aAt_miss arg12 _ 0 7 (by decide) _ _).trans ?_
      refine (aAt_miss arg12 _ 0 6 (by decide) _ _).trans ?_
      refine (aAt_miss arg12 _ 0 5 (by decide) _ _).trans ?_
      refine (aAt_miss arg12 _ 0 4 (by decide) _ _).trans ?_
      refine (aAt_miss arg12 _ 0 3 (by decide) _ _).trans ?_
      refine (aAt_miss arg12 _ 0 2 (by decide) _ _).trans ?_
      refine (aAt_miss arg12 _ 0 1 (by decide) _ _).trans ?_
      refine (aAt_hit arg12 _ 0 _ _).trans (fin_congr ?_ ?_ ?_ ?_ ?_ ?_)
      · exact kVal_of arg4 harg4 x1 0 _ _ _ (kOff_diag i).1
      · exact qs arg3 harg3 x0 arg9 _ 0
      · exact load_whole arg10 harg10 xs1 _ zero2 _
      · exact (loops_m Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _)).trans
          (congrArg (stM _ _ _) (trips_even i hc1))
      · exact vVal_of arg5 harg5 x2 0 _ _ _ (vOff_diag i).1
      · exact (loops_a Variants.none c none i arg3 harg3 arg4 harg4 arg5 harg5 arg6 harg6 arg7 harg7 arg8 harg8 arg9 harg9 arg10 harg10 arg11 harg11 arg12 harg12 _ _ x1 x2 _ _ _ _ _ _ 0 _ (qs arg3 harg3 x0 arg9 _ 0) _ rfl _ (m0_fill arg11 _ 0 _) _ (a0_fill arg12 _ 0 _)).trans
          (congrArg (stA _ _ _ _ _) (trips_even i hc1))
    · refine (aAt_miss arg12 _ 1 7 (by decide) _ _).trans ?_
      refine (aAt_miss arg12 _ 1 6 (by decide) _ _).trans ?_
      refine (aAt_miss arg12 _ 1 5 (by decide) _ _).trans ?_
      refine (aAt_miss arg12 _ 1 4 (by decide) _ _).trans ?_
      refine (aAt_miss arg12 _ 1 3 (by decide) _ _).trans ?_
      refine (aAt_miss arg12 _ 1 2 (by decide) _ _).trans ?_
      refine (aAt_hit arg12 _ 1 _ _).trans (fin_congr ?_ ?_ ?_ ?_ ?_ ?_)
      · exact kVal_of arg4 harg4 x1 1 _ _ _ (kOff_diag i).1
      · exact qs arg3 harg3 x0 arg9 _ 1
      · exact load_whole arg10 harg10 xs1 _ zero2 _
      · refine (mAt_miss arg11 _ 1 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _)).trans
          (congrArg (stM _ _ _) (trips_even i hc1))
      · exact vVal_of arg5 harg5 x2 1 _ _ _ (vOff_diag i).1
      · refine (aAt_miss arg12 _ 1 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 1 _ (qs arg3 harg3 x0 arg9 _ 1) _ rfl _ (m0_fill arg11 _ 1 _) _ (a0_fill arg12 _ 1 _)).trans
          (congrArg (stA _ _ _ _ _) (trips_even i hc1))
    · refine (aAt_miss arg12 _ 2 7 (by decide) _ _).trans ?_
      refine (aAt_miss arg12 _ 2 6 (by decide) _ _).trans ?_
      refine (aAt_miss arg12 _ 2 5 (by decide) _ _).trans ?_
      refine (aAt_miss arg12 _ 2 4 (by decide) _ _).trans ?_
      refine (aAt_miss arg12 _ 2 3 (by decide) _ _).trans ?_
      refine (aAt_hit arg12 _ 2 _ _).trans (fin_congr ?_ ?_ ?_ ?_ ?_ ?_)
      · exact kVal_of arg4 harg4 x1 2 _ _ _ (kOff_diag i).2.1
      · exact qs arg3 harg3 x0 arg9 _ 2
      · exact load_whole arg10 harg10 xs1 _ zero2 _
      · refine (mAt_miss arg11 _ 2 1 (by decide) _ _).trans ?_
        refine (mAt_miss arg11 _ 2 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _)).trans
          (congrArg (stM _ _ _) (trips_even i hc1))
      · exact vVal_of arg5 harg5 x2 2 _ _ _ (vOff_diag i).2.1
      · refine (aAt_miss arg12 _ 2 1 (by decide) _ _).trans ?_
        refine (aAt_miss arg12 _ 2 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 2 _ (qs arg3 harg3 x0 arg9 _ 2) _ rfl _ (m0_fill arg11 _ 2 _) _ (a0_fill arg12 _ 2 _)).trans
          (congrArg (stA _ _ _ _ _) (trips_even i hc1))
    · refine (aAt_miss arg12 _ 3 7 (by decide) _ _).trans ?_
      refine (aAt_miss arg12 _ 3 6 (by decide) _ _).trans ?_
      refine (aAt_miss arg12 _ 3 5 (by decide) _ _).trans ?_
      refine (aAt_miss arg12 _ 3 4 (by decide) _ _).trans ?_
      refine (aAt_hit arg12 _ 3 _ _).trans (fin_congr ?_ ?_ ?_ ?_ ?_ ?_)
      · exact kVal_of arg4 harg4 x1 3 _ _ _ (kOff_diag i).2.1
      · exact qs arg3 harg3 x0 arg9 _ 3
      · exact load_whole arg10 harg10 xs1 _ zero2 _
      · refine (mAt_miss arg11 _ 3 2 (by decide) _ _).trans ?_
        refine (mAt_miss arg11 _ 3 1 (by decide) _ _).trans ?_
        refine (mAt_miss arg11 _ 3 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _)).trans
          (congrArg (stM _ _ _) (trips_even i hc1))
      · exact vVal_of arg5 harg5 x2 3 _ _ _ (vOff_diag i).2.1
      · refine (aAt_miss arg12 _ 3 2 (by decide) _ _).trans ?_
        refine (aAt_miss arg12 _ 3 1 (by decide) _ _).trans ?_
        refine (aAt_miss arg12 _ 3 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 3 _ (qs arg3 harg3 x0 arg9 _ 3) _ rfl _ (m0_fill arg11 _ 3 _) _ (a0_fill arg12 _ 3 _)).trans
          (congrArg (stA _ _ _ _ _) (trips_even i hc1))
    · refine (aAt_miss arg12 _ 4 7 (by decide) _ _).trans ?_
      refine (aAt_miss arg12 _ 4 6 (by decide) _ _).trans ?_
      refine (aAt_miss arg12 _ 4 5 (by decide) _ _).trans ?_
      refine (aAt_hit arg12 _ 4 _ _).trans (fin_congr ?_ ?_ ?_ ?_ ?_ ?_)
      · exact kVal_of arg4 harg4 x1 4 _ _ _ (kOff_diag i).2.2.1
      · exact qs arg3 harg3 x0 arg9 _ 4
      · exact load_whole arg10 harg10 xs1 _ zero2 _
      · refine (mAt_miss arg11 _ 4 3 (by decide) _ _).trans ?_
        refine (mAt_miss arg11 _ 4 2 (by decide) _ _).trans ?_
        refine (mAt_miss arg11 _ 4 1 (by decide) _ _).trans ?_
        refine (mAt_miss arg11 _ 4 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _)).trans
          (congrArg (stM _ _ _) (trips_even i hc1))
      · exact vVal_of arg5 harg5 x2 4 _ _ _ (vOff_diag i).2.2.1
      · refine (aAt_miss arg12 _ 4 3 (by decide) _ _).trans ?_
        refine (aAt_miss arg12 _ 4 2 (by decide) _ _).trans ?_
        refine (aAt_miss arg12 _ 4 1 (by decide) _ _).trans ?_
        refine (aAt_miss arg12 _ 4 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 4 _ (qs arg3 harg3 x0 arg9 _ 4) _ rfl _ (m0_fill arg11 _ 4 _) _ (a0_fill arg12 _ 4 _)).trans
          (congrArg (stA _ _ _ _ _) (trips_even i hc1))
    · refine (aAt_miss arg12 _ 5 7 (by decide) _ _).trans ?_
      refine (aAt_miss arg12 _ 5 6 (by decide) _ _).trans ?_
      refine (aAt_hit arg12 _ 5 _ _).trans (fin_congr ?_ ?_ ?_ ?_ ?_ ?_)
      · exact kVal_of arg4 harg4 x1 5 _ _ _ (kOff_diag i).2.2.1
      · exact qs arg3 harg3 x0 arg9 _ 5
      · exact load_whole arg10 harg10 xs1 _ zero2 _
      · refine (mAt_miss arg11 _ 5 4 (by decide) _ _).trans ?_
        refine (mAt_miss arg11 _ 5 3 (by decide) _ _).trans ?_
        refine (mAt_miss arg11 _ 5 2 (by decide) _ _).trans ?_
        refine (mAt_miss arg11 _ 5 1 (by decide) _ _).trans ?_
        refine (mAt_miss arg11 _ 5 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _)).trans
          (congrArg (stM _ _ _) (trips_even i hc1))
      · exact vVal_of arg5 harg5 x2 5 _ _ _ (vOff_diag i).2.2.1
      · refine (aAt_miss arg12 _ 5 4 (by decide) _ _).trans ?_
        refine (aAt_miss arg12 _ 5 3 (by decide) _ _).trans ?_
        refine (aAt_miss arg12 _ 5 2 (by decide) _ _).trans ?_
        refine (aAt_miss arg12 _ 5 1 (by decide) _ _).trans ?_
        refine (aAt_miss arg12 _ 5 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 5 _ (qs arg3 harg3 x0 arg9 _ 5) _ rfl _ (m0_fill arg11 _ 5 _) _ (a0_fill arg12 _ 5 _)).trans
          (congrArg (stA _ _ _ _ _) (trips_even i hc1))
    · refine (aAt_miss arg12 _ 6 7 (by decide) _ _).trans ?_
      refine (aAt_hit arg12 _ 6 _ _).trans (fin_congr ?_ ?_ ?_ ?_ ?_ ?_)
      · exact kVal_of arg4 harg4 x1 6 _ _ _ (kOff_diag i).2.2.2
      · exact qs arg3 harg3 x0 arg9 _ 6
      · exact load_whole arg10 harg10 xs1 _ zero2 _
      · refine (mAt_miss arg11 _ 6 5 (by decide) _ _).trans ?_
        refine (mAt_miss arg11 _ 6 4 (by decide) _ _).trans ?_
        refine (mAt_miss arg11 _ 6 3 (by decide) _ _).trans ?_
        refine (mAt_miss arg11 _ 6 2 (by decide) _ _).trans ?_
        refine (mAt_miss arg11 _ 6 1 (by decide) _ _).trans ?_
        refine (mAt_miss arg11 _ 6 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _)).trans
          (congrArg (stM _ _ _) (trips_even i hc1))
      · exact vVal_of arg5 harg5 x2 6 _ _ _ (vOff_diag i).2.2.2
      · refine (aAt_miss arg12 _ 6 5 (by decide) _ _).trans ?_
        refine (aAt_miss arg12 _ 6 4 (by decide) _ _).trans ?_
        refine (aAt_miss arg12 _ 6 3 (by decide) _ _).trans ?_
        refine (aAt_miss arg12 _ 6 2 (by decide) _ _).trans ?_
        refine (aAt_miss arg12 _ 6 1 (by decide) _ _).trans ?_
        refine (aAt_miss arg12 _ 6 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 6 _ (qs arg3 harg3 x0 arg9 _ 6) _ rfl _ (m0_fill arg11 _ 6 _) _ (a0_fill arg12 _ 6 _)).trans
          (congrArg (stA _ _ _ _ _) (trips_even i hc1))
    · refine (aAt_hit arg12 _ 7 _ _).trans (fin_congr ?_ ?_ ?_ ?_ ?_ ?_)
      · exact kVal_of arg4 harg4 x1 7 _ _ _ (kOff_diag i).2.2.2
      · exact qs arg3 harg3 x0 arg9 _ 7
      · exact load_whole arg10 harg10 xs1 _ zero2 _
      · refine (mAt_miss arg11 _ 7 6 (by decide) _ _).trans ?_
        refine (mAt_miss arg11 _ 7 5 (by decide) _ _).trans ?_
        refine (mAt_miss arg11 _ 7 4 (by decide) _ _).trans ?_
        refine (mAt_miss arg11 _ 7 3 (by decide) _ _).trans ?_
        refine (mAt_miss arg11 _ 7 2 (by decide) _ _).trans ?_
        refine (mAt_miss arg11 _ 7 1 (by decide) _ _).trans ?_
        refine (mAt_miss arg11 _ 7 0 (by decide) _ _).trans ?_
        exact (loops_m Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _)).trans
          (congrArg (stM _ _ _) (trips_even i hc1))
      · exact vVal_of arg5 harg5 x2 7 _ _ _ (vOff_diag i).2.2.2
      · refine (aAt_miss arg12 _ 7 6 (by decide) _ _).trans ?_
        refine (aAt_miss arg12 _ 7 5 (by decide) _ _).trans ?_
        refine (aAt_miss arg12 _ 7 4 (by decide) _ _).trans ?_
        refine (aAt_miss arg12 _ 7 3 (by decide) _ _).trans ?_
        refine (aAt_miss arg12 _ 7 2 (by decide) _ _).trans ?_
        refine (aAt_miss arg12 _ 7 1 (by decide) _ _).trans ?_
        refine (aAt_miss arg12 _ 7 0 (by decide) _ _).trans ?_
        exact (loops_a Variants.none c none i arg3 harg3 arg4 harg4 arg5 harg5 arg6 harg6 arg7 harg7 arg8 harg8 arg9 harg9 arg10 harg10 arg11 harg11 arg12 harg12 _ _ x1 x2 _ _ _ _ _ _ 7 _ (qs arg3 harg3 x0 arg9 _ 7) _ rfl _ (m0_fill arg11 _ 7 _) _ (a0_fill arg12 _ 7 _)).trans
          (congrArg (stA _ _ _ _ _) (trips_even i hc1))
  obtain ⟨f, hf, ha⟩ := key
  rw [hf, outBlock_loads _ (k0_pay393 x3) (congrArg k0_pay393 (load_whole arg6 harg6 x3 _ zero2 _)) _ x4
    (load_whole arg7 harg7 x4 _ zero2 _) arg12 f _ ha]

end Cert.Attn

end
-- ==== Proof.Attn.Point.lean ====
/- What every point of the grid leaves: the bias of the first block of a batch, kept by the later ones, and the
   point's block of results. -/
module

public import proofs.«01_k».proof.Proof.Attn.RunA
public import proofs.«01_k».proof.Proof.Attn.RunB
public import proofs.«01_k».proof.Proof.Attn.RunC
public import proofs.«01_k».proof.Proof.Gen.KernelIdeal.Value

@[expose] public section

set_option maxRecDepth 16384
set_option maxHeartbeats 400000

noncomputable section

namespace Cert.Attn

open Idealize.ShloMosaic Idealize.ShloMosaic.TcCoe Cert.KernelIdeal Cert.KernelIdeal.Gen

variable {F : FTy → Type} [FloatOps F] [Named F]

variable (m : (ℓ : Loc nD τ sig) → Buf (Elt F) ℓ)

/-- The block of results one store over the whole block leaves. -/
theorem read_block (v : Vec F S1x256x256 .bf16) :
    VO0_5.read (Elt F) (VO0_5.writes (Elt F) VO0_5.junk [⟨Rect.unit (s := S1x256x256) ![0, 0, 0] ![1, 256, 256] inb_S1x256x256_S1x256x256_0_0_0, v⟩]) = v := by
  funext y
  have hy : (Rect.unit (s := S1x256x256) ![0, 0, 0] ![1, 256, 256] inb_S1x256x256_S1x256x256_0_0_0).emb y = y := by
    funext a
    fin_cases a <;> (apply Fin.ext; simp [Rect.unit, Rect.emb])
  calc _ = VO0_5.read (Elt F) (VO0_5.writes (Elt F) VO0_5.junk [⟨Rect.unit (s := S1x256x256) ![0, 0, 0] ![1, 256, 256] inb_S1x256x256_S1x256x256_0_0_0, v⟩]) ((Rect.unit (s := S1x256x256) ![0, 0, 0] ![1, 256, 256] inb_S1x256x256_S1x256x256_0_0_0).emb y) := by rw [hy]
    _ = v y := View.read_writes_cons_emb ..

/-- The bias one store over the whole scratch leaves. -/
theorem read_bias (v : Vec F S256x256 .f32) :
    VS0_1.read (Elt F) (VS0_1.writes (Elt F) VS0_1.junk [⟨Rect.unit (s := S256x256) ![0, 0] S256x256.size inb_S256x256_S256x256_0_0, v⟩]) = v := by
  funext y
  have hy : (Rect.unit (s := S256x256) ![0, 0] S256x256.size inb_S256x256_S256x256_0_0).emb y = y := by
    funext a
    fin_cases a <;> (apply Fin.ext; simp [Rect.unit, Rect.emb])
  calc _ = VS0_1.read (Elt F) (VS0_1.writes (Elt F) VS0_1.junk [⟨Rect.unit (s := S256x256) ![0, 0] S256x256.size inb_S256x256_S256x256_0_0, v⟩]) ((Rect.unit (s := S256x256) ![0, 0] S256x256.size inb_S256x256_S256x256_0_0).emb y) := by rw [hy]
    _ = v y := View.read_writes_cons_emb ..

section

variable (c : Dev nD) (i : grid0.Coords)
  (arg3 : Memref sig .tc .vmem S1x4x256x64 .f32) (harg3 : arg3.IsWhole)
  (arg4 : Memref sig .tc .vmem S1x4x2048x64 .bf16) (harg4 : arg4.IsWhole)
  (arg5 : Memref sig .tc .vmem S1x4x8x64x256 .bf16) (harg5 : arg5.IsWhole)
  (arg6 : Memref sig .tc .vmem S4x32 .f32) (harg6 : arg6.IsWhole)
  (arg7 : Memref sig .tc .vmem S64x256 .f32) (harg7 : arg7.IsWhole)
  (arg8 : Memref sig .tc .vmem S1x256x256 .bf16) (harg8 : arg8.IsWhole)
  (arg9 : Memref sig .tc .vmem S2048x64 .bf16) (harg9 : arg9.IsWhole)
  (arg10 : Memref sig .tc .vmem S256x256 .f32) (harg10 : arg10.IsWhole)
  (arg11 : Memref sig .tc .vmem S8x1x256 .f32) (harg11 : arg11.IsWhole)
  (arg12 : Memref sig .tc .vmem S8x80x256 .f32) (harg12 : arg12.IsWhole)

/-- What a first block of queries of a batch leaves as results. -/
theorem blockA (hc0 : cond0_0 i) (hc1 : cond0_1 i) (hc2 : ¬cond0_2 i)
    (x0 : Vec F S1x4x256x64 .f32) (x1 : Vec F S1x4x2048x64 .bf16) (x2 : Vec F S1x4x8x64x256 .bf16)
    (x3 : Vec F S4x32 .f32) (x4 : Vec F S64x256 .f32) :
    out0_A_5 c i arg3 harg3 arg4 harg4 arg5 harg5 arg6 harg6 arg7 harg7 arg8 harg8 arg9 harg9 arg10 harg10 arg11 harg11 arg12 harg12 hc0 hc1 hc2 x0 x1 x2 x3 x4
      = outBlock (k0_pay393 x3) x4 (fun ch => topRows (finA x0 x1 x2 k0_pay408 (i 2).val ch))
          (fun ch => weightRow (finA x0 x1 x2 k0_pay408 (i 2).val ch)) :=
  (congrArg (fun L => VO0_5.read (Elt F) (VO0_5.writes (Elt F) VO0_5.junk L))
    (outA c i arg3 harg3 arg4 harg4 arg5 harg5 arg6 harg6 arg7 harg7 arg8 harg8 arg9 harg9 arg10 harg10 arg11 harg11 arg12 harg12 hc0 hc1 hc2 x0 x1 x2 x3 x4)).trans (read_block _)

/-- What a block of queries of odd number leaves as results. -/
theorem blockB (hc0 : ¬cond0_0 i) (hc1 : ¬cond0_1 i) (hc2 : cond0_2 i)
    (x0 : Vec F S1x4x256x64 .f32) (x1 : Vec F S1x4x2048x64 .bf16) (x2 : Vec F S1x4x8x64x256 .bf16)
    (x3 : Vec F S4x32 .f32) (x4 : Vec F S64x256 .f32) (xs1 : Vec F S256x256 .f32) :
    out0_B_5 c i arg3 harg3 arg4 harg4 arg5 harg5 arg6 harg6 arg7 harg7 arg8 harg8 arg9 harg9 arg10 harg10 arg11 harg11 arg12 harg12 hc0 hc1 hc2 x0 x1 x2 x3 x4 xs1
      = outBlock (k0_pay393 x3) x4 (fun ch => topRows (finA x0 x1 x2 xs1 (i 2).val ch))
          (fun ch => weightRow (finA x0 x1 x2 xs1 (i 2).val ch)) :=
  (congrArg (fun L => VO0_5.read (Elt F) (VO0_5.writes (Elt F) VO0_5.junk L))
    (outB c i arg3 harg3 arg4 harg4 arg5 harg5 arg6 harg6 arg7 harg7 arg8 harg8 arg9 harg9 arg10 harg10 arg11 harg11 arg12 harg12 hc0 hc1 hc2 x0 x1 x2 x3 x4 xs1)).trans (read_block _)

/-- What a later block of queries of even number leaves as results. -/
theorem blockC (hc0 : ¬cond0_0 i) (hc1 : cond0_1 i) (hc2 : ¬cond0_2 i)
    (x0 : Vec F S1x4x256x64 .f32) (x1 : Vec F S1x4x2048x64 .bf16) (x2 : Vec F S1x4x8x64x256 .bf16)
    (x3 : Vec F S4x32 .f32) (x4 : Vec F S64x256 .f32) (xs1 : Vec F S256x256 .f32) :
    out0_C_5 c i arg3 harg3 arg4 harg4 arg5 harg5 arg6 harg6 arg7 harg7 arg8 harg8 arg9 harg9 arg10 harg10 arg11 harg11 arg12 harg12 hc0 hc1 hc2 x0 x1 x2 x3 x4 xs1
      = outBlock (k0_pay393 x3) x4 (fun ch => topRows (finA x0 x1 x2 xs1 (i 2).val ch))
          (fun ch => weightRow (finA x0 x1 x2 xs1 (i 2).val ch)) :=
  (congrArg (fun L => VO0_5.read (Elt F) (VO0_5.writes (Elt F) VO0_5.junk L))
    (outC c i arg3 harg3 arg4 harg4 arg5 harg5 arg6 harg6 arg7 harg7 arg8 harg8 arg9 harg9 arg10 harg10 arg11 harg11 arg12 harg12 hc0 hc1 hc2 x0 x1 x2 x3 x4 xs1)).trans (read_block _)

/-- The bias a first block of queries stores. -/
theorem storedBias (hc0 : cond0_0 i) (hc1 : cond0_1 i) (hc2 : ¬cond0_2 i)
    (x0 : Vec F S1x4x256x64 .f32) (x1 : Vec F S1x4x2048x64 .bf16) (x2 : Vec F S1x4x8x64x256 .bf16)
    (x3 : Vec F S4x32 .f32) (x4 : Vec F S64x256 .f32) : sout0_A_1 c i arg3 harg3 arg4 harg4 arg5 harg5 arg6 harg6 arg7 harg7 arg8 harg8 arg9 harg9 arg10 harg10 arg11 harg11 arg12 harg12 hc0 hc1 hc2 x0 x1 x2 x3 x4 = k0_pay408 :=
  (congrArg (fun L => VS0_1.read (Elt F) (VS0_1.writes (Elt F) VS0_1.junk L)) (biasA c i arg3 harg3 arg4 harg4 arg5 harg5 arg6 harg6 arg7 harg7 arg8 harg8 arg9 harg9 arg10 harg10 arg11 harg11 arg12 harg12 hc0 hc1 hc2 x0 x1 x2 x3 x4)).trans (read_bias _)

end

/-- The block of results of point `t`, from the blocks of queries, keys, values, lambda and gain it is given. -/
def pointOut (c : Dev nD) (t : Fin cfg0.N) : Vec F S1x256x256 .bf16 :=
  outBlock (k0_pay393 (iblk m c 3 t)) (iblk m c 4 t)
    (fun ch => topRows (finA (iblk m c 0 t) (iblk m c 1 t) (iblk m c 2 t) k0_pay408 (grid0.coords t 2).val ch))
    (fun ch => weightRow (finA (iblk m c 0 t) (iblk m c 1 t) (iblk m c 2 t) k0_pay408 (grid0.coords t 2).val ch))

/-- The results of a first block of queries of a batch, at its point of the grid. -/
theorem pointA (c : Dev nD) (t : Fin cfg0.N) (h0 : t.val % 8 = 0) (h1 : t.val % 2 = 0) (h2 : ¬t.val % 2 = 1) :
    outsAt0 m c t.val t.isLt = (pointOut m c t, k0_pay408) := by
  have e := blockA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)
  have e' := storedBias c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)
  have key := outsAt0_A m c t h0 h1 h2
  rw [e, e'] at key
  exact key

/-- The results at a point of the case that reads the bias the point before left. -/
theorem pointB (c : Dev nD) (t : Fin cfg0.N) (h0 : ¬t.val % 8 = 0) (h1 : ¬t.val % 2 = 0) (h2 : t.val % 2 = 1)
    (hb : (outsAt0 m c (t.val - 1) (Nat.lt_of_le_of_lt (Nat.sub_le _ _) t.isLt)).2 = k0_pay408) :
    outsAt0 m c t.val t.isLt = (pointOut m c t, k0_pay408) := by
  have e := blockB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t)  k0_pay408
  have key := outsAt0_B m c t h0 h1 h2
  unfold sout0_B_1 at key
  rw [hb, e] at key
  exact key

/-- The results at a point of the case that reads the bias the point before left. -/
theorem pointC (c : Dev nD) (t : Fin cfg0.N) (h0 : ¬t.val % 8 = 0) (h1 : t.val % 2 = 0) (h2 : ¬t.val % 2 = 1)
    (hb : (outsAt0 m c (t.val - 1) (Nat.lt_of_le_of_lt (Nat.sub_le _ _) t.isLt)).2 = k0_pay408) :
    outsAt0 m c t.val t.isLt = (pointOut m c t, k0_pay408) := by
  have e := blockC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t)  k0_pay408
  have key := outsAt0_C m c t h0 h1 h2
  unfold sout0_C_1 at key
  rw [hb, e] at key
  exact key

/-- After every point the block is that point's results, and the scratch holds the causal bias. -/
theorem outs_eq (c : Dev nD) : ∀ (n : ℕ) (hn : n < cfg0.N),
    outsAt0 m c n hn = (pointOut m c ⟨n, hn⟩, k0_pay408) := by
  intro n
  induction n using Nat.strong_induction_on with
  | _ n ih =>
    intro hn
    by_cases h0 : n % 8 = 0
    · exact pointA m c ⟨n, hn⟩ h0 (by dsimp only; omega) (by dsimp only; omega)
    · have hp : n - 1 < n := by
        rcases Nat.eq_zero_or_pos n with h | h
        · exact absurd (by rw [h]) h0
        · omega
      by_cases h1 : n % 2 = 0
      · exact pointC m c ⟨n, hn⟩ h0 h1 (by dsimp only; omega) (congrArg Prod.snd (ih (n - 1) hp _))
      · exact pointB m c ⟨n, hn⟩ h0 h1 (by dsimp only; omega) (congrArg Prod.snd (ih (n - 1) hp _))

/-- The array of results: at every index, the block of results of the point that writes it. -/
theorem result_eq (c : Dev nD) (i : S8x2048x256.Idx) :
    Value.G5 m c i = if h : Value.pt5Of i < cfg0.N then pointOut m c ⟨Value.pt5Of i, h⟩ (Value.loc5Of i)
      else V m c (Pipeline.arrRef spec0 5) i := by
  unfold Value.G5
  split
  · rename_i h
    rw [← Value.outsAt0_sweep m c (Value.pt5Of i) h, outs_eq m c (Value.pt5Of i) h]
  · rfl

end Cert.Attn

end
-- ==== Proof.Attn.Blocks.lean ====
/- The blocks each point is given, read off the argument arrays. -/
module

public import proofs.«01_k».proof.Proof.Attn.Point
public import Idealize.ShloMosaic.Lib.Pipeline.ValueKit

@[expose] public section

set_option maxRecDepth 16384
set_option maxHeartbeats 400000

noncomputable section

namespace Cert.Attn

open Idealize.ShloMosaic Idealize.ShloMosaic.TcCoe Cert.KernelIdeal Cert.KernelIdeal.Gen

variable (m : (ℓ : Loc nD τ sig) → Buf (Elt Ideal) ℓ)

/-- The windows' block indices, in the two coordinates that vary. -/
theorem idx : ∀ t : Fin cfg0.N, win0_0.index t = ![t.val / 8, 0, t.val % 8, 0] ∧ win0_1.index t = ![t.val / 8, 0, 0, 0]
    ∧ win0_2.index t = ![t.val / 8, 0, 0, 0, 0] ∧ win0_3.index t = ![0, 0] ∧ win0_4.index t = ![0, 0] :=
  (by decide +kernel : ∀ t : Fin grid0.N, _)

theorem coord2 : ∀ t : Fin cfg0.N, (grid0.coords t 2).val = t.val % 8 :=
  (by decide +kernel : ∀ t : Fin grid0.N, _)

theorem V_q (c : Dev nD) : V m c main_v1 = transpose S8x4x2048x64 [0, 2, 1, 3]
    (shapeCast S8x2048x4x64 (m ((c : Thread nD τ).loc main_arg0)) shapeCasts_S8x2048x256_S8x2048x4x64)
    transposes_S8x2048x4x64_S8x4x2048x64_0_2_1_3 := by
  entry_read
  rfl

theorem V_k (c : Dev nD) : V m c main_v4 = truncf .bf16 (transpose S8x4x2048x64 [0, 2, 1, 3]
    (shapeCast S8x2048x4x64 (m ((c : Thread nD τ).loc main_arg1)) shapeCasts_S8x2048x256_S8x2048x4x64)
    transposes_S8x2048x4x64_S8x4x2048x64_0_2_1_3 : FVec Ideal S8x4x2048x64 .f32) bitsLt_bf16_f32 := by
  entry_read
  rfl

theorem V_v (c : Dev nD) : V m c main_v7 = truncf .bf16 (transpose S8x4x8x64x256 [0, 3, 1, 4, 2]
    (shapeCast S8x8x256x4x64 (m ((c : Thread nD τ).loc main_arg2)) shapeCasts_S8x2048x256_S8x8x256x4x64)
    transposes_S8x8x256x4x64_S8x4x8x64x256_0_3_1_4_2 : FVec Ideal S8x4x8x64x256 .f32) bitsLt_bf16_f32 := by
  entry_read
  rfl

theorem V_g (c : Dev nD) : V m c main_v9 = broadcastInDim S64x256 ![0, 1] bcast_S64x1_S64x256_0_1
    (broadcastInDim S64x1 ![0] bcast_S64_S64x1_0 (m ((c : Thread nD τ).loc main_arg4))) := by
  entry_read
  rfl

theorem heads_at {α : Type} (x : S8x2048x256.Idx → α) (b : Fin 8) (h : Fin 4) (s : Fin 2048) (d : Fin 64) :
    transpose S8x4x2048x64 [0, 2, 1, 3] (shapeCast S8x2048x4x64 x shapeCasts_S8x2048x256_S8x2048x4x64)
      transposes_S8x2048x4x64_S8x4x2048x64_0_2_1_3 (ix4 b h s d) = x (ix3 b s ⟨64 * h.val + d.val, by omega⟩) := by
  pointwise []
  blk_ext []

theorem tiles_at {α : Type} (x : S8x2048x256.Idx → α) (b : Fin 8) (h : Fin 4) (n : Fin 8) (d : Fin 64) (a : Fin 256) :
    transpose S8x4x8x64x256 [0, 3, 1, 4, 2] (shapeCast S8x8x256x4x64 x shapeCasts_S8x2048x256_S8x8x256x4x64)
      transposes_S8x8x256x4x64_S8x4x8x64x256_0_3_1_4_2 (ix5 b h n d a)
      = x (ix3 b ⟨256 * n.val + a.val, by omega⟩ ⟨64 * h.val + d.val, by omega⟩) := by
  pointwise []
  blk_ext []

/-- The batch a point works on. -/
def bOf (t : Fin cfg0.N) : Fin 8 := ⟨t.val / 8, by have h := lt_of_lt_of_eq t.isLt (show cfg0.N = 64 from N_0); omega⟩

theorem blk_q (c : Dev nD) (t : Fin cfg0.N) (h : Fin 4) (r : Fin 256) (d : Fin 64) :
    (iblk m c 0 t (ix4 0 h r d) : EReal) = m ((c : Thread nD τ).loc main_arg0)
      (ix3 (bOf t) ⟨256 * (t.val % 8) + r.val, by omega⟩ ⟨64 * h.val + d.val, by omega⟩) := by
  refine Eq.trans ?_ ((congrFun (V_q m c) (ix4 (bOf t) h ⟨256 * (t.val % 8) + r.val, by omega⟩ d)).trans (heads_at _ _ _ _ _))
  unfold bOf
  blk_ext [iblk, idx t]

theorem blk_k (c : Dev nD) (t : Fin cfg0.N) (h : Fin 4) (s : Fin 2048) (d : Fin 64) :
    (iblk m c 1 t (ix4 0 h s d) : EReal) = m ((c : Thread nD τ).loc main_arg1)
      (ix3 (bOf t) s ⟨64 * h.val + d.val, by omega⟩) := by
  refine Eq.trans ?_ ((congrFun (V_k m c) (ix4 (bOf t) h s d)).trans (heads_at _ _ _ _ _))
  unfold bOf
  blk_ext [iblk, idx t]

theorem blk_v (c : Dev nD) (t : Fin cfg0.N) (h : Fin 4) (n : Fin 8) (d : Fin 64) (a : Fin 256) :
    (iblk m c 2 t (ix5 0 h n d a) : EReal) = m ((c : Thread nD τ).loc main_arg2)
      (ix3 (bOf t) ⟨256 * n.val + a.val, by omega⟩ ⟨64 * h.val + d.val, by omega⟩) := by
  refine Eq.trans ?_ ((congrFun (V_v m c) (ix5 (bOf t) h n d a)).trans (tiles_at _ _ _ _ _ _))
  unfold bOf
  blk_ext [iblk, idx t]

theorem blk_lam (c : Dev nD) (t : Fin cfg0.N) (i : Fin 4) (j : Fin 32) :
    (iblk m c 3 t (ix2 i j) : EReal) = m ((c : Thread nD τ).loc main_arg3) (ix2 i j) := by
  blk_ext [iblk, V, idx t]

theorem blk_g (c : Dev nD) (t : Fin cfg0.N) (d : Fin 64) (r : Fin 256) :
    (iblk m c 4 t (ix2 d r) : EReal) = m ((c : Thread nD τ).loc main_arg4) (ix1 d) := by
  refine Eq.trans (b := (V m c main_v9 (ix2 d r) : EReal)) ?_ ((congrFun (V_g m c) (ix2 d r)).trans ?_)
  · blk_ext [iblk, idx t]
  · pointwise []

end Cert.Attn

end
-- ==== Proof.Attn.Tile.lean ====
/- The tiles over the ideal numbers, read at an index: scores, maxima, sums, the masked queries, the bias. -/
module

public import proofs.«01_k».proof.Proof.Attn.Body
public import Idealize.ShloMosaic.Lib.Pipeline.ValueKit
public import Idealize.ShloMosaic.Lib.WordCmp

@[expose] public section

set_option maxRecDepth 16384
set_option maxHeartbeats 400000

noncomputable section

namespace Cert.Attn

open Idealize.ShloMosaic Idealize.ShloMosaic.TcCoe Idealize.ShloMosaic.WordCmp Cert.KernelIdeal Cert.KernelIdeal.Gen

/-- The word of minus infinity. -/
theorem negInf_val : Ideal.ofBits FTy.f32 0xFF800000#32 = (⊥ : EReal) := by
  simp [Ideal.ofBits, Ideal.ieee]

/-- The exact value of the queries' scale. -/
def scaleE : EReal := Named.named (F := Ideal) κ "scale_log2e" (φ := .f32) 0x3E8293EE#32

theorem scaleE_eq : scaleE = (((Real.sqrt 32)⁻¹ * (Real.log 2)⁻¹ : ℝ) : EReal) :=
  IdealRules.named_const.ideal_named_scalar _ _ _ _ rfl

theorem mask_eq : Named.named (F := Ideal) κ "mask" (φ := .f32) 0xF149F2CA#32 = (⊥ : EReal) :=
  IdealRules.named_const.ideal_named_scalar _ _ _ _ rfl

/-- A score is the sum of the products of a key's and a query's lanes. -/
theorem scoreTile_at (k q : Vec Ideal S256x64 .bf16) (a r : Fin 256) :
    scoreTile (F := Ideal) k q (ix2 a r) = ∑ d : Fin 64, (k (ix2 a d) : EReal) * q (ix2 r d) := by
  pointwise [scoreTile]

/-- The new maximum of a query's column. -/
theorem newM_at (s : FVec Ideal S256x256 .f32) (m : Vec Ideal S1x1x256 .f32) (r : Fin 256) :
    newM (F := Ideal) s m (ix3 0 0 r)
      = max (m (ix3 0 0 r) : EReal) (Finset.univ.fold max (⊥ : EReal) fun k : Fin 256 => s (ix2 k r)) := by
  pointwise [newM, rowM]
  rw [show (4286578688#32 : BitVec 32) = 0xFF800000#32 from rfl, negInf_val]

/-- The new sum of a query's column: the old one rescaled, and the tile's. -/
theorem newA_at (s : FVec Ideal S256x256 .f32) (m : Vec Ideal S1x1x256 .f32) (vt : FVec Ideal S64x256 .bf16)
    (a : Vec Ideal S1x80x256 .f32) (d : Fin 80) (r : Fin 256) :
    newA (F := Ideal) s m vt a (ix3 0 d r)
      = Ideal.exp2 ((m (ix3 0 0 r) : EReal) - newM (F := Ideal) s m (ix3 0 0 r)) * a (ix3 0 d r)
        + ∑ k : Fin 256, (if h : d.val < 64 then (vt (ix2 ⟨d.val, h⟩ k) : EReal) else if d.val = 64 then 1 else 0)
          * Ideal.exp2 ((s (ix2 k r) : EReal) - newM (F := Ideal) s m (ix3 0 0 r)) := by
  rw [newM_at]
  have hw : ∀ e : ℕ, e < 80 → Scalar.select (IntOp.cmpi CmpIPredicate.eq (BitVec.ofNat 32 (e - 64)) 0#32) (1 : EReal) 0
      = if e ≤ 64 then 1 else 0 := by
    intro e he
    rw [show (0#32 : BitVec 32) = BitVec.ofNat 32 0 from rfl, cmpi_eq_ofNat (by omega) (by omega)]
    by_cases h : e ≤ 64
    · rw [if_pos h, decide_eq_true (by omega)]; rfl
    · rw [if_neg h, decide_eq_false (by omega)]; rfl
  have hw' : ∀ e : ℕ, e < 80 → ¬ e < 64 →
      Scalar.select (IntOp.cmpi CmpIPredicate.eq (BitVec.ofNat 32 (e - 64)) 0#32) (1 : EReal) 0
        = if e = 64 then 1 else 0 := by
    intro e he hn
    rw [hw e he]
    exact if_congr (by omega) rfl rfl
  pointwise [newA, rowM, onesRows]
  rw [show (4286578688#32 : BitVec 32) = 0xFF800000#32 from rfl, negInf_val]
  refine congrArg₂ (· + ·) rfl (Finset.sum_congr rfl fun k _ => congrArg₂ (· * ·) ?_ rfl)
  by_cases h : d.val < 64
  · rw [dif_pos h, dif_pos h]
  · rw [dif_neg h, dif_neg h]
    exact hw' d.val d.isLt h

/-- The bias: nothing up to the diagonal, minus infinity above it. -/
theorem bias_at (k r : Fin 256) :
    (k0_pay408 (F := Ideal) (ix2 k r) : EReal) = if k.val ≤ r.val then 0 else ⊥ := by
  pointwise [k0_pay408]
  rw [show (4048155338#32 : BitVec 32) = 0xF149F2CA#32 from rfl, mask_eq,
    cmpi_sle_ofNat (by have := k.isLt; omega) (by have := r.isLt; omega)]
  by_cases h : k.val ≤ r.val
  · rw [if_pos h, decide_eq_true h]; rfl
  · rw [if_neg h, decide_eq_false h]; rfl

theorem firstLanes_at (r : Fin 256) (d : Fin 64) : firstLanes (ix2 r d) = if d.val < 32 then 1#1 else 0#1 := by
  pointwise [firstLanes]
  rw [show (32#32 : BitVec 32) = BitVec.ofNat 32 32 from rfl, cmpi_slt_ofNat (by have := d.isLt; omega) (by omega)]
  by_cases h : d.val < 32
  · rw [if_pos h, decide_eq_true h]; rfl
  · rw [if_neg h, decide_eq_false h]; rfl

theorem cast_head {α : Type} (y : S1x1x256x64.Idx → α) (r : Fin 256) (d : Fin 64) :
    shapeCast S256x64 y shapeCasts_S1x1x256x64_S256x64 (ix2 r d) = y (ix4 0 0 r d) := by
  pointwise []

theorem cast_values {α : Type} (y : S1x1x1x64x256.Idx → α) (d : Fin 64) (r : Fin 256) :
    shapeCast S64x256 y shapeCasts_S1x1x1x64x256_S64x256 (ix2 d r) = y (ix5 0 0 0 d r) := by
  pointwise []

theorem cast_same {α : Type} (y : S256x64.Idx → α) (r : Fin 256) (d : Fin 64) :
    shapeCast S256x64 y shapeCasts_S256x64_S256x64 (ix2 r d) = y (ix2 r d) := by
  pointwise []

theorem qHead_at (x : Vec Ideal S1x4x256x64 .f32) (h : Fin 4) (r : Fin 256) (d : Fin 64) :
    qHead (F := Ideal) x h (ix2 r d) = (x (ix4 0 h r d) : EReal) * scaleE := by
  refine (congrArg (fun z : EReal => z * scaleE) (cast_head _ r d)).trans (congrArg (fun z => (x z : EReal) * scaleE) ?_)
  funext a
  fin_cases a <;> (apply Fin.ext; simp [Rect.unit, ix4])

theorem kVal_at (x : Vec Ideal S1x4x2048x64 .bf16) (c n : Fin 8) (a : Fin 256) (d : Fin 64) :
    kVal (F := Ideal) x c n.val (ix2 a d) = x (ix4 0 (headOf c) ⟨256 * n.val + a.val, by omega⟩ d) := by
  refine (cast_head _ a d).trans (congrArg x ?_)
  funext b
  have e : (Fin.ofNat 8 n.val).val = n.val := by simp
  fin_cases b <;> (apply Fin.ext; simp [Rect.unit, ix4])

theorem vVal_at (x : Vec Ideal S1x4x8x64x256 .bf16) (c n : Fin 8) (d : Fin 64) (a : Fin 256) :
    vVal (F := Ideal) x c n.val (ix2 d a) = x (ix5 0 (headOf c) n d a) := by
  refine (cast_values _ d a).trans (congrArg x ?_)
  funext b
  fin_cases b <;> (apply Fin.ext; simp [Rect.unit, ix5])

/-- A masked query: the lanes of its half, scaled, and zeros. -/
theorem qVal_at (x : Vec Ideal S1x4x256x64 .f32) (c : Fin 8) (r : Fin 256) (d : Fin 64) :
    (qVal (F := Ideal) x c (ix2 r d) : EReal)
      = if d.val / 32 = c.val % 2 then (x (ix4 0 (headOf c) r d) : EReal) * scaleE else 0 := by
  have hd := d.isLt
  have hz : (Scalar.ofBits .bf16 0x0000#16 : Ideal .bf16) = (0 : EReal) := Ideal.ofBits_zero_bf16
  refine (cast_same _ r d).trans ?_
  by_cases hc : c.val % 2 = 0
  · rw [if_pos hc]
    refine (congrArg (fun b => Scalar.select b _ _) (firstLanes_at r d)).trans ?_
    by_cases h : d.val < 32
    · rw [if_pos h, if_pos (by omega)]
      exact qHead_at x (headOf c) r d
    · rw [if_neg h, if_neg (by omega)]
      exact hz
  · rw [if_neg hc]
    refine (congrArg (fun b => Scalar.select b _ _) (firstLanes_at r d)).trans ?_
    by_cases h : d.val < 32
    · rw [if_pos h, if_neg (by omega)]
      exact hz
    · rw [if_neg h, if_pos (by omega)]
      exact qHead_at x (headOf c) r d

end Cert.Attn

end
-- ==== Proof.Attn.Online.lean ====
/- The online softmax over extended reals, one row of one head: what the running maximum and the running sums hold
   after the first `n` keys, and that a tile of keys takes them from `n` to `n + c`. -/
module

public import Idealize.ShloMosaic.PureOps.Ideal

@[expose] public section

noncomputable section

namespace Cert.Attn

open Idealize.ShloMosaic

/-- What an accumulator holds for a softmax over the first `n` keys, with scores `σ` in base two and one weight `w` a
    key: nothing before the first key; from then on the maximum slot holds some real `M` and the sum slot the sum of
    the weights at `2 ^ (σ - M)`. -/
def Held (n : ℕ) (σ w : ℕ → ℝ) (m a : EReal) : Prop :=
  (n = 0 ∧ m = ⊥ ∧ a = 0) ∨
    ∃ M : ℝ, m = M ∧ a = ((∑ x ∈ Finset.range n, w x * (2 : ℝ) ^ (σ x - M) : ℝ) : EReal)

theorem held_zero (σ w : ℕ → ℝ) : Held 0 σ w ⊥ 0 := Or.inl ⟨rfl, rfl, rfl⟩

/-- The greatest of a real-or-absent start and of scores of which one at least is present is a real. -/
theorem fold_max_real {N : ℕ} (m : EReal) (hm : m ≠ ⊤) (s : Fin N → EReal) (hs : ∀ k, s k ≠ ⊤)
    (k₀ : Fin N) (h₀ : s k₀ ≠ ⊥) :
    ∃ M : ℝ, max m (Finset.univ.fold max ⊥ s) = M := by
  have hlt : ∀ t : Finset (Fin N), t.fold max ⊥ s < ⊤ := by
    intro t
    rw [Finset.fold_max_lt]
    exact ⟨bot_lt_top, fun k _ => lt_top_iff_ne_top.2 (hs k)⟩
  have hge : s k₀ ≤ Finset.univ.fold max ⊥ s := by
    rw [Finset.le_fold_max]
    exact Or.inr ⟨k₀, Finset.mem_univ _, le_rfl⟩
  have h1 : max m (Finset.univ.fold max ⊥ s) ≠ ⊤ :=
    (max_lt (lt_top_iff_ne_top.2 hm) (hlt _)).ne
  have h2 : max m (Finset.univ.fold max ⊥ s) ≠ ⊥ := by
    intro h
    have : s k₀ ≤ ⊥ := h ▸ hge.trans (le_max_right _ _)
    exact h₀ (le_bot_iff.1 this)
  exact ⟨_, (EReal.coe_toReal h1 h2).symm⟩

/-- A sum of reals, taken in the extended reals. -/
theorem coe_sum {ι : Type} (t : Finset ι) (f : ι → ℝ) :
    ((∑ x ∈ t, f x : ℝ) : EReal) = ∑ x ∈ t, (f x : EReal) := by
  classical
  induction t using Finset.induction_on with
  | empty => simp
  | insert x t hx ih => rw [Finset.sum_insert hx, Finset.sum_insert hx, EReal.coe_add, ih]

/-- A sum over the `N` keys of a tile, of which the first `c` count. -/
theorem sum_fin_lt {N c : ℕ} (hc : c ≤ N) (f : ℕ → ℝ) :
    (∑ k : Fin N, if k.val < c then f k.val else 0) = ∑ x ∈ Finset.range c, f x := by
  rw [Fin.sum_univ_eq_sum_range (fun x => if x < c then f x else 0) N, ← Finset.sum_filter]
  congr 1
  ext x
  simp only [Finset.mem_filter, Finset.mem_range]
  omega

/-- One tile: the first `c` of its `N` keys are the keys `n, …, n + c - 1`, the others are masked off; the maximum
    goes to the greatest of itself and the tile's scores, the sum is rescaled and takes the tile's weights. -/
theorem Held.step {n N c : ℕ} {σ w : ℕ → ℝ} {m a : EReal} (h : Held n σ w m a) (hc : 0 < c) (hcN : c ≤ N)
    (s v : Fin N → EReal) (hs : ∀ k, s k = if k.val < c then (σ (n + k.val) : EReal) else ⊥)
    (hv : ∀ k, v k = (w (n + k.val) : EReal)) :
    Held (n + c) σ w (max m (Finset.univ.fold max ⊥ s))
      (Ideal.exp2 (m - max m (Finset.univ.fold max ⊥ s)) * a
        + ∑ k, v k * Ideal.exp2 (s k - max m (Finset.univ.fold max ⊥ s))) := by
  have hm : m ≠ ⊤ := by
    rcases h with ⟨_, h, _⟩ | ⟨M, h, _⟩ <;> rw [h]
    · exact bot_ne_top
    · exact EReal.coe_ne_top _
  have hst : ∀ k, s k ≠ ⊤ := by
    intro k
    rw [hs k]
    split_ifs
    · exact EReal.coe_ne_top _
    · exact bot_ne_top
  have h0 : s ⟨0, by omega⟩ ≠ ⊥ := by
    rw [hs]
    simp only [hc, if_true]
    exact EReal.coe_ne_bot _
  obtain ⟨M', hM'⟩ := fold_max_real m hm s hst ⟨0, by omega⟩ h0
  rw [hM']
  refine Or.inr ⟨M', rfl, ?_⟩
  have htile : (∑ k, v k * Ideal.exp2 (s k - M'))
      = ((∑ x ∈ Finset.range c, w (n + x) * (2 : ℝ) ^ (σ (n + x) - M') : ℝ) : EReal) := by
    rw [← sum_fin_lt hcN (fun x => w (n + x) * (2 : ℝ) ^ (σ (n + x) - M')), coe_sum]
    refine Finset.sum_congr rfl fun k _ => ?_
    rw [hs k, hv k]
    split_ifs
    · rw [← EReal.coe_sub, Ideal.exp2_coe, ← EReal.coe_mul]
      rfl
    · rw [EReal.bot_sub, Ideal.exp2_bot, mul_zero]
      rfl
  have hold : Ideal.exp2 (m - M') * a
      = ((∑ x ∈ Finset.range n, w x * (2 : ℝ) ^ (σ x - M') : ℝ) : EReal) := by
    rcases h with ⟨hn, h1, h2⟩ | ⟨M, h1, h2⟩
    · rw [h2, hn, mul_zero]
      simp
    · rw [h1, h2, ← EReal.coe_sub, Ideal.exp2_coe, ← EReal.coe_mul]
      congr 1
      rw [Finset.mul_sum]
      refine Finset.sum_congr rfl fun x _ => ?_
      have : (2 : ℝ) ^ (σ x - M') = Real.rpow 2 (M - M') * (2 : ℝ) ^ (σ x - M) := by
        change _ = (2 : ℝ) ^ (M - M') * _
        rw [← Real.rpow_add (by norm_num)]
        congr 1
        ring
      rw [this]
      ring
  rw [hold, htile, ← EReal.coe_add, Finset.sum_range_add]

/-- What the sums come to, one divided by the other: the softmax's mean of the weights, whatever the maximum was. -/
theorem Held.mean {n : ℕ} (hn : 0 < n) {σ w : ℕ → ℝ} {m a l : EReal} (ha : Held n σ w m a)
    (hl : Held n σ (fun _ => 1) m l) :
    a * Ideal.div 1 l
      = (((∑ x ∈ Finset.range n, w x * (2 : ℝ) ^ σ x) / ∑ x ∈ Finset.range n, (2 : ℝ) ^ σ x : ℝ) : EReal) := by
  rcases ha with ⟨h, _⟩ | ⟨M, h1, h2⟩
  · omega
  rcases hl with ⟨h, _⟩ | ⟨M', h1', h2'⟩
  · omega
  have hMM : M = M' := EReal.coe_injective (h1.symm.trans h1')
  subst hMM
  have hpos : 0 < ∑ x ∈ Finset.range n, (2 : ℝ) ^ σ x :=
    Finset.sum_pos (fun x _ => by positivity) ⟨0, Finset.mem_range.2 hn⟩
  have hM : (0 : ℝ) < (2 : ℝ) ^ M := by positivity
  have e1 : (∑ x ∈ Finset.range n, w x * (2 : ℝ) ^ (σ x - M))
      = (∑ x ∈ Finset.range n, w x * (2 : ℝ) ^ σ x) / (2 : ℝ) ^ M := by
    rw [Finset.sum_div]
    refine Finset.sum_congr rfl fun x _ => ?_
    rw [Real.rpow_sub (by norm_num), mul_div_assoc]
  have e2 : (∑ x ∈ Finset.range n, 1 * (2 : ℝ) ^ (σ x - M))
      = (∑ x ∈ Finset.range n, (2 : ℝ) ^ σ x) / (2 : ℝ) ^ M := by
    rw [Finset.sum_div]
    refine Finset.sum_congr rfl fun x _ => ?_
    rw [Real.rpow_sub (by norm_num), one_mul]
  have hne : (∑ x ∈ Finset.range n, (2 : ℝ) ^ σ x) / (2 : ℝ) ^ M ≠ 0 := (div_pos hpos hM).ne'
  rw [h2, h2', e1, e2]
  have hd : Ideal.div 1 (((∑ x ∈ Finset.range n, (2 : ℝ) ^ σ x) / (2 : ℝ) ^ M : ℝ) : EReal)
      = ((1 / ((∑ x ∈ Finset.range n, (2 : ℝ) ^ σ x) / (2 : ℝ) ^ M) : ℝ) : EReal) := by
    rw [Ideal.div_coe hne, one_mul]
  rw [hd, ← EReal.coe_mul]
  congr 1
  field_simp

/-- The dense softmax over `N` keys of which the first `n` are kept, the others at the score ⊥: weight by weight. -/
theorem dense_weight {n N : ℕ} (hn : 0 < n) (hnN : n ≤ N) (s : ℕ → ℝ) (t : Fin N → EReal)
    (ht : ∀ k, t k = if k.val < n then (s k.val : EReal) else ⊥) (k : Fin N) (hk : k.val < n) :
    Ideal.div (Ideal.exp (t k - max ⊥ (Finset.univ.fold max ⊥ t)))
        (0 + ∑ k', Ideal.exp (t k' - max ⊥ (Finset.univ.fold max ⊥ t)))
      = ((Real.exp (s k.val) / ∑ x ∈ Finset.range n, Real.exp (s x) : ℝ) : EReal) := by
  have hst : ∀ k, t k ≠ ⊤ := by
    intro k
    rw [ht k]
    split_ifs
    · exact EReal.coe_ne_top _
    · exact bot_ne_top
  have h0 : t ⟨0, by omega⟩ ≠ ⊥ := by
    rw [ht]
    simp only [hn, if_true]
    exact EReal.coe_ne_bot _
  obtain ⟨M, hM⟩ := fold_max_real ⊥ bot_ne_top t hst ⟨0, by omega⟩ h0
  rw [hM]
  have hsum : (∑ k', Ideal.exp (t k' - M))
      = (((∑ x ∈ Finset.range n, Real.exp (s x)) / Real.exp M : ℝ) : EReal) := by
    rw [Finset.sum_div, ← sum_fin_lt hnN (fun x => Real.exp (s x) / Real.exp M), coe_sum]
    refine Finset.sum_congr rfl fun k _ => ?_
    rw [ht k]
    split_ifs
    · rw [← EReal.coe_sub, Ideal.exp_coe, Real.exp_sub]
    · rw [EReal.bot_sub, Ideal.exp_bot]
      rfl
  have hpos : 0 < ∑ x ∈ Finset.range n, Real.exp (s x) :=
    Finset.sum_pos (fun x _ => Real.exp_pos _) ⟨0, Finset.mem_range.2 hn⟩
  have hne : (∑ x ∈ Finset.range n, Real.exp (s x)) / Real.exp M ≠ 0 := (div_pos hpos (Real.exp_pos M)).ne'
  rw [zero_add, hsum, ht k, if_pos hk, ← EReal.coe_sub, Ideal.exp_coe, Ideal.div_coe hne, Real.exp_sub,
    ← EReal.coe_mul]
  congr 1
  field_simp

end Cert.Attn
-- ==== Proof.Attn.Sweep.lean ====
/- A chunk's running maxima and sums over real queries, keys and values: after `n` tiles they are those of the first
   `256 n` keys, and after the diagonal tile those of the keys up to the query. -/
module

public import proofs.«01_k».proof.Proof.Attn.Tile
public import proofs.«01_k».proof.Proof.Attn.Online

@[expose] public section

set_option maxRecDepth 16384
set_option maxHeartbeats 400000

noncomputable section

namespace Cert.Attn

open Idealize.ShloMosaic Idealize.ShloMosaic.TcCoe Cert.KernelIdeal Cert.KernelIdeal.Gen

/-- The real scale: one over the root of 32, and over the natural logarithm of 2. -/
def scaleR : ℝ := (Real.sqrt 32)⁻¹ * (Real.log 2)⁻¹

/-- The score of a key against a query in the lanes of one half of a head, in powers of two. -/
def lane (half : ℕ) (q k : Fin 64 → ℝ) : ℝ :=
  ∑ d : Fin 64, k d * (if d.val / 32 = half then q d * scaleR else 0)

/-- What row `d` of the sums adds up: the values' lanes, then ones, then nothing. -/
def rowW (w : ℕ → Fin 64 → ℝ) (d : Fin 80) (p : ℕ) : ℝ :=
  if h : d.val < 64 then w p ⟨d.val, h⟩ else if d.val = 64 then 1 else 0

/-- A block of queries, keys and values holds reals. -/
structure RealBlocks (x0 : Vec Ideal S1x4x256x64 .f32) (x1 : Vec Ideal S1x4x2048x64 .bf16)
    (x2 : Vec Ideal S1x4x8x64x256 .bf16) (h : Fin 4) (q : Fin 256 → Fin 64 → ℝ) (k w : ℕ → Fin 64 → ℝ) : Prop where
  hq : ∀ r d, (x0 (ix4 0 h r d) : EReal) = (q r d : EReal)
  hk : ∀ (p : Fin 2048) d, (x1 (ix4 0 h p d) : EReal) = (k p.val d : EReal)
  hw : ∀ (n : Fin 8) d (a : Fin 256), (x2 (ix5 0 h n d a) : EReal) = (w (256 * n.val + a.val) d : EReal)

section

variable {x0 : Vec Ideal S1x4x256x64 .f32} {x1 : Vec Ideal S1x4x2048x64 .bf16} {x2 : Vec Ideal S1x4x8x64x256 .bf16}
  {c : Fin 8} {q : Fin 256 → Fin 64 → ℝ} {k w : ℕ → Fin 64 → ℝ}

/-- A score of real blocks is a real. -/
theorem score_real (R : RealBlocks x0 x1 x2 (headOf c) q k w) (n : Fin 8) (a r : Fin 256) :
    (scoreTile (F := Ideal) (kVal x1 c n.val) (qVal x0 c) (ix2 a r) : EReal)
      = (lane (c.val % 2) (q r) (k (256 * n.val + a.val)) : EReal) := by
  rw [scoreTile_at]
  unfold lane
  rw [coe_sum]
  refine Finset.sum_congr rfl fun d _ => ?_
  rw [kVal_at, qVal_at, R.hk, R.hq, scaleE_eq]
  split
  · rw [EReal.coe_mul, EReal.coe_mul]; rfl
  · simp

/-- The values of a tile and the rows of ones and zeros below them. -/
theorem values_real (R : RealBlocks x0 x1 x2 (headOf c) q k w) (n : Fin 8) (d : Fin 80) (a : Fin 256) :
    (if h : d.val < 64 then (vVal (F := Ideal) x2 c n.val (ix2 ⟨d.val, h⟩ a) : EReal) else if d.val = 64 then 1 else 0)
      = (rowW w d (256 * n.val + a.val) : EReal) := by
  unfold rowW
  split
  · rw [vVal_at, R.hw]
  · split <;> simp

/-- After `n` whole tiles: the maximum and the sums of the first `256 n` keys. -/
theorem sweep (R : RealBlocks x0 x1 x2 (headOf c) q k w) (r : Fin 256) (d : Fin 80) : ∀ n : ℕ, n ≤ 8 →
    Held (256 * n) (fun p => lane (c.val % 2) (q r) (k p)) (rowW w d)
      (stM (F := Ideal) (kVal x1 c) (qVal x0 c) m0 n (ix3 0 0 r))
      (stA (F := Ideal) (kVal x1 c) (vVal x2 c) (qVal x0 c) m0 a0 n (ix3 0 d r)) := by
  intro n
  induction n with
  | zero =>
    intro _
    have e1 : (stM (F := Ideal) (kVal x1 c) (qVal x0 c) m0 0 (ix3 0 0 r) : EReal) = ⊥ := mask_eq
    have e2 : (stA (F := Ideal) (kVal x1 c) (vVal x2 c) (qVal x0 c) m0 a0 0 (ix3 0 d r) : EReal) = 0 :=
      Ideal.ofBits_zero_f32
    rw [e1, e2]
    exact held_zero _ _
  | succ n ih =>
    intro hn
    have h := (ih (by omega)).step (N := 256) (c := 256) (by omega) le_rfl
      (fun a => scoreTile (F := Ideal) (kVal x1 c n) (qVal x0 c) (ix2 a r))
      (fun a => if h : d.val < 64 then (vVal (F := Ideal) x2 c n (ix2 ⟨d.val, h⟩ a) : EReal)
        else if d.val = 64 then 1 else 0)
      (fun a => by
        rw [if_pos a.isLt]
        exact score_real R ⟨n, by omega⟩ a r)
      (fun a => values_real R ⟨n, by omega⟩ d a)
    have e1 := newM_at (scoreTile (F := Ideal) (kVal x1 c n) (qVal x0 c)) (stM (F := Ideal) (kVal x1 c) (qVal x0 c) m0 n) r
    have e2 := newA_at (scoreTile (F := Ideal) (kVal x1 c n) (qVal x0 c)) (stM (F := Ideal) (kVal x1 c) (qVal x0 c) m0 n)
      (vVal x2 c n) (stA (F := Ideal) (kVal x1 c) (vVal x2 c) (qVal x0 c) m0 a0 n) d r
    rw [← e1, ← e2] at h
    exact h

/-- After the diagonal tile: the maximum and the sums of the keys up to the query. -/
theorem sweep_diag (R : RealBlocks x0 x1 x2 (headOf c) q k w) (r : Fin 256) (d : Fin 80) (n : Fin 8) :
    Held (256 * n.val + (r.val + 1)) (fun p => lane (c.val % 2) (q r) (k p)) (rowW w d)
      (newM (F := Ideal) (addf (scoreTile (kVal x1 c n.val) (qVal x0 c)) k0_pay408)
        (stM (kVal x1 c) (qVal x0 c) m0 n.val) (ix3 0 0 r))
      (finA (F := Ideal) x0 x1 x2 (k0_pay408 (F := Ideal)) n.val c (ix3 0 d r)) := by
  have hr := r.isLt
  have h := (sweep R r d n.val (by omega)).step (N := 256) (c := r.val + 1) (by omega) (by omega)
    (fun a => addf (F := Ideal) (scoreTile (kVal x1 c n.val) (qVal x0 c)) k0_pay408 (ix2 a r))
    (fun a => if h : d.val < 64 then (vVal (F := Ideal) x2 c n.val (ix2 ⟨d.val, h⟩ a) : EReal)
      else if d.val = 64 then 1 else 0)
    (fun a => by
      have e : (addf (F := Ideal) (scoreTile (kVal x1 c n.val) (qVal x0 c)) k0_pay408 (ix2 a r) : EReal)
          = (scoreTile (F := Ideal) (kVal x1 c n.val) (qVal x0 c) (ix2 a r) : EReal) + k0_pay408 (F := Ideal) (ix2 a r) := rfl
      rw [e, score_real R n a r, bias_at]
      by_cases ha : a.val ≤ r.val
      · rw [if_pos ha, if_pos (by omega), add_zero]
      · rw [if_neg ha, if_neg (by omega), EReal.add_bot])
    (fun a => values_real R n d a)
  have e1 := newM_at (addf (F := Ideal) (scoreTile (kVal x1 c n.val) (qVal x0 c)) k0_pay408)
    (stM (F := Ideal) (kVal x1 c) (qVal x0 c) m0 n.val) r
  have e2 := newA_at (addf (F := Ideal) (scoreTile (kVal x1 c n.val) (qVal x0 c)) k0_pay408)
    (stM (F := Ideal) (kVal x1 c) (qVal x0 c) m0 n.val)
    (vVal x2 c n.val) (stA (F := Ideal) (kVal x1 c) (vVal x2 c) (qVal x0 c) m0 a0 n.val) d r
  rw [← e1, ← e2] at h
  exact h

/-- A softmax of a chunk: the values' rows over the row of weights, as a mean of reals. -/
theorem chunk_mean (R : RealBlocks x0 x1 x2 (headOf c) q k w) (r : Fin 256) (d : Fin 64) (n : Fin 8) :
    (topRows (finA (F := Ideal) x0 x1 x2 (k0_pay408 (F := Ideal)) n.val c) (ix3 0 d r) : EReal)
        * Ideal.div 1 (weightRow (finA (F := Ideal) x0 x1 x2 (k0_pay408 (F := Ideal)) n.val c) (ix3 0 0 r))
      = (((∑ p ∈ Finset.range (256 * n.val + (r.val + 1)), w p d * (2 : ℝ) ^ lane (c.val % 2) (q r) (k p))
          / ∑ p ∈ Finset.range (256 * n.val + (r.val + 1)), (2 : ℝ) ^ lane (c.val % 2) (q r) (k p) : ℝ) : EReal) := by
  have hv := sweep_diag R r ⟨d.val, by omega⟩ n
  have hl := sweep_diag R r ⟨64, by omega⟩ n
  have ev : rowW w ⟨d.val, by omega⟩ = fun p => w p d := by
    funext p
    unfold rowW
    rw [dif_pos d.isLt]
  have el : rowW w ⟨64, by omega⟩ = fun _ => 1 := by
    funext p
    unfold rowW
    rw [dif_neg (by simp), if_pos rfl]
  rw [ev] at hv
  rw [el] at hl
  exact hv.mean (by omega) hl

end

end Cert.Attn

end
-- ==== Proof.Attn.Heads.lean ====
/- The block of results over the ideal numbers, read at an index. -/
module

public import proofs.«01_k».proof.Proof.Attn.Sweep

@[expose] public section

set_option maxRecDepth 16384
set_option maxHeartbeats 400000

noncomputable section

namespace Cert.Attn

open Idealize.ShloMosaic Idealize.ShloMosaic.TcCoe Cert.KernelIdeal Cert.KernelIdeal.Gen

/-- The difference of two softmaxes' means. -/
def diffAt (lam v1 l1 v2 l2 : EReal) : EReal := v1 * Ideal.div 1 l1 - lam * (v2 * Ideal.div 1 l2)

theorem diff_at (lam : FVec Ideal S1x1 .f32) (v1 : Vec Ideal S1x64x256 .f32) (l1 : Vec Ideal S1x1x256 .f32)
    (v2 : Vec Ideal S1x64x256 .f32) (l2 : Vec Ideal S1x1x256 .f32) (d : Fin 64) (r : Fin 256) :
    (k0_pay420 (F := Ideal) lam v1 l1 v2 l2 (ix2 d r) : EReal)
      = diffAt (lam (ix2 0 0)) (v1 (ix3 0 d r)) (l1 (ix3 0 0 r)) (v2 (ix3 0 d r)) (l2 (ix3 0 0 r)) := by
  unfold diffAt
  pointwise [k0_pay420]

theorem meanSq_at (lam : FVec Ideal S1x1 .f32) (v1 : Vec Ideal S1x64x256 .f32) (l1 : Vec Ideal S1x1x256 .f32)
    (v2 : Vec Ideal S1x64x256 .f32) (l2 : Vec Ideal S1x1x256 .f32) (r : Fin 256) :
    (k0_pay421 (F := Ideal) lam v1 l1 v2 l2 (ix2 0 r) : EReal)
      = Ideal.div (∑ d : Fin 64,
          (k0_pay420 (F := Ideal) lam v1 l1 v2 l2 (ix2 d r) : EReal) * k0_pay420 (F := Ideal) lam v1 l1 v2 l2 (ix2 d r))
          (Ideal.ofBits .f32 0x42800000#32) := by
  pointwise [k0_pay421]

/-- The normalised, scaled value of a row of differences. -/
def normAt (o : Fin 64 → EReal) (g : EReal) (d : Fin 64) : EReal :=
  o d * Ideal.rsqrt (Ideal.div (∑ e, o e * o e) (Ideal.ofBits .f32 0x42800000#32) + Ideal.ofBits .f32 0x358637BD#32) * g
    * Ideal.ofBits .f32 0x3F4CCCCD#32

theorem headOut_at (lam : FVec Ideal S1x1 .f32) (g : Vec Ideal S64x256 .f32) (v1 : Vec Ideal S1x64x256 .f32)
    (l1 : Vec Ideal S1x1x256 .f32) (v2 : Vec Ideal S1x64x256 .f32) (l2 : Vec Ideal S1x1x256 .f32) (d : Fin 64)
    (r : Fin 256) :
    (headOut (F := Ideal) lam g v1 l1 v2 l2 (ix2 d r) : EReal)
      = normAt (fun e => diffAt (lam (ix2 0 0)) (v1 (ix3 0 e r)) (l1 (ix3 0 0 r)) (v2 (ix3 0 e r)) (l2 (ix3 0 0 r)))
          (g (ix2 d r)) d := by
  have h : (headOut (F := Ideal) lam g v1 l1 v2 l2 (ix2 d r) : EReal)
      = k0_pay420 (F := Ideal) lam v1 l1 v2 l2 (ix2 d r)
        * Ideal.rsqrt ((k0_pay421 (F := Ideal) lam v1 l1 v2 l2 (ix2 0 r) : EReal) + Ideal.ofBits .f32 0x358637BD#32)
        * g (ix2 d r) * Ideal.ofBits .f32 0x3F4CCCCD#32 := by
    pointwise [headOut]
  rw [h, meanSq_at]
  unfold normAt
  simp only [diff_at]

/-- The mixing weight, from the four lambda vectors. -/
def lamAt (x : Fin 4 → Fin 32 → EReal) : EReal :=
  Ideal.exp (∑ j, x 0 j * x 1 j) - Ideal.exp (∑ j, x 2 j * x 3 j) + Ideal.ofBits .f32 0x3E4CCCCD#32

theorem lam_at (x : Vec Ideal S4x32 .f32) :
    (k0_pay393 (F := Ideal) x (ix2 0 0) : EReal) = lamAt fun i j => x (ix2 i j) := by
  unfold lamAt
  pointwise [k0_pay393]

theorem outBlock_at (lam : FVec Ideal S1x1 .f32) (g : Vec Ideal S64x256 .f32) (v : Fin 8 → Vec Ideal S1x64x256 .f32)
    (l : Fin 8 → Vec Ideal S1x1x256 .f32) (r : Fin 256) (h : Fin 4) (d : Fin 64) :
    (outBlock (F := Ideal) lam g v l (ix3 0 r ⟨64 * h.val + d.val, by omega⟩) : EReal)
      = headOut (F := Ideal) lam g (v ⟨2 * h.val, by omega⟩) (l ⟨2 * h.val, by omega⟩) (v ⟨2 * h.val + 1, by omega⟩)
          (l ⟨2 * h.val + 1, by omega⟩) (ix2 d r) := by
  have hd := d.isLt
  fin_cases h
  · pointwise [outBlock]
  · pointwise [outBlock]
  · pointwise [outBlock]
    rw [dif_neg (by omega), dif_neg (by omega), dif_pos (by omega)]
    exact congrArg (fun e => headOut lam g (v 4) (l 4) (v 5) (l 5) (ix2 e r)) (Fin.ext (by dsimp only; omega))
  · pointwise [outBlock]
    rw [dif_neg (by omega), dif_neg (by omega), dif_neg (by omega)]
    exact congrArg (fun e => headOut lam g (v 6) (l 6) (v 7) (l 7) (ix2 e r)) (Fin.ext (by dsimp only; omega))

end Cert.Attn

end
-- ==== Proof.Attn.KernelValue.lean ====
/- The kernel's array of results over real queries, keys and values: at every index, the normalised difference of two
   means over the keys up to the query. -/
module

public import proofs.«01_k».proof.Proof.Attn.Blocks
public import proofs.«01_k».proof.Proof.Attn.Heads

@[expose] public section

set_option maxRecDepth 16384
set_option maxHeartbeats 400000

noncomputable section

namespace Cert.Attn

open Idealize.ShloMosaic Idealize.ShloMosaic.TcCoe Cert.KernelIdeal Cert.KernelIdeal.Gen

/-- The lanes of head `h` at position `p` of batch `b`. -/
def lanes (X : S8x2048x256.Idx → ℝ) (b : Fin 8) (h : Fin 4) (p : ℕ) (d : Fin 64) : ℝ :=
  X (ix3 b (Fin.ofNat 2048 p) ⟨64 * h.val + d.val, by omega⟩)

/-- The mean of the values up to position `s`, weighted by two to the power of the scores in one half of a head. -/
def mean2 (Q K W : S8x2048x256.Idx → ℝ) (b : Fin 8) (h : Fin 4) (half s : ℕ) (d : Fin 64) : ℝ :=
  (∑ p ∈ Finset.range (s + 1), lanes W b h p d * (2 : ℝ) ^ lane half (lanes Q b h s) (lanes K b h p))
    / ∑ p ∈ Finset.range (s + 1), (2 : ℝ) ^ lane half (lanes Q b h s) (lanes K b h p)

variable (m : (ℓ : Loc nD τ sig) → Buf (Elt Ideal) ℓ)

/-- The blocks of a point hold reals where the arrays do. -/
theorem realBlocks (c : Dev nD) (Q K W : S8x2048x256.Idx → ℝ)
    (hQ : ∀ i, (m ((c : Thread nD τ).loc main_arg0) i : EReal) = (Q i : EReal))
    (hK : ∀ i, (m ((c : Thread nD τ).loc main_arg1) i : EReal) = (K i : EReal))
    (hW : ∀ i, (m ((c : Thread nD τ).loc main_arg2) i : EReal) = (W i : EReal)) (t : Fin cfg0.N) (h : Fin 4) :
    RealBlocks (iblk m c 0 t) (iblk m c 1 t) (iblk m c 2 t) h (fun r => lanes Q (bOf t) h (256 * (t.val % 8) + r.val))
      (lanes K (bOf t) h) (lanes W (bOf t) h) where
  hq r d := by
    rw [blk_q, hQ]
    unfold lanes
    have e : Fin.ofNat 2048 (256 * (t.val % 8) + r.val) = ⟨256 * (t.val % 8) + r.val, by omega⟩ :=
      Fin.ext (Nat.mod_eq_of_lt (by omega))
    rw [e]
  hk p d := by
    rw [blk_k, hK]
    unfold lanes
    have e : Fin.ofNat 2048 p.val = p := Fin.ext (Nat.mod_eq_of_lt p.isLt)
    rw [e]
  hw n d a := by
    rw [blk_v, hW]
    unfold lanes
    have e : Fin.ofNat 2048 (256 * n.val + a.val) = ⟨256 * n.val + a.val, by omega⟩ :=
      Fin.ext (Nat.mod_eq_of_lt (by omega))
    rw [e]

/-- A chunk's mean at a point. -/
theorem point_mean (c : Dev nD) (Q K W : S8x2048x256.Idx → ℝ)
    (hQ : ∀ i, (m ((c : Thread nD τ).loc main_arg0) i : EReal) = (Q i : EReal))
    (hK : ∀ i, (m ((c : Thread nD τ).loc main_arg1) i : EReal) = (K i : EReal))
    (hW : ∀ i, (m ((c : Thread nD τ).loc main_arg2) i : EReal) = (W i : EReal)) (t : Fin cfg0.N) (ch : Fin 8)
    (r : Fin 256) (d : Fin 64) :
    (topRows (finA (F := Ideal) (iblk m c 0 t) (iblk m c 1 t) (iblk m c 2 t) (k0_pay408 (F := Ideal)) (grid0.coords t 2).val ch)
        (ix3 0 d r) : EReal)
        * Ideal.div 1 (weightRow (finA (F := Ideal) (iblk m c 0 t) (iblk m c 1 t) (iblk m c 2 t) (k0_pay408 (F := Ideal))
            (grid0.coords t 2).val ch) (ix3 0 0 r))
      = (mean2 Q K W (bOf t) (headOf ch) (ch.val % 2) (256 * (t.val % 8) + r.val) d : EReal) := by
  rw [coord2 t]
  exact chunk_mean (realBlocks m c Q K W hQ hK hW t (headOf ch)) r d ⟨t.val % 8, Nat.mod_lt _ (by decide)⟩

/-- The array of results at an index. -/
theorem kernel_at (c : Dev nD) (Q K W : S8x2048x256.Idx → ℝ)
    (hQ : ∀ i, (m ((c : Thread nD τ).loc main_arg0) i : EReal) = (Q i : EReal))
    (hK : ∀ i, (m ((c : Thread nD τ).loc main_arg1) i : EReal) = (K i : EReal))
    (hW : ∀ i, (m ((c : Thread nD τ).loc main_arg2) i : EReal) = (W i : EReal)) (b : Fin 8) (s : Fin 2048) (h : Fin 4)
    (d : Fin 64) :
    (Value.G5 m c (ix3 b s ⟨64 * h.val + d.val, by omega⟩) : EReal)
      = normAt (fun e => (mean2 Q K W b h 0 s.val e : EReal)
          - lamAt (fun i j => m ((c : Thread nD τ).loc main_arg3) (ix2 i j)) * (mean2 Q K W b h 1 s.val e : EReal))
          (m ((c : Thread nD τ).loc main_arg4) (ix1 d)) d := by
  have hs := s.isLt
  have hb := b.isLt
  have hd := d.isLt
  have hN : cfg0.N = 64 := N_0
  have ht : 8 * b.val + s.val / 256 < cfg0.N := by omega
  have hp : Value.pt5Of (ix3 b s ⟨64 * h.val + d.val, by omega⟩ : S8x2048x256.Idx) = 8 * b.val + s.val / 256 := by
    simp only [Value.pt5Of, Value.run5Of, ix3]
    omega
  have hl : Value.loc5Of (ix3 b s ⟨64 * h.val + d.val, by omega⟩ : S8x2048x256.Idx)
      = ix3 0 ⟨s.val % 256, Nat.mod_lt _ (by decide)⟩ ⟨64 * h.val + d.val, by omega⟩ := by
    funext a
    fin_cases a
    · exact Fin.ext (Nat.mod_one _)
    · rfl
    · exact Fin.ext (Nat.mod_eq_of_lt (by dsimp only [ix3]; omega))
  have key : (Value.G5 m c (ix3 b s ⟨64 * h.val + d.val, by omega⟩) : EReal)
      = pointOut m c ⟨8 * b.val + s.val / 256, ht⟩
          (ix3 0 ⟨s.val % 256, Nat.mod_lt _ (by decide)⟩ ⟨64 * h.val + d.val, by omega⟩) := by
    rw [result_eq, dif_pos (by rw [hp]; exact ht), hl]
    congr 2
  rw [key]
  generalize htt : (⟨8 * b.val + s.val / 256, ht⟩ : Fin cfg0.N) = t
  have htv : t.val = 8 * b.val + s.val / 256 := by rw [← htt]
  have hbt : bOf t = b := Fin.ext (by simp only [bOf]; omega)
  have hst : 256 * (t.val % 8) + s.val % 256 = s.val := by omega
  unfold pointOut
  rw [outBlock_at, headOut_at]
  have e1 : headOf ⟨2 * h.val, by omega⟩ = h := Fin.ext (by simp only [headOf]; omega)
  have e2 : headOf ⟨2 * h.val + 1, by omega⟩ = h := Fin.ext (by simp only [headOf]; omega)
  have eg : (iblk m c 4 t (ix2 d ⟨s.val % 256, Nat.mod_lt _ (by decide)⟩) : EReal)
      = m ((c : Thread nD τ).loc main_arg4) (ix1 d) := blk_g m c t d _
  have el : (k0_pay393 (F := Ideal) (iblk m c 3 t) (ix2 0 0) : EReal)
      = lamAt fun i j => m ((c : Thread nD τ).loc main_arg3) (ix2 i j) := by
    rw [lam_at]
    exact congrArg lamAt (funext fun i => funext fun j => blk_lam m c t i j)
  refine congrArg₂ (fun o g => normAt o g d) (funext fun e => ?_) eg
  have h1 := point_mean m c Q K W hQ hK hW t ⟨2 * h.val, by omega⟩ ⟨s.val % 256, Nat.mod_lt _ (by decide)⟩ e
  have h2 := point_mean m c Q K W hQ hK hW t ⟨2 * h.val + 1, by omega⟩ ⟨s.val % 256, Nat.mod_lt _ (by decide)⟩ e
  rw [e1, hbt, show (2 * h.val) % 2 = 0 by omega, hst] at h1
  rw [e2, hbt, show (2 * h.val + 1) % 2 = 1 by omega, hst] at h2
  unfold diffAt
  exact congrArg₂ (· - ·) h1 (congrArg₂ (· * ·) el h2)

end Cert.Attn

end
-- ==== Proof.Attn.Dense.lean ====
/- The reference's array of results over real queries, keys, values and lambda vectors: at every index, the same
   normalised difference of means as the kernel's. -/
module

public import proofs.«01_k».proof.Proof.Attn.Stages
public import proofs.«01_k».proof.Proof.Attn.KernelValue

@[expose] public section

set_option maxRecDepth 16384
set_option maxHeartbeats 400000

noncomputable section

namespace Cert.Dense

open Idealize.ShloMosaic Idealize.ShloMosaic.TcCoe Cert.ReferenceIdeal Cert.ReferenceIdeal.Gen
  Cert.ReferenceIdeal.Value Cert.Attn

/-- The word of 32. -/
theorem thirtyTwo_val : Ideal.ofBits FTy.f32 0x42000000#32 = ((32 : ℝ) : EReal) := by
  simp [Ideal.ofBits, Ideal.ieee]
  rw [← EReal.coe_mul]
  norm_num

/-- The word of the mixing weight's offset is a real's. -/
theorem offset_val : ∃ x : ℝ, Ideal.ofBits FTy.f32 0x3E4CCCCD#32 = (x : EReal) := by
  refine ⟨(Ideal.ofBits FTy.f32 0x3E4CCCCD#32).toReal, (EReal.coe_toReal ?_ ?_).symm⟩ <;>
    simp [Ideal.ofBits, Ideal.ieee] <;> rw [← EReal.coe_mul]
  · exact EReal.coe_ne_top _
  · exact EReal.coe_ne_bot _

/-- A sum over the lanes of one half of a head. -/
theorem half_sum (f : Fin 64 → ℝ) (u : Fin 2) :
    (∑ d : Fin 64, if d.val / 32 = u.val then f d else 0) = ∑ d : Fin 32, f ⟨32 * u.val + d.val, by omega⟩ := by
  have e := Fin.sum_univ_add (a := 32) (b := 32) fun d : Fin 64 => if d.val / 32 = u.val then f d else 0
  refine e.trans ?_
  have h1 : ∀ d : Fin 32, (Fin.castAdd 32 d).val / 32 = 0 := fun d => by simp only [Fin.val_castAdd]; omega
  have h2 : ∀ d : Fin 32, (Fin.natAdd 32 d).val / 32 = 1 := fun d => by simp only [Fin.val_natAdd]; omega
  simp only [h1, h2]
  fin_cases u
  · simp only [Fin.zero_eta, Fin.val_zero, if_true, one_ne_zero, if_false, Finset.sum_const_zero, add_zero]
    exact Finset.sum_congr rfl fun d _ => congrArg f (Fin.ext (by simp))
  · simp only [Fin.mk_one, Fin.val_one, zero_ne_one, if_true, if_false, Finset.sum_const_zero, zero_add]
    exact Finset.sum_congr rfl fun d _ => congrArg f (Fin.ext (by simp; omega))

/-- The score in the lanes of one half, by natural logarithms: the products' sum over the root of 32. -/
theorem lane_log (u : Fin 2) (q k : Fin 64 → ℝ) :
    (∑ d : Fin 32, q ⟨32 * u.val + d.val, by omega⟩ * k ⟨32 * u.val + d.val, by omega⟩) * (1 / Real.sqrt 32)
      = Real.log 2 * lane u.val q k := by
  have hl : Real.log 2 ≠ 0 := (Real.log_pos (by norm_num)).ne'
  have e : lane u.val q k = ∑ d : Fin 64, if d.val / 32 = u.val then k d * (q d * scaleR) else 0 := by
    unfold lane
    exact Finset.sum_congr rfl fun d _ => by split <;> simp
  rw [e, half_sum (fun d => k d * (q d * scaleR)) u, Finset.sum_mul, Finset.mul_sum]
  refine Finset.sum_congr rfl fun d _ => ?_
  unfold scaleR
  field_simp

section

variable {q k v : FVec Ideal S8x2048x256 .f32} {Q K W : S8x2048x256.Idx → ℝ}

theorem lanes_at (X : S8x2048x256.Idx → ℝ) (b : Fin 8) (h : Fin 4) (s : Fin 2048) (d : Fin 64) :
    lanes X b h s.val d = X (ix3 b s ⟨64 * h.val + d.val, by omega⟩) := by
  unfold lanes
  rw [show Fin.ofNat 2048 s.val = s from Fin.ext (Nat.mod_eq_of_lt s.isLt)]

/-- A score before the mask is a real. -/
theorem raw_real (hQ : ∀ i, (q i : EReal) = (Q i : EReal)) (hK : ∀ i, (k i : EReal) = (K i : EReal)) (b : Fin 8)
    (h : Fin 4) (u : Fin 2) (s p : Fin 2048) :
    (raw q k (ix5 b h u s p) : EReal)
      = ((Real.log 2 * lane u.val (lanes Q b h s.val) (lanes K b h p.val) : ℝ) : EReal) := by
  have hr : Real.sqrt 32 ≠ 0 := (Real.sqrt_pos.mpr (by norm_num)).ne'
  rw [raw_at, thirtyTwo_val, Ideal.sqrt_coe, if_neg (by norm_num), Ideal.div_coe hr, ← lane_log, EReal.coe_mul, coe_sum]
  refine congrArg (fun z : EReal => z * ((1 / Real.sqrt 32 : ℝ) : EReal)) (Finset.sum_congr rfl fun d _ => ?_)
  rw [halves_at, halves_at, hQ, hK, lanes_at, lanes_at, EReal.coe_mul]
  have e : (⟨64 * h.val + 32 * u.val + d.val, by omega⟩ : Fin 256) = ⟨64 * h.val + (32 * u.val + d.val), by omega⟩ :=
    Fin.ext (by dsimp only; omega)
  rw [e]

/-- A masked score: a real up to the query, minus infinity after it. -/
theorem scores_real (hQ : ∀ i, (q i : EReal) = (Q i : EReal)) (hK : ∀ i, (k i : EReal) = (K i : EReal)) (b : Fin 8)
    (h : Fin 4) (u : Fin 2) (s p : Fin 2048) :
    (scores q k (ix5 b h u s p) : EReal) = if p.val < s.val + 1 then
      ((Real.log 2 * lane u.val (lanes Q b h s.val) (lanes K b h p.val) : ℝ) : EReal) else ⊥ := by
  rw [scores_at, raw_real hQ hK, mask_at, negInf_val]
  by_cases hp : p.val ≤ s.val
  · rw [if_pos hp, if_pos (by omega)]; rfl
  · rw [if_neg hp, if_neg (by omega)]; rfl

/-- A weight of the softmax over the keys up to position `s`. -/
def weight (Q K : S8x2048x256.Idx → ℝ) (b : Fin 8) (h : Fin 4) (u s p : ℕ) : ℝ :=
  (2 : ℝ) ^ lane u (lanes Q b h s) (lanes K b h p) / ∑ x ∈ Finset.range (s + 1), (2 : ℝ) ^ lane u (lanes Q b h s) (lanes K b h x)

theorem exp_log_two (x : ℝ) : Real.exp (Real.log 2 * x) = (2 : ℝ) ^ x :=
  (Real.rpow_def_of_pos (by norm_num) x).symm

/-- A probability is a real. -/
theorem probs_real (hQ : ∀ i, (q i : EReal) = (Q i : EReal)) (hK : ∀ i, (k i : EReal) = (K i : EReal)) (b : Fin 8)
    (h : Fin 4) (u : Fin 2) (s p : Fin 2048) :
    (probs (exps (scores q k)) (ix5 b h u s p) : EReal)
      = ((if p.val < s.val + 1 then weight Q K b h u.val s.val p.val else 0 : ℝ) : EReal) := by
  rw [probs_at, mask_at]
  by_cases hp : p.val ≤ s.val
  · have hd := dense_weight (N := 2048) (n := s.val + 1) (by omega) (by omega)
      (fun x => Real.log 2 * lane u.val (lanes Q b h s.val) (lanes K b h x))
      (fun x => scores q k (ix5 b h u s x)) (fun x => scores_real hQ hK b h u s x) p (by omega)
    simp only [exps_at, rowMax_at, negInf_val]
    rw [if_pos hp, if_pos (by omega)]
    refine Eq.trans hd ?_
    unfold weight
    simp only [exp_log_two]
  · rw [if_neg hp, if_neg (by omega)]
    rfl

/-- The weighted sums of the values: the difference of two means. -/
theorem mix_real (hQ : ∀ i, (q i : EReal) = (Q i : EReal)) (hK : ∀ i, (k i : EReal) = (K i : EReal))
    (hW : ∀ i, (v i : EReal) = (W i : EReal)) (l : FVec Ideal S_ .f32) (L : ℝ) (hL : (l ix0 : EReal) = (L : EReal))
    (b : Fin 8) (h : Fin 4) (s : Fin 2048) (d : Fin 64) :
    (mix (diff l (probs (exps (scores q k)))) v (ix4 b h s d) : EReal)
      = (mean2 Q K W b h 0 s.val d : EReal) - (L : EReal) * (mean2 Q K W b h 1 s.val d : EReal) := by
  have hs := s.isLt
  have e : mean2 Q K W b h 0 s.val d - L * mean2 Q K W b h 1 s.val d
      = ∑ p : Fin 2048, if p.val < s.val + 1 then
          (weight Q K b h 0 s.val p.val - L * weight Q K b h 1 s.val p.val) * lanes W b h p.val d else 0 := by
    rw [sum_fin_lt (N := 2048) (c := s.val + 1) (by omega)
      (fun p => (weight Q K b h 0 s.val p - L * weight Q K b h 1 s.val p) * lanes W b h p d)]
    unfold mean2 weight
    rw [Finset.sum_div, Finset.sum_div, Finset.mul_sum, ← Finset.sum_sub_distrib]
    exact Finset.sum_congr rfl fun p _ => by ring
  rw [mix_at, ← EReal.coe_mul, ← EReal.coe_sub, e, coe_sum]
  refine Finset.sum_congr rfl fun p _ => ?_
  have h0 := probs_real hQ hK b h 0 s p
  have h1 := probs_real hQ hK b h 1 s p
  rw [diff_at, hL, h0, h1, hW, ← EReal.coe_mul, ← EReal.coe_sub, ← EReal.coe_mul, lanes_at]
  congr 1
  by_cases hp : p.val < s.val + 1
  · rw [if_pos hp, if_pos hp, if_pos hp]; rfl
  · rw [if_neg hp, if_neg hp, if_neg hp]; ring

end

/-- The mixing weight of real lambda vectors is a real, and the kernel's the same. -/
theorem lam_real (x : FVec Ideal S4x32 .f32) (X : S4x32.Idx → ℝ) (hX : ∀ i, (x i : EReal) = (X i : EReal)) :
    ∃ L : ℝ, (lam x ix0 : EReal) = (L : EReal) ∧ lamAt (fun i j => x (ix2 i j)) = (L : EReal) := by
  obtain ⟨z, hz⟩ := offset_val
  have hs : ∀ i j : Fin 4, (∑ d : Fin 32, (x (ix2 i d) : EReal) * x (ix2 j d))
      = ((∑ d : Fin 32, X (ix2 i d) * X (ix2 j d) : ℝ) : EReal) := by
    intro i j
    rw [coe_sum]
    exact Finset.sum_congr rfl fun d _ => by rw [hX, hX, EReal.coe_mul]
  refine ⟨Real.exp (∑ d : Fin 32, X (ix2 0 d) * X (ix2 1 d)) - Real.exp (∑ d : Fin 32, X (ix2 2 d) * X (ix2 3 d)) + z, ?_, ?_⟩
  · rw [Cert.Dense.lam_at, hs, hs, hz, zero_add, zero_add, Ideal.exp_coe, Ideal.exp_coe, ← EReal.coe_sub, ← EReal.coe_add]
  · unfold lamAt
    rw [hs, hs, hz, Ideal.exp_coe, Ideal.exp_coe, ← EReal.coe_sub, ← EReal.coe_add]

/-- The array of results at an index. -/
theorem reference_at (m : (ℓ : Loc nD τ sig) → Buf (Elt Ideal) ℓ) (c : Dev nD) (Q K W : S8x2048x256.Idx → ℝ)
    (X : S4x32.Idx → ℝ)
    (hQ : ∀ i, (m ((c.tc : Thread nD τ).loc main_arg0) i : EReal) = (Q i : EReal))
    (hK : ∀ i, (m ((c.tc : Thread nD τ).loc main_arg1) i : EReal) = (K i : EReal))
    (hW : ∀ i, (m ((c.tc : Thread nD τ).loc main_arg2) i : EReal) = (W i : EReal))
    (hX : ∀ i, (m ((c.tc : Thread nD τ).loc main_arg3) i : EReal) = (X i : EReal)) (b : Fin 8) (s : Fin 2048)
    (h : Fin 4) (d : Fin 64) :
    (res_main_v70 m c (ix3 b s ⟨64 * h.val + d.val, by omega⟩) : EReal)
      = normAt (fun e => (mean2 Q K W b h 0 s.val e : EReal)
          - lamAt (fun i j => m ((c.tc : Thread nD τ).loc main_arg3) (ix2 i j)) * (mean2 Q K W b h 1 s.val e : EReal))
          (m ((c.tc : Thread nD τ).loc main_arg4) (ix1 d)) d := by
  obtain ⟨L, h1, h2⟩ := lam_real (m ((c.tc : Thread nD τ).loc main_arg3)) X hX
  rw [result_stages, joined_at, normed_at, zero_add, h2]
  unfold normAt
  simp only [mix_real hQ hK hW _ L h1]

end Cert.Dense

end
-- ==== Proof.Attn.Finite.lean ====
/- The precondition: its four arrays hold reals. -/
module

public import proofs.«01_k».proof.Defs
public import proofs.«01_k».proof.Proof.Gen.Pre_finite
public import Idealize.ShloMosaic.Lib.ReduceAll
public import Idealize.ShloMosaic.Lib.Affine

@[expose] public section

set_option maxRecDepth 16384
set_option maxHeartbeats 400000

noncomputable section

namespace Cert.Finite

open Idealize.ShloMosaic Cert.Pre_finite Cert.Pre_finite.Gen

theorem inf_val : Ideal.ofBits FTy.f32 0x7F800000#32 = ⊤ := by
  simp [Ideal.ofBits, Ideal.ieee]

/-- An extended real whose absolute value is below infinity is a real. -/
theorem real_of_abs_lt (x : EReal)
    (h : Ideal.cmp .olt (max x (-x) : EReal) (Ideal.ofBits FTy.f32 0x7F800000#32) = 1#1) :
    x = ((x.toReal : ℝ) : EReal) := by
  rw [inf_val] at h
  have hlt : max x (-x) < ⊤ := by
    by_contra hn
    simp [Ideal.cmp, hn] at h
  refine (EReal.coe_toReal ?_ ?_).symm
  · rintro rfl
    simp at hlt
  · rintro rfl
    simp at hlt

instance : Subsingleton S_.Idx := ⟨fun a b => funext fun i => i.elim0⟩

theorem real_of_finite (q k v : FVec Ideal S8x2048x256 .f32) (l : FVec Ideal S4x32 .f32) (g : FVec Ideal S64 .f32)
    (h : Cert.Pre_finite.fn (F := Ideal) q k v l g = fun _ => 1#1) :
    (∀ i, (q i : EReal) = ((q i : EReal).toReal : EReal)) ∧ (∀ i, (k i : EReal) = ((k i : EReal).toReal : EReal))
      ∧ (∀ i, (v i : EReal) = ((v i : EReal).toReal : EReal)) ∧ ∀ i, (l i : EReal) = ((l i : EReal).toReal : EReal) := by
  have e := congrFun h (fun i => i.elim0)
  dsimp only [Cert.Pre_finite.fn, Cert.Pre_finite.fn_part1] at e
  obtain ⟨e, e4⟩ := IntOp.andi_eq_one.1 e
  obtain ⟨e, e3⟩ := IntOp.andi_eq_one.1 e
  obtain ⟨e1, e2⟩ := IntOp.andi_eq_one.1 e
  exact ⟨fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end Cert.Finite

end
-- ==== Proof.Attn.Claims.lean ====
/- The claims about the attention: the frames, the named constants, and the two programs' equal results. -/
module

public import proofs.«01_k».proof.Proof.Attn.Dense
public import proofs.«01_k».proof.Proof.Attn.Finite
public import proofs.«01_k».proof.Proof.Gen.Kernel.Frame
public import Idealize.ShloMosaic.Lib.Claim

@[expose] public section

set_option maxRecDepth 16384
set_option maxHeartbeats 400000

noncomputable section

namespace Cert.AttnClaims

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

/-- The two named constants hold the values that the certificate's table gives them. -/
theorem preserves : Cert.preserves_Kernel_KernelIdeal :=
  ⟨IdealRules.named_const.statement Cert.KernelIdeal.κ "scale_log2e" .f32 0x3E8293EE#32
      (((Real.sqrt 32)⁻¹ * (Real.log 2)⁻¹ : ℝ) : EReal) rfl,
    IdealRules.named_const.statement Cert.KernelIdeal.κ "mask" .f32 0xF149F2CA#32 ⊥ rfl⟩

/-- An index of the results by batch, position, head and lane. -/
theorem index_split (i : Cert.KernelIdeal.S8x2048x256.Idx) : ∃ (b : Fin 8) (s : Fin 2048) (h : Fin 4) (d : Fin 64),
    i = ix3 b s ⟨64 * h.val + d.val, by omega⟩ := by
  have h2 : (i 2).val < 256 := (i 2).isLt
  refine ⟨i 0, i 1, ⟨(i 2).val / 64, by omega⟩, ⟨(i 2).val % 64, by omega⟩, ?_⟩
  funext a
  match a with
  | ⟨0, _⟩ => rfl
  | ⟨1, _⟩ => rfl
  | ⟨2, _⟩ => exact Fin.ext (show (i 2).val = 64 * ((i 2).val / 64) + (i 2).val % 64 by omega)

/-- From equal arguments holding reals, the kernel's array of results is the reference's. -/
theorem algebraic : Cert.algebraic_KernelIdeal_ReferenceIdeal_pre_finite := by
  intro m ρ m' ρ' hpre hagree
  refine ⟨fun c => Cert.KernelIdeal.Value.G5 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨hQ, hK, hW, hX⟩ := Cert.Finite.real_of_finite _ _ _ _ _ (hpre c)
  funext i
  obtain ⟨b, s, hd, d, rfl⟩ := index_split i
  have r := Cert.Dense.reference_at m' c _ _ _ _ (fun i => (congrFun e0 i).trans (hQ i))
    (fun i => (congrFun e1 i).trans (hK i)) (fun i => (congrFun e2 i).trans (hW i))
    (fun i => (congrFun e3 i).trans (hX i)) b s hd d
  have k := Cert.Attn.kernel_at m c _ _ _ hQ hK hW b s hd d
  rw [e3, e4] at r
  exact r.trans k.symm

end Cert.AttnClaims

end
-- ==== Proof.Ffn.Spec.lean ====
/- One gated feed-forward block over the extended reals, row by row: the modulated normalisation of a row, the gated
   product of its two projections, and the row's update. Both programs' results are compared with these. -/
module

public import Idealize.ShloMosaic.Lib.Pipeline.ValueKit

@[expose] public section

noncomputable section

namespace Cert.Ffn

open Idealize.ShloMosaic

/-- The reciprocal root of a row's mean square, the mean moved off zero by the small constant. -/
def scale (x : Fin 1024 → EReal) : EReal :=
  Ideal.rsqrt (Ideal.div (∑ k, x k * x k) (Ideal.ofBits .f32 1149239296#32) + Ideal.ofBits .f32 897988541#32)

/-- A row normalised by its root mean square and the learned gain `g`, then scaled by `1 + s` and shifted by `b`. -/
def normed (x g s b : Fin 1024 → EReal) (d : Fin 1024) : EReal :=
  x d * scale x * g d * (1 + s d) + b d

/-- One hidden value: the gate's projection times its logistic, times the other projection. -/
def gated (h wg wu : Fin 1024 → EReal) : EReal :=
  (∑ k, h k * wg k) * Ideal.logistic (∑ k, h k * wg k) * ∑ k, h k * wu k

/-- One value of the updated row: `x` plus half the gate `a` times the hidden row's projection. -/
def update (x a : EReal) (h : Fin 1024 → EReal) (wg wu : Fin 2816 → Fin 1024 → EReal) (wd : Fin 2816 → EReal) : EReal :=
  x + Ideal.ofBits .f32 1056964608#32 * a * ∑ n, gated h (wg n) (wu n) * wd n

/-- The first layer's leading block over whole arrays: the stream `X`, the nine modulation rows side by side in `M`, the
    gains `N`, and the three weights; the rows 0, 1 and 2 of the modulation are the shift, the scale and the gate. -/
def first (X : FVec Ideal ⟨3, ![8, 2048, 1024]⟩ .f32) (M : FVec Ideal ⟨2, ![8, 9216]⟩ .f32) (N : FVec Ideal ⟨3, ![4, 3, 1024]⟩ .f32)
    (Wg Wu : FVec Ideal ⟨4, ![4, 2, 1024, 2816]⟩ .f32) (Wd : FVec Ideal ⟨4, ![4, 2, 2816, 1024]⟩ .f32) : FVec Ideal ⟨3, ![8, 2048, 1024]⟩ .f32 :=
  fun i => update (X (ix3 (i 0) (i 1) (i 2))) (M (ix2 (i 0) ⟨2048 + (i 2 : ℕ), by have := (i 2).isLt; change (i 2 : ℕ) < 1024 at this; omega⟩))
    (normed (fun d => X (ix3 (i 0) (i 1) d)) (fun d => N (ix3 0 0 d)) (fun d => M (ix2 (i 0) ⟨1024 + (d : ℕ), by omega⟩))
      (fun d => M (ix2 (i 0) ⟨(d : ℕ), by omega⟩)))
    (fun n k => Wg (ix4 0 0 k n)) (fun n k => Wu (ix4 0 0 k n)) (fun n => Wd (ix4 0 0 n (i 2)))

end Cert.Ffn

end

end
-- ==== Proof.Ffn.Mix.lean ====
/- The last layer's closing block over the extended reals: the three mixers' rows side by side, projected and added to the
   stream, then the gated feed-forward update and the final normalisation. -/
module

public import proofs.«01_k».proof.Proof.Ffn.Spec

@[expose] public section

set_option maxRecDepth 16384
set_option maxHeartbeats 400000

noncomputable section

namespace Cert.Ffn

open Idealize.ShloMosaic

/-- Three rows of 256, 256 and 512 values, side by side. -/
def joined (a b : Fin 256 → EReal) (c : Fin 512 → EReal) (k : Fin 1024) : EReal :=
  if h : (k : ℕ) < 256 then a ⟨k, h⟩ else if h : (k : ℕ) - 256 < 256 then b ⟨(k : ℕ) - 256, h⟩
    else c ⟨(k : ℕ) - 256 - 256, by omega⟩

/-- The joined row's product with a column is the sum of the three rows' products with their parts of the column. -/
theorem sum_joined (a b : Fin 256 → EReal) (c : Fin 512 → EReal) (w : Fin 1024 → EReal) :
    ∑ k, joined a b c k * w k = ∑ k : Fin 256, a k * w ⟨(k : ℕ), by omega⟩ + ∑ k : Fin 256, b k * w ⟨256 + (k : ℕ), by omega⟩
      + ∑ k : Fin 512, c k * w ⟨512 + (k : ℕ), by omega⟩ := by
  have e : ∑ k : Fin 1024, joined a b c k * w k
      = ∑ k : Fin (256 + 256 + 512), joined a b c (Fin.cast (by norm_num) k) * w (Fin.cast (by norm_num) k) := rfl
  rw [e, Fin.sum_univ_add, Fin.sum_univ_add]
  refine congrArg₂ (· + ·) (congrArg₂ (· + ·) ?_ ?_) ?_
  · refine Finset.sum_congr rfl fun k _ => congrArg₂ (· * ·) ?_ rfl
    exact dif_pos (show (k : ℕ) < 256 from k.isLt)
  · refine Finset.sum_congr rfl fun k _ => congrArg₂ (· * ·) ?_ rfl
    exact (dif_neg (show ¬ (256 + (k : ℕ) < 256) by omega)).trans ((dif_pos (show 256 + (k : ℕ) - 256 < 256 by omega)).trans
      (congrArg b (Fin.ext (show 256 + (k : ℕ) - 256 = k by omega))))
  · refine Finset.sum_congr rfl fun k _ => congrArg₂ (· * ·) ?_ rfl
    exact (dif_neg (show ¬ (256 + 256 + (k : ℕ) < 256) by omega)).trans
      ((dif_neg (show ¬ (256 + 256 + (k : ℕ) - 256 < 256) by omega)).trans
        (congrArg c (Fin.ext (show 256 + 256 + (k : ℕ) - 256 - 256 = k by omega))))

/-- The updated row from a stream's row `z`, normalised by its root mean square and the last gain `f`. -/
def finish (z g s b a f : Fin 1024 → EReal) (wg wu wd : Fin 2816 → Fin 1024 → EReal) (d : Fin 1024) : EReal :=
  update (z d) (a d) (normed z g s b) wg wu (fun n => wd n d)
    * scale (fun d => update (z d) (a d) (normed z g s b) wg wu (fun n => wd n d)) * f d

/-- The last layer's closing block over whole arrays: the stream `X`, the nine modulation rows side by side in `M` (row 5
    gates the mixers, rows 6, 7 and 8 are the shift, the scale and the gate), the gains `N`, the weights, the three
    mixers' results `A`, `B` and `C`, their projection `P`, and the final gain `f`. -/
def last (X : FVec Ideal ⟨3, ![8, 2048, 1024]⟩ .f32) (M : FVec Ideal ⟨2, ![8, 9216]⟩ .f32) (N : FVec Ideal ⟨3, ![4, 3, 1024]⟩ .f32)
    (Wg Wu : FVec Ideal ⟨4, ![4, 2, 1024, 2816]⟩ .f32) (Wd : FVec Ideal ⟨4, ![4, 2, 2816, 1024]⟩ .f32)
    (A B : FVec Ideal ⟨3, ![8, 2048, 256]⟩ .f32) (C : FVec Ideal ⟨3, ![8, 2048, 512]⟩ .f32)
    (P : FVec Ideal ⟨3, ![4, 1024, 1024]⟩ .f32) (f : FVec Ideal ⟨1, ![1024]⟩ .f32) : FVec Ideal ⟨3, ![8, 2048, 1024]⟩ .f32 :=
  fun i => finish
    (fun d => X (ix3 (i 0) (i 1) d) + M (ix2 (i 0) ⟨5120 + (d : ℕ), by omega⟩)
      * ∑ k, joined (fun k => A (ix3 (i 0) (i 1) k)) (fun k => B (ix3 (i 0) (i 1) k)) (fun k => C (ix3 (i 0) (i 1) k)) k
          * P (ix3 3 k d))
    (fun d => N (ix3 3 2 d)) (fun d => M (ix2 (i 0) ⟨7168 + (d : ℕ), by omega⟩)) (fun d => M (ix2 (i 0) ⟨6144 + (d : ℕ), by omega⟩))
    (fun d => M (ix2 (i 0) ⟨8192 + (d : ℕ), by omega⟩)) (fun d => f (ix1 d))
    (fun n k => Wg (ix4 3 1 k n)) (fun n k => Wu (ix4 3 1 k n)) (fun n d => Wd (ix4 3 1 n d)) (i 2)

end Cert.Ffn

end

end
-- ==== Proof.Ffn.Tile2.lean ====
/- The closing feed-forward kernel's array: what a grid point's tile holds, and the whole result. -/
module

public import proofs.«01_k».proof.Proof.Gen.Kernel2Ideal.Value
public import proofs.«01_k».proof.Proof.Ffn.Mix
public import Idealize.ShloMosaic.Lib.Claim

@[expose] public section

set_option maxRecDepth 16384
set_option maxHeartbeats 400000

noncomputable section

namespace Cert.Ffn2

open Idealize.ShloMosaic Idealize.ShloMosaic.TcCoe Idealize.ShloMosaic.Tactic Cert.Kernel2Ideal Cert.Kernel2Ideal.Gen Cert.Ffn

variable (m : (ℓ : Loc nD τ sig) → Buf (Elt Ideal) ℓ)

/-- The hidden rows of a tile, over the weights' blocks. -/
def hidden (H : FVec Ideal S512x1024 .bf16) (G U : FVec Ideal S1x1x1024x2816 .bf16) : FVec Ideal S512x2816 .bf16 :=
  fun i => gated (fun k => H (ix2 (i 0) k)) (fun k => G (ix4 0 0 k (i 1))) (fun k => U (ix4 0 0 k (i 1)))

/-- The scratch read whole, its stored pieces over junk, is the pieces' own array. -/
theorem readCov_whole (v : View sig .tc .vmem S512x2816 .bf16) (L : List (View.Piece (Elt Ideal) S512x2816 .bf16)) :
    v.readCov L (Rect.unit ![0, 0] ![512, 2816] inb_S512x2816_S512x2816_0_0).toLoadRect = View.canon L :=
  (View.readCov_eq_canon' v L _).trans (View.ld_unit_zero (S := S512x2816) (by decide) inb_S512x2816_S512x2816_0_0 (View.canon L))

/-- The last stage may be compared over the hidden rows once the scratch is known to hold them. -/
theorem pay1_of_hidden (x : FVec Ideal S512x1024 .f32) (row : FVec Ideal S512x1024 .f32) (H : FVec Ideal S512x1024 .bf16)
    (G U : FVec Ideal S1x1x1024x2816 .bf16) (A : Vec Ideal S512x2816 .bf16) (hA : A = hidden H G U)
    (w : Vec Ideal S1x1x2816x1024 .bf16) (f : Vec Ideal S1x1024 .f32) (y : S1x512x1024.Idx) (z : EReal)
    (hz : k0_pay1 x (k0_pay18 (hidden H G U) w) row f y = z) :
    k0_pay1 x (k0_pay18 A w) row f y = z := by
  rw [hA]; exact hz

/-- The last stage on a tile whose stream is `Z`, at an index: the finished row. -/
theorem tile_at (Z : FVec Ideal S512x1024 .f32) (g : Vec Ideal S1x1024 .f32) (b s a : Vec Ideal S1x1x1024 .f32)
    (G U : FVec Ideal S1x1x1024x2816 .bf16) (w : Vec Ideal S1x1x2816x1024 .bf16) (f : Vec Ideal S1x1024 .f32) (y : S1x512x1024.Idx) :
    k0_pay1 Z (k0_pay18 (hidden (k0_pay3 Z g b s) G U) w) (k0_pay19 a) f y
      = finish (fun d => Z (ix2 (y 1) d)) (fun d => g (ix2 0 d)) (fun d => s (ix3 0 0 d)) (fun d => b (ix3 0 0 d))
          (fun d => a (ix3 0 0 d)) (fun d => f (ix2 0 d)) (fun n k => G (ix4 0 0 k n)) (fun n k => U (ix4 0 0 k n))
          (fun n d => w (ix4 0 0 n d)) (y 2) := by
  pointwise [k0_pay1, k0_pay3, k0_pay18, k0_pay19, hidden, gated, finish, update, normed, scale]

/-- Equal rows finish equally. -/
theorem finish_congr {z g s b a f z' g' s' b' a' f' : Fin 1024 → EReal} {wg wu wd wg' wu' wd' : Fin 2816 → Fin 1024 → EReal}
    {d d' : Fin 1024} (hz : ∀ d, z d = z' d) (hg : ∀ d, g d = g' d) (hs : ∀ d, s d = s' d) (hb : ∀ d, b d = b' d)
    (ha : ∀ d, a d = a' d) (hf : ∀ d, f d = f' d) (hwg : ∀ n d, wg n d = wg' n d) (hwu : ∀ n d, wu n d = wu' n d)
    (hwd : ∀ n d, wd n d = wd' n d) (hd : d = d') : finish z g s b a f wg wu wd d = finish z' g' s' b' a' f' wg' wu' wd' d' := by
  obtain rfl : z = z' := funext hz
  obtain rfl : g = g' := funext hg
  obtain rfl : s = s' := funext hs
  obtain rfl : b = b' := funext hb
  obtain rfl : a = a' := funext ha
  obtain rfl : f = f' := funext hf
  obtain rfl : wg = wg' := funext fun n => funext (hwg n)
  obtain rfl : wu = wu' := funext fun n => funext (hwu n)
  obtain rfl : wd = wd' := funext fun n => funext (hwd n)
  obtain rfl := hd
  rfl

/-- Where each window's block lies at a grid point. -/
theorem idx : ∀ t : Fin cfg0.N, win0_0.index t = ![(grid0.coords t 0).val, (grid0.coords t 1).val, 0]
    ∧ win0_1.index t = ![(grid0.coords t 0).val, 0, 0] ∧ win0_2.index t = ![0, 0]
    ∧ win0_3.index t = ![3, 1, 0, 0] ∧ win0_4.index t = ![3, 1, 0, 0] ∧ win0_5.index t = ![3, 1, 0, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![3, 0, 0] ∧ win0_10.index t = ![0, 0]
    ∧ win0_11.index t = ![(grid0.coords t 0).val, (grid0.coords t 1).val, 0] :=
  (by decide +kernel : ∀ t : Fin grid0.N, _)

/-- The arguments' closing block. -/
abbrev target (c : Dev nD) : FVec Ideal S8x2048x1024 .f32 :=
  last (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

set_option maxHeartbeats 2000000 in
/-- A grid point leaves its tile of the closing block: eleven stored column chunks make the hidden rows. -/
theorem point (c : Dev nD) (t : Fin cfg0.N) (y : S1x512x1024.Idx) :
    outsAt0 (F := Ideal) m c t y = target m c (((cfg0.win 11).blk t).view.emb y) := by
  rw [outsAt0]; frame_out
  refine pay1_of_hidden _ _ (k0_pay3
        (k0_pay2 (iblk m c 6 t)
          (View.ld (iblk m c 9 t) (Rect.unit ![0, 0, 0] ![1, 256, 1024] inb_S1x1024x1024_S1x256x1024_0_0_0))
          (iblk m c 7 t)
          (View.ld (iblk m c 9 t) (Rect.unit ![0, 256, 0] ![1, 256, 1024] inb_S1x1024x1024_S1x256x1024_0_256_0))
          (iblk m c 8 t)
          (View.ld (iblk m c 9 t) (Rect.unit ![0, 512, 0] ![1, 512, 1024] inb_S1x1024x1024_S1x512x1024_0_512_0))
          (iblk m c 0 t)
          (View.ld (iblk m c 1 t) (Rect.unit ![0, 5, 0] ![1, 1, 1024] inb_S1x9x1024_S1x1x1024_0_5_0)))
        (iblk m c 2 t)
        (View.ld (iblk m c 1 t) (Rect.unit ![0, 6, 0] ![1, 1, 1024] inb_S1x9x1024_S1x1x1024_0_6_0))
        (View.ld (iblk m c 1 t) (Rect.unit ![0, 7, 0] ![1, 1, 1024] inb_S1x9x1024_S1x1x1024_0_7_0))) (iblk m c 3 t) (iblk m c 4 t) _ ?_ _ _ _ _ ?_
  · generalize (k0_pay3
        (k0_pay2 (iblk m c 6 t)
          (View.ld (iblk m c 9 t) (Rect.unit ![0, 0, 0] ![1, 256, 1024] inb_S1x1024x1024_S1x256x1024_0_0_0))
          (iblk m c 7 t)
          (View.ld (iblk m c 9 t) (Rect.unit ![0, 256, 0] ![1, 256, 1024] inb_S1x1024x1024_S1x256x1024_0_256_0))
          (iblk m c 8 t)
          (View.ld (iblk m c 9 t) (Rect.unit ![0, 512, 0] ![1, 512, 1024] inb_S1x1024x1024_S1x512x1024_0_512_0))
          (iblk m c 0 t)
          (View.ld (iblk m c 1 t) (Rect.unit ![0, 5, 0] ![1, 1, 1024] inb_S1x9x1024_S1x1x1024_0_5_0)))
        (iblk m c 2 t)
        (View.ld (iblk m c 1 t) (Rect.unit ![0, 6, 0] ![1, 1, 1024] inb_S1x9x1024_S1x1x1024_0_6_0))
        (View.ld (iblk m c 1 t) (Rect.unit ![0, 7, 0] ![1, 1, 1024] inb_S1x9x1024_S1x1x1024_0_7_0))) = H
    generalize iblk m c 3 t = G
    generalize iblk m c 4 t = U
    rw [readCov_whole]
    funext i
    canon_tiles x h
    all_goals (open_payloads; pointwise [hidden, gated]; blk_point [])
  · refine (tile_at _ _ _ _ _ _ _ _ _ y).trans ?_
    unfold target last
    refine finish_congr (fun d => ?_) (fun d => ?_) (fun d => ?_) (fun d => ?_) (fun d => ?_) (fun d => ?_)
      (fun n d => ?_) (fun n d => ?_) (fun n d => ?_) (Fin.ext (by blk_simp [idx t]))
    · rw [sum_joined]
      pointwise [k0_pay2]
      blk_point [iblk, V, idx t]
    all_goals ((try pointwise); blk_point [iblk, V, idx t])

/-- The kernel's result is the closing block. -/
theorem final (c : Dev nD) : (dats m 0 c).arrAt 11 (cfgs 0).N = target m c := by
  refine (dats m 0 c).arrAt_eq_of_covers 11 _ (by decide +kernel) fun t _ y => ?_
  blk_simp
  rw [after0_11]
  exact point m c t y

end Cert.Ffn2

end

end
-- ==== Proof.Ffn.Claims2.lean ====
/- The claims about the closing feed-forward block: the frames and the two programs' equal results. -/
module

public import proofs.«01_k».proof.Proof.Ffn.Tile2
public import proofs.«01_k».proof.Proof.Gen.Kernel2.Frame
public import proofs.«01_k».proof.Proof.Gen.Reference2Ideal.Run
public import proofs.«01_k».proof.Defs

@[expose] public section

set_option maxRecDepth 16384
set_option maxHeartbeats 400000

noncomputable section

namespace Cert.Ffn2

open Idealize.ShloMosaic Idealize.ShloMosaic.TcCoe Idealize.SL.Sem Cert.Ffn

/-- The reference's array is the closing block. -/
theorem reference_eq (m : (ℓ : Loc Cert.Reference2Ideal.nD Cert.Reference2Ideal.τ Cert.Reference2Ideal.sig) → Buf (Elt Ideal) ℓ)
    (c : Dev Cert.Reference2Ideal.nD) :
    Cert.Reference2Ideal.Value.res_main_v66 (F := Ideal) m c
      = last (m (c.tc.loc Cert.Reference2Ideal.main_arg0)) (m (c.tc.loc Cert.Reference2Ideal.main_arg1))
          (m (c.tc.loc Cert.Reference2Ideal.main_arg2)) (m (c.tc.loc Cert.Reference2Ideal.main_arg3))
          (m (c.tc.loc Cert.Reference2Ideal.main_arg4)) (m (c.tc.loc Cert.Reference2Ideal.main_arg5))
          (m (c.tc.loc Cert.Reference2Ideal.main_arg6)) (m (c.tc.loc Cert.Reference2Ideal.main_arg7))
          (m (c.tc.loc Cert.Reference2Ideal.main_arg8)) (m (c.tc.loc Cert.Reference2Ideal.main_arg9))
          (m (c.tc.loc Cert.Reference2Ideal.main_arg10)) := by
  funext i
  pointwise [Cert.Reference2Ideal.Value.res_main_v66, last, joined, finish, update, normed, scale, gated, Ideal.logistic]

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- The kernel's array and the reference's are the closing block of the shared arguments. -/
theorem algebraic : Cert.algebraic_Kernel2Ideal_Reference2Ideal := by
  intro m ρ m' ρ' _ hagree
  refine ⟨fun c => target m c, (θ_run Cert.Kernel2Ideal.defs _ _).mono (fun _ h c => ⟨(h c).1.trans (final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  obtain ⟨e0, e1, e2, e3, e4, e5, e6, e7, e8, e9, e10⟩ := hagree c
  rw [reference_eq, e0, e1, e2, e3, e4, e5, e6, e7, e8, e9, e10]

end Cert.Ffn2

end

end
-- ==== Proof.Ffn.Tile3.lean ====
/- The leading feed-forward kernel's array: what a grid point's tile holds, and the whole result. -/
module

public import proofs.«01_k».proof.Proof.Gen.Kernel3Ideal.Value
public import proofs.«01_k».proof.Proof.Ffn.Spec
public import Idealize.ShloMosaic.Lib.Claim

@[expose] public section

set_option maxRecDepth 16384
set_option maxHeartbeats 400000

noncomputable section

namespace Cert.Ffn3

open Idealize.ShloMosaic Idealize.ShloMosaic.TcCoe Idealize.ShloMosaic.Tactic Cert.Kernel3Ideal Cert.Kernel3Ideal.Gen Cert.Ffn

variable (m : (ℓ : Loc nD τ sig) → Buf (Elt Ideal) ℓ)

/-- The hidden rows of a tile, over the weights' blocks. -/
def hidden (H : FVec Ideal S512x1024 .bf16) (G U : FVec Ideal S1x1x1024x2816 .bf16) : FVec Ideal S512x2816 .bf16 :=
  fun i => gated (fun k => H (ix2 (i 0) k)) (fun k => G (ix4 0 0 k (i 1))) (fun k => U (ix4 0 0 k (i 1)))

/-- The scratch read whole, its stored pieces over junk, is the pieces' own array. -/
theorem readCov_whole (v : View sig .tc .vmem S512x2816 .bf16) (L : List (View.Piece (Elt Ideal) S512x2816 .bf16)) :
    v.readCov L (Rect.unit ![0, 0] ![512, 2816] inb_S512x2816_S512x2816_0_0).toLoadRect = View.canon L :=
  (View.readCov_eq_canon' v L _).trans (View.ld_unit_zero (S := S512x2816) (by decide) inb_S512x2816_S512x2816_0_0 (View.canon L))

/-- The last stage may be compared over the hidden rows once the scratch is known to hold them. -/
theorem pay1_of_hidden (x : FVec Ideal S512x1024 .f32) (row : FVec Ideal S1x1024 .f32) (H : FVec Ideal S512x1024 .bf16)
    (G U : FVec Ideal S1x1x1024x2816 .bf16) (A : Vec Ideal S512x2816 .bf16) (hA : A = hidden H G U)
    (w : Vec Ideal S1x1x2816x1024 .bf16) (y : S1x512x1024.Idx) (z : EReal) (hz : k0_pay1 x row (hidden H G U) w y = z) :
    k0_pay1 x row A w y = z := by
  rw [hA]; exact hz

/-- Where each window's block lies at a grid point. -/
theorem idx : ∀ t : Fin cfg0.N, win0_0.index t = ![(grid0.coords t 0).val, (grid0.coords t 1).val, 0]
    ∧ win0_1.index t = ![(grid0.coords t 0).val, 0, 0] ∧ win0_2.index t = ![0, 0]
    ∧ win0_3.index t = ![0, 0, 0, 0] ∧ win0_4.index t = ![0, 0, 0, 0] ∧ win0_5.index t = ![0, 0, 0, 0]
    ∧ win0_6.index t = ![(grid0.coords t 0).val, (grid0.coords t 1).val, 0] :=
  (by decide +kernel : ∀ t : Fin grid0.N, _)

/-- The arguments' updated stream. -/
abbrev target (c : Dev nD) : FVec Ideal S8x2048x1024 .f32 :=
  first (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 2000000 in
/-- A grid point leaves its tile of the updated stream: eleven stored column chunks make the hidden rows. -/
theorem point (c : Dev nD) (t : Fin cfg0.N) (y : S1x512x1024.Idx) :
    outsAt0 (F := Ideal) m c t y = target m c (((cfg0.win 6).blk t).view.emb y) := by
  rw [outsAt0]; frame_out
  refine pay1_of_hidden _ _ (k0_pay2 (iblk m c 0 t) (iblk m c 2 t)
        (View.ld (iblk m c 1 t) (Rect.unit ![0, 0, 0] ![1, 1, 1024] inb_S1x9x1024_S1x1x1024_0_0_0))
        (View.ld (iblk m c 1 t) (Rect.unit ![0, 1, 0] ![1, 1, 1024] inb_S1x9x1024_S1x1x1024_0_1_0))) (iblk m c 3 t) (iblk m c 4 t) _ ?_ _ _ _ ?_
  · generalize (k0_pay2 (iblk m c 0 t) (iblk m c 2 t)
        (View.ld (iblk m c 1 t) (Rect.unit ![0, 0, 0] ![1, 1, 1024] inb_S1x9x1024_S1x1x1024_0_0_0))
        (View.ld (iblk m c 1 t) (Rect.unit ![0, 1, 0] ![1, 1, 1024] inb_S1x9x1024_S1x1x1024_0_1_0))) = H
    generalize iblk m c 3 t = G
    generalize iblk m c 4 t = U
    rw [readCov_whole]
    funext i
    canon_tiles x h
    all_goals (open_payloads; pointwise [hidden, gated]; blk_point [])
  · pointwise [k0_pay1, k0_pay2, k0_pay19, k0_pay20, hidden, gated, first, update, normed, scale]
    blk_point [iblk, V, idx t]

/-- The kernel's result is the updated stream. -/
theorem final (c : Dev nD) : (dats m 0 c).arrAt 6 (cfgs 0).N = target m c := by
  refine (dats m 0 c).arrAt_eq_of_covers 6 _ (by decide +kernel) fun t _ y => ?_
  blk_simp
  rw [after0_6]
  exact point m c t y

end Cert.Ffn3

end

end
-- ==== Proof.Ffn.Claims3.lean ====
/- The claims about the leading feed-forward block: the frames and the two programs' equal results. -/
module

public import proofs.«01_k».proof.Proof.Ffn.Tile3
public import proofs.«01_k».proof.Proof.Gen.Kernel3.Frame
public import proofs.«01_k».proof.Proof.Gen.Reference3Ideal.Run
public import proofs.«01_k».proof.Defs

@[expose] public section

set_option maxRecDepth 16384
set_option maxHeartbeats 400000

noncomputable section

namespace Cert.Ffn3

open Idealize.ShloMosaic Idealize.ShloMosaic.TcCoe Idealize.SL.Sem Cert.Ffn

/-- The reference's array is the updated stream. -/
theorem reference_eq (m : (ℓ : Loc Cert.Reference3Ideal.nD Cert.Reference3Ideal.τ Cert.Reference3Ideal.sig) → Buf (Elt Ideal) ℓ)
    (c : Dev Cert.Reference3Ideal.nD) :
    Cert.Reference3Ideal.Value.res_main_v46 (F := Ideal) m c
      = first (m (c.tc.loc Cert.Reference3Ideal.main_arg0)) (m (c.tc.loc Cert.Reference3Ideal.main_arg1))
          (m (c.tc.loc Cert.Reference3Ideal.main_arg2)) (m (c.tc.loc Cert.Reference3Ideal.main_arg3))
          (m (c.tc.loc Cert.Reference3Ideal.main_arg4)) (m (c.tc.loc Cert.Reference3Ideal.main_arg5)) := by
  funext i
  pointwise [Cert.Reference3Ideal.Value.res_main_v46, first, update, normed, scale, gated, Ideal.logistic]

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

/-- The kernel's array and the reference's are one updated stream of the shared arguments. -/
theorem algebraic : Cert.algebraic_Kernel3Ideal_Reference3Ideal := by
  intro m ρ m' ρ' _ hagree
  refine ⟨fun c => target m c, (θ_run Cert.Kernel3Ideal.defs _ _).mono (fun _ h c => ⟨(h c).1.trans (final m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  obtain ⟨e0, e1, e2, e3, e4, e5⟩ := hagree c
  rw [reference_eq, e0, e1, e2, e3, e4, e5]

end Cert.Ffn3

end

end
-- ==== Proof.Ffn.After.lean ====
/- An earlier layer's block after the mixers over the extended reals: the three mixers' rows side by side, projected and
   added to the stream, then the gated feed-forward update. -/
module

public import proofs.«01_k».proof.Proof.Ffn.Mix

@[expose] public section

set_option maxRecDepth 16384

noncomputable section

namespace Cert.Ffn

open Idealize.ShloMosaic

/-- The updated row from a stream's row `z`. -/
def advance (z g s b a : Fin 1024 → EReal) (wg wu wd : Fin 2816 → Fin 1024 → EReal) (d : Fin 1024) : EReal :=
  update (z d) (a d) (normed z g s b) wg wu (fun n => wd n d)

/-- Equal rows advance equally. -/
theorem advance_congr {z g s b a z' g' s' b' a' : Fin 1024 → EReal} {wg wu wd wg' wu' wd' : Fin 2816 → Fin 1024 → EReal}
    {d d' : Fin 1024} (hz : ∀ d, z d = z' d) (hg : ∀ d, g d = g' d) (hs : ∀ d, s d = s' d) (hb : ∀ d, b d = b' d)
    (ha : ∀ d, a d = a' d) (hwg : ∀ n d, wg n d = wg' n d) (hwu : ∀ n d, wu n d = wu' n d)
    (hwd : ∀ n d, wd n d = wd' n d) (hd : d = d') : advance z g s b a wg wu wd d = advance z' g' s' b' a' wg' wu' wd' d' := by
  obtain rfl : z = z' := funext hz
  obtain rfl : g = g' := funext hg
  obtain rfl : s = s' := funext hs
  obtain rfl : b = b' := funext hb
  obtain rfl : a = a' := funext ha
  obtain rfl : wg = wg' := funext fun n => funext (hwg n)
  obtain rfl : wu = wu' := funext fun n => funext (hwu n)
  obtain rfl : wd = wd' := funext fun n => funext (hwd n)
  obtain rfl := hd
  rfl

/-- The first layer's block after the mixers over whole arrays: the stream `X`, the nine modulation rows side by side in
    `M` (row 5 gates the mixers, rows 6, 7 and 8 are the shift, the scale and the gate), the gains `N`, the weights, the
    three mixers' results `A`, `B` and `C`, and their projection `P`. -/
def after (X : FVec Ideal ⟨3, ![8, 2048, 1024]⟩ .f32) (M : FVec Ideal ⟨2, ![8, 9216]⟩ .f32) (N : FVec Ideal ⟨3, ![4, 3, 1024]⟩ .f32)
    (Wg Wu : FVec Ideal ⟨4, ![4, 2, 1024, 2816]⟩ .f32) (Wd : FVec Ideal ⟨4, ![4, 2, 2816, 1024]⟩ .f32)
    (A B : FVec Ideal ⟨3, ![8, 2048, 256]⟩ .f32) (C : FVec Ideal ⟨3, ![8, 2048, 512]⟩ .f32)
    (P : FVec Ideal ⟨3, ![4, 1024, 1024]⟩ .f32) : FVec Ideal ⟨3, ![8, 2048, 1024]⟩ .f32 :=
  fun i => advance
    (fun d => X (ix3 (i 0) (i 1) d) + M (ix2 (i 0) ⟨5120 + (d : ℕ), by omega⟩)
      * ∑ k, joined (fun k => A (ix3 (i 0) (i 1) k)) (fun k => B (ix3 (i 0) (i 1) k)) (fun k => C (ix3 (i 0) (i 1) k)) k
          * P (ix3 0 k d))
    (fun d => N (ix3 0 2 d)) (fun d => M (ix2 (i 0) ⟨7168 + (d : ℕ), by omega⟩)) (fun d => M (ix2 (i 0) ⟨6144 + (d : ℕ), by omega⟩))
    (fun d => M (ix2 (i 0) ⟨8192 + (d : ℕ), by omega⟩))
    (fun n k => Wg (ix4 0 1 k n)) (fun n k => Wu (ix4 0 1 k n)) (fun n d => Wd (ix4 0 1 n d)) (i 2)

end Cert.Ffn

end

end
-- ==== Proof.Ffn.Tile5.lean ====
/- The feed-forward kernel's array after the mixers, without the final norm: what a grid point's tile holds, and the whole result. -/
module

public import proofs.«01_k».proof.Proof.Gen.Kernel5Ideal.Value
public import proofs.«01_k».proof.Proof.Ffn.After
public import Idealize.ShloMosaic.Lib.Claim

@[expose] public section

set_option maxRecDepth 16384
set_option maxHeartbeats 400000

noncomputable section

namespace Cert.Ffn5

open Idealize.ShloMosaic Idealize.ShloMosaic.TcCoe Idealize.ShloMosaic.Tactic Cert.Kernel5Ideal Cert.Kernel5Ideal.Gen Cert.Ffn

variable (m : (ℓ : Loc nD τ sig) → Buf (Elt Ideal) ℓ)

/-- The hidden rows of a tile, over the weights' blocks. -/
def hidden (H : FVec Ideal S512x1024 .bf16) (G U : FVec Ideal S1x1x1024x2816 .bf16) : FVec Ideal S512x2816 .bf16 :=
  fun i => gated (fun k => H (ix2 (i 0) k)) (fun k => G (ix4 0 0 k (i 1))) (fun k => U (ix4 0 0 k (i 1)))

/-- The scratch read whole, its stored pieces over junk, is the pieces' own array. -/
theorem readCov_whole (v : View sig .tc .vmem S512x2816 .bf16) (L : List (View.Piece (Elt Ideal) S512x2816 .bf16)) :
    v.readCov L (Rect.unit ![0, 0] ![512, 2816] inb_S512x2816_S512x2816_0_0).toLoadRect = View.canon L :=
  (View.readCov_eq_canon' v L _).trans (View.ld_unit_zero (S := S512x2816) (by decide) inb_S512x2816_S512x2816_0_0 (View.canon L))

/-- The last stage may be compared over the hidden rows once the scratch is known to hold them. -/
theorem pay1_of_hidden (x : FVec Ideal S512x1024 .f32) (row : FVec Ideal S512x1024 .f32) (H : FVec Ideal S512x1024 .bf16)
    (G U : FVec Ideal S1x1x1024x2816 .bf16) (A : Vec Ideal S512x2816 .bf16) (hA : A = hidden H G U)
    (w : Vec Ideal S1x1x2816x1024 .bf16) (y : S1x512x1024.Idx) (z : EReal)
    (hz : k0_pay1 x (k0_pay18 (hidden H G U) w) row y = z) :
    k0_pay1 x (k0_pay18 A w) row y = z := by
  rw [hA]; exact hz

/-- The last stage on a tile whose stream is `Z`, at an index: the updated row. -/
theorem tile_at (Z : FVec Ideal S512x1024 .f32) (g : Vec Ideal S1x1024 .f32) (b s a : Vec Ideal S1x1x1024 .f32)
    (G U : FVec Ideal S1x1x1024x2816 .bf16) (w : Vec Ideal S1x1x2816x1024 .bf16) (y : S1x512x1024.Idx) :
    k0_pay1 Z (k0_pay18 (hidden (k0_pay3 Z g b s) G U) w) (k0_pay19 a) y
      = advance (fun d => Z (ix2 (y 1) d)) (fun d => g (ix2 0 d)) (fun d => s (ix3 0 0 d)) (fun d => b (ix3 0 0 d))
          (fun d => a (ix3 0 0 d)) (fun n k => G (ix4 0 0 k n)) (fun n k => U (ix4 0 0 k n))
          (fun n d => w (ix4 0 0 n d)) (y 2) := by
  pointwise [k0_pay1, k0_pay3, k0_pay18, k0_pay19, hidden, gated, advance, update, normed, scale]

/-- Where each window's block lies at a grid point. -/
theorem idx : ∀ t : Fin cfg0.N, win0_0.index t = ![(grid0.coords t 0).val, (grid0.coords t 1).val, 0]
    ∧ win0_1.index t = ![(grid0.coords t 0).val, 0, 0] ∧ win0_2.index t = ![0, 0]
    ∧ win0_3.index t = ![0, 1, 0, 0] ∧ win0_4.index t = ![0, 1, 0, 0] ∧ win0_5.index t = ![0, 1, 0, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![0, 0, 0]
    ∧ win0_10.index t = ![(grid0.coords t 0).val, (grid0.coords t 1).val, 0] :=
  (by decide +kernel : ∀ t : Fin grid0.N, _)

/-- The arguments' block after the mixers. -/
abbrev target (c : Dev nD) : FVec Ideal S8x2048x1024 .f32 :=
  after (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

set_option maxHeartbeats 2000000 in
/-- A grid point leaves its tile of the block after the mixers: eleven stored column chunks make the hidden rows. -/
theorem point (c : Dev nD) (t : Fin cfg0.N) (y : S1x512x1024.Idx) :
    outsAt0 (F := Ideal) m c t y = target m c (((cfg0.win 10).blk t).view.emb y) := by
  rw [outsAt0]; frame_out
  refine pay1_of_hidden _ _ (k0_pay3
        (k0_pay2 (iblk m c 6 t)
          (View.ld (iblk m c 9 t) (Rect.unit ![0, 0, 0] ![1, 256, 1024] inb_S1x1024x1024_S1x256x1024_0_0_0))
          (iblk m c 7 t)
          (View.ld (iblk m c 9 t) (Rect.unit ![0, 256, 0] ![1, 256, 1024] inb_S1x1024x1024_S1x256x1024_0_256_0))
          (iblk m c 8 t)
          (View.ld (iblk m c 9 t) (Rect.unit ![0, 512, 0] ![1, 512, 1024] inb_S1x1024x1024_S1x512x1024_0_512_0))
          (iblk m c 0 t)
          (View.ld (iblk m c 1 t) (Rect.unit ![0, 5, 0] ![1, 1, 1024] inb_S1x9x1024_S1x1x1024_0_5_0)))
        (iblk m c 2 t)
        (View.ld (iblk m c 1 t) (Rect.unit ![0, 6, 0] ![1, 1, 1024] inb_S1x9x1024_S1x1x1024_0_6_0))
        (View.ld (iblk m c 1 t) (Rect.unit ![0, 7, 0] ![1, 1, 1024] inb_S1x9x1024_S1x1x1024_0_7_0))) (iblk m c 3 t) (iblk m c 4 t) _ ?_ _ _ _ ?_
  · generalize (k0_pay3
        (k0_pay2 (iblk m c 6 t)
          (View.ld (iblk m c 9 t) (Rect.unit ![0, 0, 0] ![1, 256, 1024] inb_S1x1024x1024_S1x256x1024_0_0_0))
          (iblk m c 7 t)
          (View.ld (iblk m c 9 t) (Rect.unit ![0, 256, 0] ![1, 256, 1024] inb_S1x1024x1024_S1x256x1024_0_256_0))
          (iblk m c 8 t)
          (View.ld (iblk m c 9 t) (Rect.unit ![0, 512, 0] ![1, 512, 1024] inb_S1x1024x1024_S1x512x1024_0_512_0))
          (iblk m c 0 t)
          (View.ld (iblk m c 1 t) (Rect.unit ![0, 5, 0] ![1, 1, 1024] inb_S1x9x1024_S1x1x1024_0_5_0)))
        (iblk m c 2 t)
        (View.ld (iblk m c 1 t) (Rect.unit ![0, 6, 0] ![1, 1, 1024] inb_S1x9x1024_S1x1x1024_0_6_0))
        (View.ld (iblk m c 1 t) (Rect.unit ![0, 7, 0] ![1, 1, 1024] inb_S1x9x1024_S1x1x1024_0_7_0))) = H
    generalize iblk m c 3 t = G
    generalize iblk m c 4 t = U
    rw [readCov_whole]
    funext i
    canon_tiles x h
    all_goals (open_payloads; pointwise [hidden, gated]; blk_point [])
  · refine (tile_at _ _ _ _ _ _ _ _ y).trans ?_
    unfold target after
    refine advance_congr (fun d => ?_) (fun d => ?_) (fun d => ?_) (fun d => ?_) (fun d => ?_)
      (fun n d => ?_) (fun n d => ?_) (fun n d => ?_) (Fin.ext (by blk_simp [idx t]))
    · rw [sum_joined]
      pointwise [k0_pay2]
      blk_point [iblk, V, idx t]
    all_goals ((try pointwise); blk_point [iblk, V, idx t])

/-- The kernel's result is the block after the mixers. -/
theorem final (c : Dev nD) : (dats m 0 c).arrAt 10 (cfgs 0).N = target m c := by
  refine (dats m 0 c).arrAt_eq_of_covers 10 _ (by decide +kernel) fun t _ y => ?_
  blk_simp
  rw [after0_10]
  exact point m c t y

end Cert.Ffn5

end

end
-- ==== Proof.Ffn.Claims5.lean ====
/- The claims about the feed-forward block after the mixers, without the final norm: the frames and the two programs' equal results. -/
module

public import proofs.«01_k».proof.Proof.Ffn.Tile5
public import proofs.«01_k».proof.Proof.Gen.Kernel5.Frame
public import proofs.«01_k».proof.Proof.Gen.Reference5Ideal.Run
public import proofs.«01_k».proof.Defs

@[expose] public section

set_option maxRecDepth 16384
set_option maxHeartbeats 400000

noncomputable section

namespace Cert.Ffn5

open Idealize.ShloMosaic Idealize.ShloMosaic.TcCoe Idealize.SL.Sem Cert.Ffn

/-- The reference's array is the block after the mixers. -/
theorem reference_eq (m : (ℓ : Loc Cert.Reference5Ideal.nD Cert.Reference5Ideal.τ Cert.Reference5Ideal.sig) → Buf (Elt Ideal) ℓ)
    (c : Dev Cert.Reference5Ideal.nD) :
    Cert.Reference5Ideal.Value.res_main_v53 (F := Ideal) m c
      = after (m (c.tc.loc Cert.Reference5Ideal.main_arg0)) (m (c.tc.loc Cert.Reference5Ideal.main_arg1))
          (m (c.tc.loc Cert.Reference5Ideal.main_arg2)) (m (c.tc.loc Cert.Reference5Ideal.main_arg3))
          (m (c.tc.loc Cert.Reference5Ideal.main_arg4)) (m (c.tc.loc Cert.Reference5Ideal.main_arg5))
          (m (c.tc.loc Cert.Reference5Ideal.main_arg6)) (m (c.tc.loc Cert.Reference5Ideal.main_arg7))
          (m (c.tc.loc Cert.Reference5Ideal.main_arg8)) (m (c.tc.loc Cert.Reference5Ideal.main_arg9)) := by
  funext i
  pointwise [Cert.Reference5Ideal.Value.res_main_v53, after, joined, advance, update, normed, scale, gated, Ideal.logistic]

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- The kernel's array and the reference's are the block after the mixers of the shared arguments. -/
theorem algebraic : Cert.algebraic_Kernel5Ideal_Reference5Ideal := by
  intro m ρ m' ρ' _ hagree
  refine ⟨fun c => target m c, (θ_run Cert.Kernel5Ideal.defs _ _).mono (fun _ h c => ⟨(h c).1.trans (final m c), (h c).2⟩)
    (Cert.Kernel5Ideal.Value.run_blocks (F := Ideal) m ρ), ?_⟩
  refine (θ_run Cert.Reference5Ideal.defs _ _).mono (fun _ h c => ⟨(h c).1.trans ?_, (h c).2⟩)
    (Cert.Reference5Ideal.Value.run (F := Ideal) m' ρ')
  obtain ⟨e0, e1, e2, e3, e4, e5, e6, e7, e8, e9⟩ := hagree c
  rw [reference_eq, e0, e1, e2, e3, e4, e5, e6, e7, e8, e9]

end Cert.Ffn5

end

end
-- ==== Proof.Ada.Rows.lean ====
/- The modulation's rows of all the layers over the extended reals, the kernel's array of them, and the claims about the
   two programs that make them. -/
module

public import proofs.«01_k».proof.Proof.Gen.Kernel4Ideal.Value
public import proofs.«01_k».proof.Proof.Gen.Kernel4.Frame
public import proofs.«01_k».proof.Proof.Gen.Reference4Ideal.Run
public import proofs.«01_k».proof.Defs
public import Idealize.ShloMosaic.Lib.Pipeline.ValueKit
public import Idealize.ShloMosaic.Lib.Claim

@[expose] public section

set_option maxRecDepth 16384
set_option maxHeartbeats 400000

noncomputable section

namespace Cert.Ada

open Idealize.ShloMosaic Idealize.ShloMosaic.TcCoe Idealize.SL.Sem Idealize.ShloMosaic.Tactic

/-- Layer `l`'s row of batch `b`: the condition times its logistic, projected, plus the bias. -/
def rows (C : FVec Ideal ⟨2, ![8, 1024]⟩ .f32) (W : FVec Ideal ⟨3, ![4, 1024, 9216]⟩ .f32) (B : FVec Ideal ⟨2, ![4, 9216]⟩ .f32) :
    FVec Ideal ⟨3, ![4, 8, 9216]⟩ .f32 :=
  fun i => (∑ k : Fin 1024, C (ix2 (i 1) k) * Ideal.logistic (C (ix2 (i 1) k)) * W (ix3 (i 0) k (i 2))) + B (ix2 (i 0) (i 2))

section Kernel

open Cert.Kernel4Ideal Cert.Kernel4Ideal.Gen

variable (m : (ℓ : Loc nD τ sig) → Buf (Elt Ideal) ℓ)

/-- Where each window's block lies at a grid point. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- The rows of the arguments. -/
abbrev target (c : Dev nD) : FVec Ideal S4x8x9216 .f32 :=
  rows (m ((c : Thread nD τ).loc main_arg0)) (m ((c : Thread nD τ).loc main_arg1)) (m ((c : Thread nD τ).loc main_arg2))

/-- A grid point leaves its columns of one layer's rows. -/
theorem point (c : Dev nD) (t : Fin cfg0.N) (y : S1x8x1152.Idx) :
    out0_3 (F := Ideal) (iblk m c 0 t) (iblk m c 1 t) (iblk m c 2 t) y = target m c (((cfg0.win 3).blk t).view.emb y) := by
  rw [out0_3]
  canon_tiles x h
  pointwise [k0_pay1, rows]
  blk_point [iblk, V, idx t]

/-- The kernel's result holds every layer's rows. -/
theorem final (c : Dev nD) : (dats m 0 c).arrAt 3 (cfgs 0).N = target m c := by
  refine (dats m 0 c).arrAt_eq_of_covers 3 _ (by decide +kernel) fun t _ y => ?_
  blk_simp
  rw [after0_3]
  exact point m c t y

end Kernel

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- The reference's array holds every layer's rows. -/
theorem reference_eq (C : FVec Ideal ⟨2, ![8, 1024]⟩ .f32) (W : FVec Ideal ⟨3, ![4, 1024, 9216]⟩ .f32)
    (B : FVec Ideal ⟨2, ![4, 9216]⟩ .f32) :
    addf (transpose Cert.Reference4Ideal.S4x8x9216 [0, 2, 1]
          (Host.dotGeneral (F := Ideal) Cert.Reference4Ideal.dot_S4x1024x9216_S8x1024_S4x9216x8_1_1_02_0_n_n none W
            (mulf C (Host.divf
              (broadcastInDim Cert.Reference4Ideal.S8x1024 ![] Cert.Reference4Ideal.Gen.bcast_S_S8x1024
                (constant Cert.Reference4Ideal.S_ .f32 0x3F800000#32))
              (addf
                (broadcastInDim Cert.Reference4Ideal.S8x1024 ![] Cert.Reference4Ideal.Gen.bcast_S_S8x1024
                  (constant Cert.Reference4Ideal.S_ .f32 0x3F800000#32))
                (Host.exp (Host.negf C))))))
          Cert.Reference4Ideal.Gen.transposes_S4x9216x8_S4x8x9216_0_2_1)
        (broadcastInDim Cert.Reference4Ideal.S4x8x9216 ![0, 1, 2] Cert.Reference4Ideal.Gen.bcast_S4x1x9216_S4x8x9216_0_1_2
          (broadcastInDim Cert.Reference4Ideal.S4x1x9216 ![0, 2] Cert.Reference4Ideal.Gen.bcast_S4x9216_S4x1x9216_0_2 B))
      = rows C W B := by
  funext i
  pointwise [rows, Ideal.logistic]
  refine congrArg₂ (· + ·) (Finset.sum_congr rfl fun k _ => mul_comm _ _) rfl

/-- The kernel's array and the reference's are the same rows of the shared arguments. -/
theorem algebraic : Cert.algebraic_Kernel4Ideal_Reference4Ideal := by
  intro m ρ m' ρ' _ hagree
  refine ⟨fun c => target m c, (θ_run Cert.Kernel4Ideal.defs _ _).mono (fun _ h c => ⟨(h c).1.trans (final m c), (h c).2⟩)
    (Cert.Kernel4Ideal.Value.run_blocks (F := Ideal) m ρ), ?_⟩
  refine (θ_run Cert.Reference4Ideal.defs _ _).mono (fun _ h c => ⟨(h c).1.trans ?_, (h c).2⟩)
    (Cert.Reference4Ideal.Value.run (F := Ideal) m' ρ')
  obtain ⟨e0, e1, e2⟩ := hagree c
  rw [e0, e1, e2]
  exact reference_eq _ _ _

end Cert.Ada

end

end
-- ==== Proof.lean ====
module

public import proofs.«01_k».proof.Defs
public import proofs.«01_k».proof.Proof.Attn.Claims
public import proofs.«01_k».proof.Proof.Ffn.Claims2
public import proofs.«01_k».proof.Proof.Ffn.Claims3
public import proofs.«01_k».proof.Proof.Ffn.Claims5
public import proofs.«01_k».proof.Proof.Ada.Rows
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    AttnClaims.frame_p, AttnClaims.frame_pi, AttnClaims.frame_pi_finite, AttnClaims.frame_ri, AttnClaims.frame_ri_finite,
    Ffn2.frame_p, Ffn2.frame_pi, Ffn2.frame_ri, Ffn3.frame_p, Ffn3.frame_pi, Ffn3.frame_ri,
    Ada.frame_p, Ada.frame_pi, Ada.frame_ri, Ffn5.frame_p, Ffn5.frame_pi, Ffn5.frame_ri,
    AttnClaims.preserves, AttnClaims.algebraic, Ffn2.preserves, Ffn2.algebraic, Ffn3.preserves, Ffn3.algebraic,
    Ada.preserves, Ada.algebraic, Ffn5.preserves, Ffn5.algebraic⟩

end Cert.Proof

end
